-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_v25) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S2x4096x4096 : Shape := ⟨3, ![2, 4096, 4096]⟩
abbrev S2x4096x32 : Shape := ⟨3, ![2, 4096, 32]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S2x4096x32 : S_.BroadcastsInDim S2x4096x32 (![] : Fin 0 → Fin S2x4096x32.rank)
  reducesTo_S2x4096x32_S_d0_1_2 : S2x4096x32.ReducesTo [0, 1, 2] S_

variable [Facts]

def fn {F : FTy → Type} [FloatOps F] (main_arg0 : FVec F S2x4096x4096 .f32) (main_arg1 : FVec F S2x4096x4096 .f32) (main_arg2 : FVec F S2x4096x4096 .f32) (main_arg3 : FVec F S2x4096x32 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S2x4096x4096 .f32 := Host.absf main_arg1
  let main_cst_0 : FVec F S_ .f32 := constant S_ .f32 0x7F800000#32
  let main_v5 : FVec F S2x4096x4096 .f32 := broadcastInDim S2x4096x4096 ![] bcast_S_S2x4096x4096 main_cst_0
  let main_v6 : IVec S2x4096x4096 1 := cmpf .olt main_v4 main_v5
  let main_c_1 : IVec S_ 1 := constantI S_ 1 1#1
  let main_v7 : IVec S_ 1 := (fun x v => Host.reduce IntOp.andi x v reducesTo_S2x4096x4096_S_d0_1_2 h_S_) main_v6 main_c_1
  let main_v8 : IVec S_ 1 := andi main_v3 main_v7
  let main_v9 : FVec F S2x4096x32 .f32 := Host.absf main_arg3
  let main_cst_2 : FVec F S_ .f32 := constant S_ .f32 0x7F800000#32
  let main_v10 : FVec F S2x4096x32 .f32 := broadcastInDim S2x4096x32 ![] bcast_S_S2x4096x32 main_cst_2
  let main_v11 : IVec S2x4096x32 1 := cmpf .olt main_v9 main_v10
  let main_c_3 : IVec S_ 1 := constantI S_ 1 1#1
  let main_v12 : IVec S_ 1 := (fun x v => Host.reduce IntOp.andi x v reducesTo_S2x4096x32_S_d0_1_2 h_S_) main_v11 main_c_3
  let main_v13 : IVec S_ 1 := andi main_v8 main_v12
  main_v13
-- ==== Pre_finite2.lean ====
abbrev S2x4096x4096 : Shape := ⟨3, ![2, 4096, 4096]⟩
abbrev S2x24576 : Shape := ⟨2, ![2, 24576]⟩
abbrev S2x4096x12320 : Shape := ⟨3, ![2, 4096, 12320]⟩
abbrev S_ : Shape := ⟨0, ![]⟩
abbrev S2x8192 : Shape := ⟨2, ![2, 8192]⟩
abbrev S1x4096x32 : Shape := ⟨3, ![1, 4096, 32]⟩
abbrev S4096x32 : Shape := ⟨2, ![4096, 32]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  slices_S2x24576_S2x8192_0_0 : S2x24576.Slices ![0, 0] S2x8192
  bcast_S_S2x8192 : S_.BroadcastsInDim S2x8192 (![] : Fin 0 → Fin S2x8192.rank)
  reducesTo_S2x8192_S_d0_1 : S2x8192.ReducesTo [0, 1] S_
  slices_S2x4096x12320_S1x4096x32_0_0_12288 : S2x4096x12320.Slices ![0, 0, 12288] S1x4096x32
  shapeCasts_S1x4096x32_S4096x32 : S1x4096x32.ShapeCasts S4096x32
  bcast_S_S4096x32 : S_.BroadcastsInDim S4096x32 (![] : Fin 0 → Fin S4096x32.rank)
  reducesTo_S4096x32_S_d0_1 : S4096x32.ReducesTo [0, 1] S_

variable [Facts]

def fn {F : FTy → Type} [FloatOps F] (main_arg0 : FVec F S2x4096x4096 .f32) (main_arg1 : FVec F S2x24576 .f32) (main_arg2 : FVec F S2x4096x12320 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S2x8192 .f32 := (extractStridedSlice S2x8192 ![0, 0] · slices_S2x24576_S2x8192_0_0) main_arg1
  let main_v5 : FVec F S2x8192 .f32 := Host.absf main_v4
  let main_cst_0 : FVec F S_ .f32 := constant S_ .f32 0x7F800000#32
  let main_v6 : FVec F S2x8192 .f32 := broadcastInDim S2x8192 ![] bcast_S_S2x8192 main_cst_0
  let main_v7 : IVec S2x8192 1 := cmpf .olt main_v5 main_v6
  let main_c_1 : IVec S_ 1 := constantI S_ 1 1#1
  let main_v8 : IVec S_ 1 := (fun x v => Host.reduce IntOp.andi x v reducesTo_S2x8192_S_d0_1 h_S_) main_v7 main_c_1
  let main_v9 : IVec S_ 1 := andi main_v3 main_v8
  let main_v10 : FVec F S1x4096x32 .f32 := (extractStridedSlice S1x4096x32 ![0, 0, 12288] · slices_S2x4096x12320_S1x4096x32_0_0_12288) main_arg2
  let main_v11 : FVec F S4096x32 .f32 := shapeCast S4096x32 main_v10 shapeCasts_S1x4096x32_S4096x32
  let main_v12 : FVec F S4096x32 .f32 := Host.absf main_v11
  let main_cst_2 : FVec F S_ .f32 := constant S_ .f32 0x7F800000#32
  let main_v13 : FVec F S4096x32 .f32 := broadcastInDim S4096x32 ![] bcast_S_S4096x32 main_cst_2
  let main_v14 : IVec S4096x32 1 := cmpf .olt main_v12 main_v13
  let main_c_3 : IVec S_ 1 := constantI S_ 1 1#1
  let main_v15 : IVec S_ 1 := (fun x v => Host.reduce IntOp.andi x v reducesTo_S4096x32_S_d0_1 h_S_) main_v14 main_c_3
  let main_v16 : IVec S_ 1 := andi main_v9 main_v15
  main_v16
-- ==== Kernel.lean ====
abbrev S2x4096x4096 : Shape := ⟨3, ![2, 4096, 4096]⟩
abbrev S2x4096x32 : Shape := ⟨3, ![2, 4096, 32]⟩
abbrev S_ : Shape := ⟨0, ![]⟩
abbrev S2x4096x12288 : Shape := ⟨3, ![2, 4096, 12288]⟩
abbrev S2x4096x128 : Shape := ⟨3, ![2, 4096, 128]⟩
abbrev S2x32x4096 : Shape := ⟨3, ![2, 32, 4096]⟩
abbrev S2x32x1x4096 : Shape := ⟨4, ![2, 32, 1, 4096]⟩
abbrev S1x1024x128 : Shape := ⟨3, ![1, 1024, 128]⟩
abbrev S1x4096x128 : Shape := ⟨3, ![1, 4096, 128]⟩
abbrev S1x1x1x4096 : Shape := ⟨4, ![1, 1, 1, 4096]⟩
abbrev S1024x128 : Shape := ⟨2, ![1024, 128]⟩
abbrev S1024 : Shape := ⟨1, ![1024]⟩
abbrev S1024x1 : Shape := ⟨2, ![1024, 1]⟩
abbrev S1x1x1x1024 : Shape := ⟨4, ![1, 1, 1, 1024]⟩
abbrev S1x1024 : Shape := ⟨2, ![1, 1024]⟩
abbrev S1024x1024 : Shape := ⟨2, ![1024, 1024]⟩
abbrev S1x128 : Shape := ⟨2, ![1, 128]⟩

abbrev nBuf : Space → Nat
  | .hbm => 18
  | .vmem => 16
  | .smem => 0
  | _ => 0

abbrev bufTy : (tb : Table) → Fin (tcTables nBuf tb) → BufTy
  | .hbm, ⟨0, _⟩ => ⟨S2x4096x4096, .f32⟩
  | .hbm, ⟨1, _⟩ => ⟨S2x4096x4096, .f32⟩
  | .hbm, ⟨2, _⟩ => ⟨S2x4096x4096, .f32⟩
  | .hbm, ⟨3, _⟩ => ⟨S2x4096x32, .f32⟩
  | .hbm, ⟨4, _⟩ => ⟨S_, .f32⟩
  | .hbm, ⟨5, _⟩ => ⟨S2x4096x4096, .f32⟩
  | .hbm, ⟨6, _⟩ => ⟨S2x4096x4096, .f32⟩
  | .hbm, ⟨7, _⟩ => ⟨S2x4096x4096, .bf16⟩
  | .hbm, ⟨8, _⟩ => ⟨S2x4096x4096, .bf16⟩
  | .hbm, ⟨9, _⟩ => ⟨S2x4096x4096, .bf16⟩
  | .hbm, ⟨10, _⟩ => ⟨S2x4096x12288, .bf16⟩
  | .hbm, ⟨11, _⟩ => ⟨S_, .i32⟩
  | .hbm, ⟨12, _⟩ => ⟨S_, .f32⟩
  | .hbm, ⟨13, _⟩ => ⟨S2x4096x128, .f32⟩
  | .hbm, ⟨14, _⟩ => ⟨S2x4096x32, .f32⟩
  | .hbm, ⟨15, _⟩ => ⟨S2x32x4096, .f32⟩
  | .hbm, ⟨16, _⟩ => ⟨S2x32x1x4096, .f32⟩
  | .hbm, ⟨17, _⟩ => ⟨S2x4096x4096, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x1024x128, .f32⟩
  | .local _ .vmem, ⟨7, _⟩ => ⟨S1x1024x128, .f32⟩
  | .local _ .vmem, ⟨8, _⟩ => ⟨S1x1x1x4096, .f32⟩
  | .local _ .vmem, ⟨9, _⟩ => ⟨S1x1x1x4096, .f32⟩
  | .local _ .vmem, ⟨10, _⟩ => ⟨S1x1024x128, .bf16⟩
  | .local _ .vmem, ⟨11, _⟩ => ⟨S1x1024x128, .bf16⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 32, 4], ![false, false, false]⟩

@[reducible] def k0_t1_loop (i : grid0.Coords) : Scf.Loop 32 :=
  let c0_i32_18 : BitVec 32 := 0#32
  let arg2 : BitVec 32 := BitVec.ofNat 32 (i 2).val
  let v36 : BitVec 32 := Scalar.subi arg2 c0_i32_18
  let c1_i32_19 : BitVec 32 := 1#32
  let v38 : BitVec 32 := Scalar.divsi v36 c1_i32_19
  let v39 : BitVec 32 := Scalar.muli v38 c1_i32_19
  let v40 : BitVec 32 := Scalar.addi c0_i32_18 v39
  let c1_i32_20 : BitVec 32 := 1#32
  ⟨c0_i32_18, v40, c1_i32_20⟩
def k0_mult1 (i : grid0.Coords) (k0_t1 : Fin (k0_t1_loop i).trips) : BitVec 32 :=
  let c0_i32_18 : BitVec 32 := 0#32
  let c1_i32_20 : BitVec 32 := 1#32
  let arg13 : BitVec 32 := Scf.iv c0_i32_18 c1_i32_20 k0_t1
  let c1024_i32_67 : BitVec 32 := 1024#32
  let v218 : BitVec 32 := Scalar.muli arg13 c1024_i32_67
  v218
def k0_off1 (i : grid0.Coords) (k0_t1 : Fin (k0_t1_loop i).trips) : Fin 3 → Nat :=
  let c0_68 : Index := 0#32
  let c0_i32_18 : BitVec 32 := 0#32
  let c1_i32_20 : BitVec 32 := 1#32
  let arg13 : BitVec 32 := Scf.iv c0_i32_18 c1_i32_20 k0_t1
  let c1024_i32_67 : BitVec 32 := 1024#32
  let v218 : BitVec 32 := Scalar.muli arg13 c1024_i32_67
  let v219 : BitVec 32 := v218
  let v220 : Index := Scalar.indexCast v219
  let c0_69 : Index := 0#32
  ![0, v220.toNat, 0]
def k0_off2 (i : grid0.Coords) (k0_t1 : Fin (k0_t1_loop i).trips) : Fin 4 → Nat :=
  let c0_72 : Index := 0#32
  let c0_73 : Index := 0#32
  let c0_74 : Index := 0#32
  let c0_i32_18 : BitVec 32 := 0#32
  let c1_i32_20 : BitVec 32 := 1#32
  let arg13 : BitVec 32 := Scf.iv c0_i32_18 c1_i32_20 k0_t1
  let c1024_i32_67 : BitVec 32 := 1024#32
  let v218 : BitVec 32 := Scalar.muli arg13 c1024_i32_67
  let v219 : BitVec 32 := v218
  let v226 : Index := Scalar.indexCast v219
  ![0, 0, 0, v226.toNat]
@[reducible] def k0_t2_loop (i : grid0.Coords) : Scf.Loop 32 :=
  let c0_i32_18 : BitVec 32 := 0#32
  let arg2 : BitVec 32 := BitVec.ofNat 32 (i 2).val
  let v36 : BitVec 32 := Scalar.subi arg2 c0_i32_18
  let c1_i32_19 : BitVec 32 := 1#32
  let v38 : BitVec 32 := Scalar.divsi v36 c1_i32_19
  let v39 : BitVec 32 := Scalar.muli v38 c1_i32_19
  let v40 : BitVec 32 := Scalar.addi c0_i32_18 v39
  let v37 : BitVec 32 := Scalar.addi c0_i32_18 v36
  let c1_i32_21 : BitVec 32 := 1#32
  ⟨v40, v37, c1_i32_21⟩
def k0_mult2 (i : grid0.Coords) (k0_t2 : Fin (k0_t2_loop i).trips) : BitVec 32 :=
  let c0_i32_18 : BitVec 32 := 0#32
  let arg2 : BitVec 32 := BitVec.ofNat 32 (i 2).val
  let v36 : BitVec 32 := Scalar.subi arg2 c0_i32_18
  let c1_i32_19 : BitVec 32 := 1#32
  let v38 : BitVec 32 := Scalar.divsi v36 c1_i32_19
  let v39 : BitVec 32 := Scalar.muli v38 c1_i32_19
  let v40 : BitVec 32 := Scalar.addi c0_i32_18 v39
  let c1_i32_21 : BitVec 32 := 1#32
  let arg13 : BitVec 32 := Scf.iv v40 c1_i32_21 k0_t2
  let c1024_i32_67 : BitVec 32 := 1024#32
  let v218 : BitVec 32 := Scalar.muli arg13 c1024_i32_67
  v218
def k0_off3 (i : grid0.Coords) (k0_t2 : Fin (k0_t2_loop i).trips) : Fin 3 → Nat :=
  let c0_68 : Index := 0#32
  let c0_i32_18 : BitVec 32 := 0#32
  let arg2 : BitVec 32 := BitVec.ofNat 32 (i 2).val
  let v36 : BitVec 32 := Scalar.subi arg2 c0_i32_18
  let c1_i32_19 : BitVec 32 := 1#32
  let v38 : BitVec 32 := Scalar.divsi v36 c1_i32_19
  let v39 : BitVec 32 := Scalar.muli v38 c1_i32_19
  let v40 : BitVec 32 := Scalar.addi c0_i32_18 v39
  let c1_i32_21 : BitVec 32 := 1#32
  let arg13 : BitVec 32 := Scf.iv v40 c1_i32_21 k0_t2
  let c1024_i32_67 : BitVec 32 := 1024#32
  let v218 : BitVec 32 := Scalar.muli arg13 c1024_i32_67
  let v219 : BitVec 32 := v218
  let v220 : Index := Scalar.indexCast v219
  let c0_69 : Index := 0#32
  ![0, v220.toNat, 0]
def k0_off4 (i : grid0.Coords) (k0_t2 : Fin (k0_t2_loop i).trips) : Fin 4 → Nat :=
  let c0_72 : Index := 0#32
  let c0_73 : Index := 0#32
  let c0_74 : Index := 0#32
  let c0_i32_18 : BitVec 32 := 0#32
  let arg2 : BitVec 32 := BitVec.ofNat 32 (i 2).val
  let v36 : BitVec 32 := Scalar.subi arg2 c0_i32_18
  let c1_i32_19 : BitVec 32 := 1#32
  let v38 : BitVec 32 := Scalar.divsi v36 c1_i32_19
  let v39 : BitVec 32 := Scalar.muli v38 c1_i32_19
  let v40 : BitVec 32 := Scalar.addi c0_i32_18 v39
  let c1_i32_21 : BitVec 32 := 1#32
  let arg13 : BitVec 32 := Scf.iv v40 c1_i32_21 k0_t2
  let c1024_i32_67 : BitVec 32 := 1024#32
  let v218 : BitVec 32 := Scalar.muli arg13 c1024_i32_67
  let v219 : BitVec 32 := v218
  let v226 : Index := Scalar.indexCast v219
  ![0, 0, 0, v226.toNat]
def k0_mult3 (i : grid0.Coords) : BitVec 32 :=
  let arg2 : BitVec 32 := BitVec.ofNat 32 (i 2).val
  let c1024_i32 : BitVec 32 := 1024#32
  let v41 : BitVec 32 := Scalar.muli arg2 c1024_i32
  v41
def k0_off5 (i : grid0.Coords) : Fin 3 → Nat :=
  let c0_22 : Index := 0#32
  let arg2 : BitVec 32 := BitVec.ofNat 32 (i 2).val
  let c1024_i32 : BitVec 32 := 1024#32
  let v41 : BitVec 32 := Scalar.muli arg2 c1024_i32
  let v42 : BitVec 32 := v41
  let v43 : Index := Scalar.indexCast v42
  let c0_23 : Index := 0#32
  ![0, v43.toNat, 0]
def k0_off6 (i : grid0.Coords) : Fin 4 → Nat :=
  let c0_26 : Index := 0#32
  let c0_27 : Index := 0#32
  let c0_28 : Index := 0#32
  let arg2 : BitVec 32 := BitVec.ofNat 32 (i 2).val
  let c1024_i32 : BitVec 32 := 1024#32
  let v41 : BitVec 32 := Scalar.muli arg2 c1024_i32
  let v42 : BitVec 32 := v41
  let v49 : Index := Scalar.indexCast v42
  ![0, 0, 0, v49.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.divsi arg1 c128_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c128_i32 c0_i32_1
  let v7 : BitVec 32 := Scalar.extui v6
  let c0_i32_2 : BitVec 32 := 0#32
  let v8 : BitVec 1 := Scalar.cmpi .slt c128_i32 c0_i32_2
  let v9 : BitVec 32 := Scalar.extui v8
  let v10 : BitVec 32 := Scalar.subi v7 v9
  let v11 : BitVec 1 := Scalar.cmpi .ne v5 v10
  let v12 : BitVec 32 := Scalar.remsi arg1 c128_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, arg2.toNat, v16.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S2x4096x4096 : Shape := ⟨3, ![2, 4096, 4096]⟩
abbrev S2x4096x32 : Shape := ⟨3, ![2, 4096, 32]⟩
abbrev S2x4096x32x128 : Shape := ⟨4, ![2, 4096, 32, 128]⟩
abbrev S2x32x4096 : Shape := ⟨3, ![2, 32, 4096]⟩
abbrev S4096 : Shape := ⟨1, ![4096]⟩
abbrev S2x32x4096x4096 : Shape := ⟨4, ![2, 32, 4096, 4096]⟩
abbrev S_ : Shape := ⟨0, ![]⟩
abbrev S2x32x4096x1 : Shape := ⟨4, ![2, 32, 4096, 1]⟩
abbrev S2x32x1x4096 : Shape := ⟨4, ![2, 32, 1, 4096]⟩
abbrev S1x4096 : Shape := ⟨2, ![1, 4096]⟩
abbrev S4096x1 : Shape := ⟨2, ![4096, 1]⟩
abbrev S4096x4096 : Shape := ⟨2, ![4096, 4096]⟩
abbrev S2x32x128x4096 : Shape := ⟨4, ![2, 32, 128, 4096]⟩

abbrev nBuf : Space → Nat
  | .hbm => 47
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096x4096, .f32⟩
  | .hbm, ⟨2, _⟩ => ⟨S2x4096x4096, .f32⟩
  | .hbm, ⟨3, _⟩ => ⟨S2x4096x32, .f32⟩
  | .hbm, ⟨4, _⟩ => ⟨S2x4096x32x128, .f32⟩
  | .hbm, ⟨5, _⟩ => ⟨S2x4096x32x128, .f32⟩
  | .hbm, ⟨6, _⟩ => ⟨S2x4096x32x128, .f32⟩
  | .hbm, ⟨7, _⟩ => ⟨S2x32x4096, .f32⟩
  | .hbm, ⟨8, _⟩ => ⟨S4096, .i32⟩
  | .hbm, ⟨9, _⟩ => ⟨S2x32x4096x4096, .f32⟩
  | .hbm, ⟨10, _⟩ => ⟨S_, .f32⟩
  | .hbm, ⟨11, _⟩ => ⟨S2x32x4096x4096, .f32⟩
  | .hbm, ⟨12, _⟩ => ⟨S2x32x4096x4096, .f32⟩
  | .hbm, ⟨13, _⟩ => ⟨S2x32x4096x1, .f32⟩
  | .hbm, ⟨14, _⟩ => ⟨S2x32x1x4096, .f32⟩
  | .hbm, ⟨15, _⟩ => ⟨S2x32x4096x4096, .f32⟩
  | .hbm, ⟨16, _⟩ => ⟨S2x32x4096x4096, .f32⟩
  | .hbm, ⟨17, _⟩ => ⟨S2x32x4096x4096, .f32⟩
  | .hbm, ⟨18, _⟩ => ⟨S2x32x4096x4096, .f32⟩
  | .hbm, ⟨19, _⟩ => ⟨S1x4096, .i32⟩
  | .hbm, ⟨20, _⟩ => ⟨S4096x1, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S_, .f32⟩
  | .hbm, ⟨25, _⟩ => ⟨S_, .f32⟩
  | .hbm, ⟨26, _⟩ => ⟨S2x32x4096x4096, .i1⟩
  | .hbm, ⟨27, _⟩ => ⟨S2x32x4096x4096, .f32⟩
  | .hbm, ⟨28, _⟩ => ⟨S2x32x4096x4096, .f32⟩
  | .hbm, ⟨29, _⟩ => ⟨S_, .f32⟩
  | .hbm, ⟨30, _⟩ => ⟨S2x32x4096, .f32⟩
  | .hbm, ⟨31, _⟩ => ⟨S_, .f32⟩
  | .hbm, ⟨32, _⟩ => ⟨S2x32x4096, .f32⟩
  | .hbm, ⟨33, _⟩ => ⟨S2x32x4096, .f32⟩
  | .hbm, ⟨34, _⟩ => ⟨S2x32x4096x1, .f32⟩
  | .hbm, ⟨35, _⟩ => ⟨S2x32x4096x4096, .f32⟩
  | .hbm, ⟨36, _⟩ => ⟨S2x32x4096x4096, .f32⟩
  | .hbm, ⟨37, _⟩ => ⟨S2x32x4096x4096, .f32⟩
  | .hbm, ⟨38, _⟩ => ⟨S_, .f32⟩
  | .hbm, ⟨39, _⟩ => ⟨S2x32x4096, .f32⟩
  | .hbm, ⟨40, _⟩ => ⟨S2x32x4096x1, .f32⟩
  | .hbm, ⟨41, _⟩ => ⟨S2x32x4096x4096, .f32⟩
  | .hbm, ⟨42, _⟩ => ⟨S2x32x4096x4096, .f32⟩
  | .hbm, ⟨43, _⟩ => ⟨S2x32x128x4096, .f32⟩
  | .hbm, ⟨44, _⟩ => ⟨S2x4096x32x128, .f32⟩
  | .hbm, ⟨45, _⟩ => ⟨S2x4096x4096, .f32⟩
  | .hbm, ⟨46, _⟩ => ⟨S2x4096x4096, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel2.lean ====
abbrev S2x4096x4096 : Shape := ⟨3, ![2, 4096, 4096]⟩
abbrev S2x24576 : Shape := ⟨2, ![2, 24576]⟩
abbrev S2x4096x12320 : Shape := ⟨3, ![2, 4096, 12320]⟩
abbrev S2x12320x4096 : Shape := ⟨3, ![2, 12320, 4096]⟩
abbrev S2x12288x4096 : Shape := ⟨3, ![2, 12288, 4096]⟩
abbrev S8192x4096 : Shape := ⟨2, ![8192, 4096]⟩
abbrev S2x6x4096 : Shape := ⟨3, ![2, 6, 4096]⟩
abbrev S8192x12288 : Shape := ⟨2, ![8192, 12288]⟩
abbrev S8192x128 : Shape := ⟨2, ![8192, 128]⟩
abbrev S512x4096 : Shape := ⟨2, ![512, 4096]⟩
abbrev S1x6x4096 : Shape := ⟨3, ![1, 6, 4096]⟩
abbrev S1x1024x4096 : Shape := ⟨3, ![1, 1024, 4096]⟩
abbrev S1x128x4096 : Shape := ⟨3, ![1, 128, 4096]⟩
abbrev S512x1024 : Shape := ⟨2, ![512, 1024]⟩
abbrev S512x128 : Shape := ⟨2, ![512, 128]⟩
abbrev S6x4096 : Shape := ⟨2, ![6, 4096]⟩
abbrev S1x4096 : Shape := ⟨2, ![1, 4096]⟩
abbrev S128x4096 : Shape := ⟨2, ![128, 4096]⟩
abbrev S1024x4096 : Shape := ⟨2, ![1024, 4096]⟩

abbrev nBuf : Space → Nat
  | .hbm => 10
  | .vmem => 12
  | .smem => 0
  | _ => 0

abbrev bufTy : (tb : Table) → Fin (tcTables nBuf tb) → BufTy
  | .hbm, ⟨0, _⟩ => ⟨S2x4096x4096, .f32⟩
  | .hbm, ⟨1, _⟩ => ⟨S2x24576, .f32⟩
  | .hbm, ⟨2, _⟩ => ⟨S2x4096x12320, .f32⟩
  | .hbm, ⟨3, _⟩ => ⟨S2x12320x4096, .f32⟩
  | .hbm, ⟨4, _⟩ => ⟨S2x12288x4096, .f32⟩
  | .hbm, ⟨5, _⟩ => ⟨S2x12288x4096, .bf16⟩
  | .hbm, ⟨6, _⟩ => ⟨S8192x4096, .f32⟩
  | .hbm, ⟨7, _⟩ => ⟨S2x6x4096, .f32⟩
  | .hbm, ⟨8, _⟩ => ⟨S8192x12288, .bf16⟩
  | .hbm, ⟨9, _⟩ => ⟨S8192x128, .f32⟩
  | .local _ .vmem, ⟨0, _⟩ => ⟨S512x4096, .f32⟩
  | .local _ .vmem, ⟨1, _⟩ => ⟨S512x4096, .f32⟩
  | .local _ .vmem, ⟨2, _⟩ => ⟨S1x6x4096, .f32⟩
  | .local _ .vmem, ⟨3, _⟩ => ⟨S1x6x4096, .f32⟩
  | .local _ .vmem, ⟨4, _⟩ => ⟨S1x1024x4096, .bf16⟩
  | .local _ .vmem, ⟨5, _⟩ => ⟨S1x1024x4096, .bf16⟩
  | .local _ .vmem, ⟨6, _⟩ => ⟨S1x128x4096, .f32⟩
  | .local _ .vmem, ⟨7, _⟩ => ⟨S512x1024, .bf16⟩
  | .local _ .vmem, ⟨8, _⟩ => ⟨S512x1024, .bf16⟩
  | .local _ .vmem, ⟨9, _⟩ => ⟨S512x128, .f32⟩
  | .local _ .vmem, ⟨10, _⟩ => ⟨S512x128, .f32⟩
  | .local _ .vmem, ⟨11, _⟩ => ⟨S512x4096, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c96_i32 : BitVec 32 := 96#32
  let c0_i32_0 : BitVec 32 := 0#32
  let c0_i32_1 : BitVec 32 := 0#32
  ![c0_i32.toNat, c96_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S2x4096x4096 : Shape := ⟨3, ![2, 4096, 4096]⟩
abbrev S2x24576 : Shape := ⟨2, ![2, 24576]⟩
abbrev S2x4096x12320 : Shape := ⟨3, ![2, 4096, 12320]⟩
abbrev S2x1x24576 : Shape := ⟨3, ![2, 1, 24576]⟩
abbrev S2x1x4096 : Shape := ⟨3, ![2, 1, 4096]⟩
abbrev S_ : Shape := ⟨0, ![]⟩
abbrev S1x4096x12320 : Shape := ⟨3, ![1, 4096, 12320]⟩
abbrev S4096x12320 : Shape := ⟨2, ![4096, 12320]⟩
abbrev S2x4096x8192 : Shape := ⟨3, ![2, 4096, 8192]⟩
abbrev S2x4096x12288 : Shape := ⟨3, ![2, 4096, 12288]⟩
abbrev S8192x12288 : Shape := ⟨2, ![8192, 12288]⟩
abbrev S2x4096x32 : Shape := ⟨3, ![2, 4096, 32]⟩
abbrev S8192x32 : Shape := ⟨2, ![8192, 32]⟩
abbrev S8192x128 : Shape := ⟨2, ![8192, 128]⟩

abbrev nBuf : Space → Nat
  | .hbm => 33
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x24576, .f32⟩
  | .hbm, ⟨2, _⟩ => ⟨S2x4096x12320, .f32⟩
  | .hbm, ⟨3, _⟩ => ⟨S2x1x24576, .f32⟩
  | .hbm, ⟨4, _⟩ => ⟨S2x1x4096, .f32⟩
  | .hbm, ⟨5, _⟩ => ⟨S2x1x4096, .f32⟩
  | .hbm, ⟨6, _⟩ => ⟨S2x1x4096, .f32⟩
  | .hbm, ⟨7, _⟩ => ⟨S2x1x4096, .f32⟩
  | .hbm, ⟨8, _⟩ => ⟨S2x1x4096, .f32⟩
  | .hbm, ⟨9, _⟩ => ⟨S2x1x4096, .f32⟩
  | .hbm, ⟨10, _⟩ => ⟨S_, .f32⟩
  | .hbm, ⟨11, _⟩ => ⟨S2x1x4096, .f32⟩
  | .hbm, ⟨12, _⟩ => ⟨S2x1x4096, .f32⟩
  | .hbm, ⟨13, _⟩ => ⟨S2x4096x4096, .f32⟩
  | .hbm, ⟨14, _⟩ => ⟨S2x4096x4096, .f32⟩
  | .hbm, ⟨15, _⟩ => ⟨S2x4096x4096, .f32⟩
  | .hbm, ⟨16, _⟩ => ⟨S2x4096x4096, .f32⟩
  | .hbm, ⟨17, _⟩ => ⟨S1x4096x12320, .f32⟩
  | .hbm, ⟨18, _⟩ => ⟨S4096x12320, .f32⟩
  | .hbm, ⟨19, _⟩ => ⟨S2x4096x12320, .f32⟩
  | .hbm, ⟨20, _⟩ => ⟨S2x4096x4096, .f32⟩
  | .hbm, ⟨21, _⟩ => ⟨S_, .f32⟩
  | .hbm, ⟨22, _⟩ => ⟨S2x4096x4096, .f32⟩
  | .hbm, ⟨23, _⟩ => ⟨S2x4096x4096, .f32⟩
  | .hbm, ⟨24, _⟩ => ⟨S2x4096x8192, .f32⟩
  | .hbm, ⟨25, _⟩ => ⟨S2x4096x12288, .f32⟩
  | .hbm, ⟨26, _⟩ => ⟨S8192x12288, .f32⟩
  | .hbm, ⟨27, _⟩ => ⟨S2x4096x32, .f32⟩
  | .hbm, ⟨28, _⟩ => ⟨S8192x32, .f32⟩
  | .hbm, ⟨29, _⟩ => ⟨S8192x12288, .bf16⟩
  | .hbm, ⟨30, _⟩ => ⟨S_, .i32⟩
  | .hbm, ⟨31, _⟩ => ⟨S_, .f32⟩
  | .hbm, ⟨32, _⟩ => ⟨S8192x128, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_c : Ref sig .tc := ⟨.hbm, 30, rfl⟩
abbrev main_call0_v0 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Kernel3.lean ====
abbrev S2x4096x4096 : Shape := ⟨3, ![2, 4096, 4096]⟩
abbrev S2x24576 : Shape := ⟨2, ![2, 24576]⟩
abbrev S4096 : Shape := ⟨1, ![4096]⟩
abbrev S8192x4096 : Shape := ⟨2, ![8192, 4096]⟩
abbrev S2x6x4096 : Shape := ⟨3, ![2, 6, 4096]⟩
abbrev S1x4096 : Shape := ⟨2, ![1, 4096]⟩
abbrev S512x4096 : Shape := ⟨2, ![512, 4096]⟩
abbrev S1x4096x1024 : Shape := ⟨3, ![1, 4096, 1024]⟩
abbrev S1x6x4096 : Shape := ⟨3, ![1, 6, 4096]⟩
abbrev S4096x1024 : Shape := ⟨2, ![4096, 1024]⟩
abbrev S512x1024 : Shape := ⟨2, ![512, 1024]⟩
abbrev S6x4096 : Shape := ⟨2, ![6, 4096]⟩
abbrev S64x4096 : Shape := ⟨2, ![64, 4096]⟩
abbrev S64 : Shape := ⟨1, ![64]⟩
abbrev S64x1 : Shape := ⟨2, ![64, 1]⟩

abbrev nBuf : Space → Nat
  | .hbm => 14
  | .vmem => 11
  | .smem => 0
  | _ => 0

abbrev bufTy : (tb : Table) → Fin (tcTables nBuf tb) → BufTy
  | .hbm, ⟨0, _⟩ => ⟨S2x4096x4096, .f32⟩
  | .hbm, ⟨1, _⟩ => ⟨S2x4096x4096, .f32⟩
  | .hbm, ⟨2, _⟩ => ⟨S2x4096x4096, .f32⟩
  | .hbm, ⟨3, _⟩ => ⟨S2x24576, .f32⟩
  | .hbm, ⟨4, _⟩ => ⟨S4096, .f32⟩
  | .hbm, ⟨5, _⟩ => ⟨S4096, .f32⟩
  | .hbm, ⟨6, _⟩ => ⟨S2x4096x4096, .bf16⟩
  | .hbm, ⟨7, _⟩ => ⟨S8192x4096, .bf16⟩
  | .hbm, ⟨8, _⟩ => ⟨S2x4096x4096, .bf16⟩
  | .hbm, ⟨9, _⟩ => ⟨S8192x4096, .f32⟩
  | .hbm, ⟨10, _⟩ => ⟨S2x6x4096, .f32⟩
  | .hbm, ⟨11, _⟩ => ⟨S1x4096, .f32⟩
  | .hbm, ⟨12, _⟩ => ⟨S1x4096, .f32⟩
  | .hbm, ⟨13, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S512x4096, .f32⟩
  | .local _ .vmem, ⟨5, _⟩ => ⟨S512x4096, .f32⟩
  | .local _ .vmem, ⟨6, _⟩ => ⟨S1x6x4096, .f32⟩
  | .local _ .vmem, ⟨7, _⟩ => ⟨S1x6x4096, .f32⟩
  | .local _ .vmem, ⟨8, _⟩ => ⟨S1x4096, .f32⟩
  | .local _ .vmem, ⟨9, _⟩ => ⟨S1x4096, .f32⟩
  | .local _ .vmem, ⟨10, _⟩ => ⟨S512x4096, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c1024_i32 : BitVec 32 := 1024#32
  let v5 : BitVec 32 := Scalar.muli arg1 c1024_i32
  v5
def k0_off1 (i : grid0.Coords) : Fin 2 → Nat :=
  let c0_4 : Index := 0#32
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  ![0, v7.toNat]
def k0_cond1 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32 : BitVec 32 := 0#32
  let v11 : BitVec 1 := Scalar.cmpi .ne v10 c0_i32
  v11

@[reducible] def k0_t1_loop : Scf.Loop 32 :=
  let c0_i32_13 : BitVec 32 := 0#32
  let c8_i32 : BitVec 32 := 8#32
  let v21 : BitVec 32 := Scalar.addi c0_i32_13 c8_i32
  let c1_i32 : BitVec 32 := 1#32
  ⟨c0_i32_13, v21, c1_i32⟩
def k0_mult2 (k0_t1 : Fin k0_t1_loop.trips) : BitVec 32 :=
  let c0_i32_13 : BitVec 32 := 0#32
  let c1_i32 : BitVec 32 := 1#32
  let arg9 : BitVec 32 := Scf.iv c0_i32_13 c1_i32 k0_t1
  let c64_i32 : BitVec 32 := 64#32
  let v22 : BitVec 32 := Scalar.muli arg9 c64_i32
  v22
def k0_off2 (k0_t1 : Fin k0_t1_loop.trips) : Fin 2 → Nat :=
  let c0_i32_13 : BitVec 32 := 0#32
  let c1_i32 : BitVec 32 := 1#32
  let arg9 : BitVec 32 := Scf.iv c0_i32_13 c1_i32 k0_t1
  let c64_i32 : BitVec 32 := 64#32
  let v22 : BitVec 32 := Scalar.muli arg9 c64_i32
  let v23 : BitVec 32 := v22
  let v24 : Index := Scalar.indexCast v23
  let c0_15 : Index := 0#32
  ![v24.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x6x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference3Ideal.lean ====
abbrev S2x4096x4096 : Shape := ⟨3, ![2, 4096, 4096]⟩
abbrev S2x24576 : Shape := ⟨2, ![2, 24576]⟩
abbrev S4096 : Shape := ⟨1, ![4096]⟩
abbrev S2x1x24576 : Shape := ⟨3, ![2, 1, 24576]⟩
abbrev S2x1x4096 : Shape := ⟨3, ![2, 1, 4096]⟩
abbrev S1x4096x4096 : Shape := ⟨3, ![1, 4096, 4096]⟩
abbrev S4096x4096 : Shape := ⟨2, ![4096, 4096]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩
abbrev S8192x4096 : Shape := ⟨2, ![8192, 4096]⟩

abbrev nBuf : Space → Nat
  | .hbm => 53
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096x4096, .f32⟩
  | .hbm, ⟨2, _⟩ => ⟨S2x4096x4096, .f32⟩
  | .hbm, ⟨3, _⟩ => ⟨S2x24576, .f32⟩
  | .hbm, ⟨4, _⟩ => ⟨S4096, .f32⟩
  | .hbm, ⟨5, _⟩ => ⟨S4096, .f32⟩
  | .hbm, ⟨6, _⟩ => ⟨S2x1x24576, .f32⟩
  | .hbm, ⟨7, _⟩ => ⟨S2x1x4096, .f32⟩
  | .hbm, ⟨8, _⟩ => ⟨S2x1x4096, .f32⟩
  | .hbm, ⟨9, _⟩ => ⟨S2x1x4096, .f32⟩
  | .hbm, ⟨10, _⟩ => ⟨S2x1x4096, .f32⟩
  | .hbm, ⟨11, _⟩ => ⟨S2x1x4096, .f32⟩
  | .hbm, ⟨12, _⟩ => ⟨S2x1x4096, .f32⟩
  | .hbm, ⟨13, _⟩ => ⟨S1x4096x4096, .f32⟩
  | .hbm, ⟨14, _⟩ => ⟨S4096x4096, .f32⟩
  | .hbm, ⟨15, _⟩ => ⟨S2x4096x4096, .f32⟩
  | .hbm, ⟨16, _⟩ => ⟨S_, .f32⟩
  | .hbm, ⟨17, _⟩ => ⟨S2x4096x4096, .f32⟩
  | .hbm, ⟨18, _⟩ => ⟨S2x4096x4096, .f32⟩
  | .hbm, ⟨19, _⟩ => ⟨S_, .f32⟩
  | .hbm, ⟨20, _⟩ => ⟨S2x1x4096, .f32⟩
  | .hbm, ⟨21, _⟩ => ⟨S2x1x4096, .f32⟩
  | .hbm, ⟨22, _⟩ => ⟨S2x4096x4096, .f32⟩
  | .hbm, ⟨23, _⟩ => ⟨S2x4096x4096, .f32⟩
  | .hbm, ⟨24, _⟩ => ⟨S2x4096x4096, .f32⟩
  | .hbm, ⟨25, _⟩ => ⟨S_, .f32⟩
  | .hbm, ⟨26, _⟩ => ⟨S2x4096, .f32⟩
  | .hbm, ⟨27, _⟩ => ⟨S2x4096x1, .f32⟩
  | .hbm, ⟨28, _⟩ => ⟨S_, .f32⟩
  | .hbm, ⟨29, _⟩ => ⟨S2x4096x1, .f32⟩
  | .hbm, ⟨30, _⟩ => ⟨S2x4096x1, .f32⟩
  | .hbm, ⟨31, _⟩ => ⟨S2x4096x4096, .f32⟩
  | .hbm, ⟨32, _⟩ => ⟨S2x4096x4096, .f32⟩
  | .hbm, ⟨33, _⟩ => ⟨S2x4096x4096, .f32⟩
  | .hbm, ⟨34, _⟩ => ⟨S_, .f32⟩
  | .hbm, ⟨35, _⟩ => ⟨S2x4096, .f32⟩
  | .hbm, ⟨36, _⟩ => ⟨S2x4096x1, .f32⟩
  | .hbm, ⟨37, _⟩ => ⟨S_, .f32⟩
  | .hbm, ⟨38, _⟩ => ⟨S2x4096x1, .f32⟩
  | .hbm, ⟨39, _⟩ => ⟨S2x4096x1, .f32⟩
  | .hbm, ⟨40, _⟩ => ⟨S_, .f32⟩
  | .hbm, ⟨41, _⟩ => ⟨S2x4096x1, .f32⟩
  | .hbm, ⟨42, _⟩ => ⟨S2x4096x1, .f32⟩
  | .hbm, ⟨43, _⟩ => ⟨S2x4096x1, .f32⟩
  | .hbm, ⟨44, _⟩ => ⟨S2x4096x4096, .f32⟩
  | .hbm, ⟨45, _⟩ => ⟨S2x4096x4096, .f32⟩
  | .hbm, ⟨46, _⟩ => ⟨S1x1x4096, .f32⟩
  | .hbm, ⟨47, _⟩ => ⟨S2x4096x4096, .f32⟩
  | .hbm, ⟨48, _⟩ => ⟨S2x4096x4096, .f32⟩
  | .hbm, ⟨49, _⟩ => ⟨S1x1x4096, .f32⟩
  | .hbm, ⟨50, _⟩ => ⟨S2x4096x4096, .f32⟩
  | .hbm, ⟨51, _⟩ => ⟨S2x4096x4096, .f32⟩
  | .hbm, ⟨52, _⟩ => ⟨S8192x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel4.lean ====
abbrev S2x4096x128 : Shape := ⟨3, ![2, 4096, 128]⟩
abbrev S2x32 : Shape := ⟨2, ![2, 32]⟩
abbrev S_ : Shape := ⟨0, ![]⟩
abbrev S2x128 : Shape := ⟨2, ![2, 128]⟩
abbrev S1x128 : Shape := ⟨2, ![1, 128]⟩
abbrev S128 : Shape := ⟨1, ![128]⟩
abbrev S1x4096x128 : Shape := ⟨3, ![1, 4096, 128]⟩
abbrev S256x256 : Shape := ⟨2, ![256, 256]⟩
abbrev S1x256x128 : Shape := ⟨3, ![1, 256, 128]⟩
abbrev S256x128 : Shape := ⟨2, ![256, 128]⟩

abbrev nBuf : Space → Nat
  | .hbm => 9
  | .vmem => 5
  | .smem => 0
  | _ => 0

abbrev bufTy : (tb : Table) → Fin (tcTables nBuf tb) → BufTy
  | .hbm, ⟨0, _⟩ => ⟨S2x4096x128, .f32⟩
  | .hbm, ⟨1, _⟩ => ⟨S2x32, .f32⟩
  | .hbm, ⟨2, _⟩ => ⟨S_, .i32⟩
  | .hbm, ⟨3, _⟩ => ⟨S_, .f32⟩
  | .hbm, ⟨4, _⟩ => ⟨S2x128, .f32⟩
  | .hbm, ⟨5, _⟩ => ⟨S1x128, .f32⟩
  | .hbm, ⟨6, _⟩ => ⟨S128, .f32⟩
  | .hbm, ⟨7, _⟩ => ⟨S1x128, .f32⟩
  | .hbm, ⟨8, _⟩ => ⟨S2x4096x128, .f32⟩
  | .local _ .vmem, ⟨0, _⟩ => ⟨S1x4096x128, .f32⟩
  | .local _ .vmem, ⟨1, _⟩ => ⟨S1x4096x128, .f32⟩
  | .local _ .vmem, ⟨2, _⟩ => ⟨S1x128, .f32⟩
  | .local _ .vmem, ⟨3, _⟩ => ⟨S1x4096x128, .f32⟩
  | .local _ .vmem, ⟨4, _⟩ => ⟨S1x4096x128, .f32⟩
  | _, _ => ⟨S2x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S2x4096x128 : Shape := ⟨3, ![2, 4096, 128]⟩
abbrev S2x32 : Shape := ⟨2, ![2, 32]⟩
abbrev S_ : Shape := ⟨0, ![]⟩
abbrev S2x128 : Shape := ⟨2, ![2, 128]⟩
abbrev S1x128 : Shape := ⟨2, ![1, 128]⟩
abbrev S128 : Shape := ⟨1, ![128]⟩
abbrev S1x1x128 : Shape := ⟨3, ![1, 1, 128]⟩

abbrev nBuf : Space → Nat
  | .hbm => 29
  | .vmem => 0
  | .smem => 0
  | _ => 0

abbrev bufTy : (tb : Table) → Fin (tcTables nBuf tb) → BufTy
  | .hbm, ⟨0, _⟩ => ⟨S2x4096x128, .f32⟩
  | .hbm, ⟨1, _⟩ => ⟨S2x32, .f32⟩
  | .hbm, ⟨2, _⟩ => ⟨S_, .i32⟩
  | .hbm, ⟨3, _⟩ => ⟨S_, .f32⟩
  | .hbm, ⟨4, _⟩ => ⟨S2x128, .f32⟩
  | .hbm, ⟨5, _⟩ => ⟨S1x128, .f32⟩
  | .hbm, ⟨6, _⟩ => ⟨S128, .f32⟩
  | .hbm, ⟨7, _⟩ => ⟨S1x1x128, .f32⟩
  | .hbm, ⟨8, _⟩ => ⟨S2x4096x128, .f32⟩
  | .hbm, ⟨9, _⟩ => ⟨S2x4096x128, .f32⟩
  | .hbm, ⟨10, _⟩ => ⟨S2x4096x128, .f32⟩
  | .hbm, ⟨11, _⟩ => ⟨S_, .f32⟩
  | .hbm, ⟨12, _⟩ => ⟨S2x4096x128, .f32⟩
  | .hbm, ⟨13, _⟩ => ⟨S2x4096x128, .f32⟩
  | .hbm, ⟨14, _⟩ => ⟨S2x4096x128, .f32⟩
  | .hbm, ⟨15, _⟩ => ⟨S2x4096x128, .f32⟩
  | .hbm, ⟨16, _⟩ => ⟨S2x4096x128, .i1⟩
  | .hbm, ⟨17, _⟩ => ⟨S2x4096x128, .f32⟩
  | .hbm, ⟨18, _⟩ => ⟨S2x4096x128, .f32⟩
  | .hbm, ⟨19, _⟩ => ⟨S2x4096x128, .f32⟩
  | .hbm, ⟨20, _⟩ => ⟨S2x4096x128, .f32⟩
  | .hbm, ⟨21, _⟩ => ⟨S2x4096x128, .f32⟩
  | .hbm, ⟨22, _⟩ => ⟨S2x4096x128, .f32⟩
  | .hbm, ⟨23, _⟩ => ⟨S2x4096x128, .f32⟩
  | .hbm, ⟨24, _⟩ => ⟨S2x4096x128, .f32⟩
  | .hbm, ⟨25, _⟩ => ⟨S2x4096x128, .f32⟩
  | .hbm, ⟨26, _⟩ => ⟨S_, .f32⟩
  | .hbm, ⟨27, _⟩ => ⟨S_, .f32⟩
  | .hbm, ⟨28, _⟩ => ⟨S2x4096x128, .f32⟩
  | _, _ => ⟨S2x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call1_v0 : Ref sig .tc := ⟨.hbm, 10, rfl⟩
abbrev main_call1_call0_cst : Ref sig .tc := ⟨.hbm, 11, rfl⟩
abbrev main_call1_call0_v0 : Ref sig .tc := ⟨.hbm, 12, rfl⟩
abbrev main_call1_call0_v1 : Ref sig .tc := ⟨.hbm, 13, rfl⟩
abbrev main_call1_call0_v2 : Ref sig .tc := ⟨.hbm, 14, rfl⟩
abbrev main_call1_call0_v3 : Ref sig .tc := ⟨.hbm, 15, rfl⟩
abbrev main_call1_call0_v4 : Ref sig .tc := ⟨.hbm, 16, rfl⟩
abbrev main_call1_call0_v5 : Ref sig .tc := ⟨.hbm, 17, rfl⟩
abbrev main_call1_call0_v6 : Ref sig .tc := ⟨.hbm, 18, rfl⟩
abbrev main_call1_call0_v7 : Ref sig .tc := ⟨.hbm, 19, rfl⟩
abbrev main_call1_call0_v8 : Ref sig .tc := ⟨.hbm, 20, rfl⟩
abbrev main_call1_call0_v9 : Ref sig .tc := ⟨.hbm, 21, rfl⟩
abbrev main_call1_call0_v10 : Ref sig .tc := ⟨.hbm, 22, rfl⟩
abbrev main_call1_call0_v11 : Ref sig .tc := ⟨.hbm, 23, rfl⟩
abbrev main_call1_v1 : Ref sig .tc := ⟨.hbm, 24, rfl⟩
abbrev main_v6 : Ref sig .tc := ⟨.hbm, 25, rfl⟩
abbrev main_call2_call0_cst : Ref sig .tc := ⟨.hbm, 26, rfl⟩
abbrev main_call2_call0_v0 : Ref sig .tc := ⟨.hbm, 27, rfl⟩
abbrev main_v7 : Ref sig .tc := ⟨.hbm, 28, rfl⟩

abbrev nD : Nat := 1
abbrev τ : Topo := Topo.v7x

variable {F : FTy → Type} [FloatOps F]
-- ==== Proof.FiniteFacts.lean ====
/-
  The side conditions of the precondition's operations.
-/
module

public import proofs.«01_k».proof.Pre_finite

@[expose] public section

namespace Cert.Pre_finite.Att

open Idealize.ShloMosaic Cert.Pre_finite

instance facts : Cert.Pre_finite.Facts where
  bcast_S_S2x4096x4096 := by decide
  reducesTo_S2x4096x4096_S_d0_1_2 := by decide
  h_S_ := by decide
  bcast_S_S2x4096x32 := by decide
  reducesTo_S2x4096x32_S_d0_1_2 := by decide

end Cert.Pre_finite.Att
-- ==== Proof.Body.lean ====
/-
  What one grid step of the attention kernel leaves in its result block, as a fold over the key
  blocks: `stepM`, `stepL` and `stepA` are one trip's new running maximum, running sums and running
  weighted values, and the result block is their fold over the blocks below the diagonal, then the
  masked block on it, then the quotient. Stated for any floats.
-/
module

public import proofs.«01_k».proof.Proof.Gen.KernelIdeal.Frame
public import Idealize.ShloMosaic.Lib.Pipeline.ValueKit
public import Idealize.ShloMosaic.Lib.VecWindow

@[expose] public section

set_option maxRecDepth 16384

noncomputable section

namespace Cert.KernelIdeal.Att

open Idealize.ShloMosaic Idealize.ShloMosaic.TcCoe Idealize.ShloMosaic.Tactic Idealize.SL.Sem
open Cert.KernelIdeal Cert.KernelIdeal.Gen

variable {F : FTy → Type} [FloatOps F]

/-- One trip's new running maximum, from its eight column chunks `U`, the rows' decay and the old maximum. -/
def stepM (U : Fin 8 → FVec F S1024x128 .f32) (cqb m : FVec F S1024x128 .f32) : FVec F S1024x128 .f32 :=
  k0_pay14 (U 2) (U 3) (U 4) (U 5) (U 6) (U 7) (maximumf (U 0) (U 1)) cqb m

/-- One trip's new running sums, one per lane. -/
def stepL (U : Fin 8 → FVec F S1024x128 .f32) (cqb m l : FVec F S1024x128 .f32) : FVec F S1024x128 .f32 :=
  k0_pay25 (U 0) (U 1) (U 2) (U 3) (U 4) (U 5) (U 6) (U 7) (maximumf (U 0) (U 1)) cqb m l

/-- One trip's new weighted sum of the value rows. -/
def stepA (U : Fin 8 → FVec F S1024x128 .f32) (vb : Vec F S1x1024x128 .bf16) (cqb m acc : FVec F S1024x128 .f32) :
    FVec F S1024x128 .f32 :=
  k0_pay65 (k0_pay2 vb) (k0_pay15 (U 2) (U 3) (U 4) (U 5) (U 6) (U 7) (maximumf (U 0) (U 1)) cqb m)
    (k0_pay22 (U 2) (U 3) (U 4) (U 5) (U 6) (U 7) (maximumf (U 0) (U 1)) cqb m)
    (k0_pay23 (U 2) (U 3) (U 4) (U 5) (U 6) (U 7) (maximumf (U 0) (U 1)) cqb m)
    (k0_pay24 (U 2) (U 3) (U 4) (U 5) (U 6) (U 7) (maximumf (U 0) (U 1)) cqb m)
    (k0_pay26 (U 0) (U 2) (U 3) (U 4) (U 5) (U 6) (U 7) (maximumf (U 0) (U 1)) cqb m)
    (k0_pay27 (U 1) (U 2) (U 3) (U 4) (U 5) (U 6) (U 7) (maximumf (U 0) (U 1)) cqb m)
    (k0_pay28 (U 2) (U 3) (U 4) (U 5) (U 6) (U 7) (maximumf (U 0) (U 1)) cqb m)
    (k0_pay29 (U 2) (U 3) (U 4) (U 5) (U 6) (U 7) (maximumf (U 0) (U 1)) cqb m)
    (k0_pay30 (U 2) (U 3) (U 4) (U 5) (U 6) (U 7) (maximumf (U 0) (U 1)) cqb m) acc

/-- The eight column chunks of a block below the diagonal: scores minus the keys' decay. -/
def chunks (kb : Vec F S1x1024x128 .bf16) (ck : Vec F S1x1x1x1024 .f32) (q : Vec F S1x1024x128 .bf16) :
    Fin 8 → FVec F S1024x128 .f32 :=
  ![k0_pay5 kb ck q, k0_pay6 kb ck q, k0_pay7 kb ck q, k0_pay8 kb ck q, k0_pay9 kb ck q, k0_pay10 kb ck q,
    k0_pay11 kb ck q, k0_pay12 kb ck q]

/-- The eight column chunks of the diagonal block: the same, masked. -/
def chunksM (kb : Vec F S1x1024x128 .bf16) (ck : Vec F S1x1x1x1024 .f32) (q : Vec F S1x1024x128 .bf16) :
    Fin 8 → FVec F S1024x128 .f32 :=
  ![k0_pay72 kb ck q, k0_pay74 (k0_pay73 kb ck q), k0_pay75 (k0_pay70 ck) (k0_pay71 kb q),
    k0_pay76 (k0_pay70 ck) (k0_pay71 kb q), k0_pay77 (k0_pay70 ck) (k0_pay71 kb q),
    k0_pay81 (k0_pay78 (k0_pay70 ck) (k0_pay71 kb q)) k0_pay79 k0_pay80,
    k0_pay82 (k0_pay70 ck) (k0_pay71 kb q), k0_pay83 (k0_pay70 ck) (k0_pay71 kb q)]

theorem hz2 : (![0, 0] : Fin 2 → Nat) = fun _ => 0 := funext fun a => by fin_cases a <;> rfl
theorem hz3 : (![0, 0, 0] : Fin 3 → Nat) = fun _ => 0 := funext fun a => by fin_cases a <;> rfl

/-- The key (or value) rows and the keys' decay that trip `k` reads. -/
abbrev keys (x : Vec F S1x4096x128 .bf16) (i : grid0.Coords) (k : Fin (k0_t1_loop i).trips) : Vec F S1x1024x128 .bf16 :=
  View.ld x (Rect.unit (s := S1x4096x128) (k0_off1 i k) S1x1024x128.size (k0_off1_inb i k))
abbrev decay (x : Vec F S1x1x1x4096 .f32) (i : grid0.Coords) (k : Fin (k0_t1_loop i).trips) : Vec F S1x1x1x1024 .f32 :=
  View.ld x (Rect.unit (s := S1x1x1x4096) (k0_off2 i k) S1x1x1x1024.size (k0_off2_inb i k))
/-- The same for the diagonal block. -/
abbrev keysD (x : Vec F S1x4096x128 .bf16) (i : grid0.Coords) : Vec F S1x1024x128 .bf16 :=
  View.ld x (Rect.unit (s := S1x4096x128) (k0_off5 i) S1x1024x128.size (k0_off5_inb i))
abbrev decayD (x : Vec F S1x1x1x4096 .f32) (i : grid0.Coords) : Vec F S1x1x1x1024 .f32 :=
  View.ld x (Rect.unit (s := S1x1x1x4096) (k0_off6 i) S1x1x1x1024.size (k0_off6_inb i))

variable (𝒱 : Variants) (c : Dev nD) (bd : Option 𝒱.V) (i : grid0.Coords) (arg3 : Memref sig .tc .vmem S1x1024x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1024x128 .f32) (harg6 : arg6.IsWhole) (arg7 : Memref sig .tc .vmem S1x1x1x4096 .f32) (harg7 : arg7.IsWhole) (arg8 : Memref sig .tc .vmem S1x1024x128 .bf16) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole)

section Trip
variable (arg2 : BitVec 32) (v32 : FVec F S1024x128 .f32) (X3 : BufTy.Contents (Elt F) arg3.view.ty) (X4 : BufTy.Contents (Elt F) arg4.view.ty) (X5 : BufTy.Contents (Elt F) arg5.view.ty) (X7 : BufTy.Contents (Elt F) arg7.view.ty) (X12 : BufTy.Contents (Elt F) arg12.view.ty) (k : Fin (k0_t1_loop i).trips) (f9 : BufTy.Contents (Elt F) arg9.view.ty) (f10 : BufTy.Contents (Elt F) arg10.view.ty) (f11 : BufTy.Contents (Elt F) arg11.view.ty)

/-- A trip's chunks, off the buffers as the loop holds them. -/
abbrev tripU : Fin 8 → FVec F S1024x128 .f32 :=
  chunks (keys (arg4.view.read (Elt F) X4) i k) (decay (arg7.view.read (Elt F) X7) i k) (arg3.view.read (Elt F) X3)

theorem trip9 : (trip_k0_t1 (F := F) 𝒱 c bd i arg3 harg3 arg4 harg4 arg5 harg5 arg6 harg6 arg7 harg7 arg8 harg8 arg9 harg9 arg10 harg10 arg11 harg11 arg12 harg12 arg2 v32 X3 X4 X5 X7 X12 k).1 f9 f10 f11
    = [⟨Rect.unit ![0, 0] S1024x128.size inb_S1024x128_S1024x128_0_0,
        stepM (tripU i arg3 arg4 arg7 X3 X4 X7 k) (arg12.view.read (Elt F) X12) (arg9.view.read (Elt F) f9)⟩] := by
  unfold trip_k0_t1
  dsimp only
  refine congrArg (fun z => [(⟨_, z⟩ : View.Piece (Elt F) S1024x128 .f32)]) ?_
  sl_unfold_words
  simp only [View.readAt_eq_ld, View.ld_unit_zero (S := S1024x128) hz2, View.ld_unit_zero (S := S1x1024x128) hz3]
  unfold k0_pay66
  rw [shapeCast_self]
  rfl

theorem trip10 : (trip_k0_t1 (F := F) 𝒱 c bd i arg3 harg3 arg4 harg4 arg5 harg5 arg6 harg6 arg7 harg7 arg8 harg8 arg9 harg9 arg10 harg10 arg11 harg11 arg12 harg12 arg2 v32 X3 X4 X5 X7 X12 k).2.1 f9 f10 f11
    = [⟨Rect.unit ![0, 0] S1024x128.size inb_S1024x128_S1024x128_0_0,
        stepL (tripU i arg3 arg4 arg7 X3 X4 X7 k) (arg12.view.read (Elt F) X12) (arg9.view.read (Elt F) f9)
          (arg10.view.read (Elt F) f10)⟩] := by
  unfold trip_k0_t1
  dsimp only
  refine congrArg (fun z => [(⟨_, z⟩ : View.Piece (Elt F) S1024x128 .f32)]) ?_
  sl_unfold_words
  simp only [View.readAt_eq_ld, View.ld_unit_zero (S := S1024x128) hz2, View.ld_unit_zero (S := S1x1024x128) hz3]
  rfl

theorem trip11 : (trip_k0_t1 (F := F) 𝒱 c bd i arg3 harg3 arg4 harg4 arg5 harg5 arg6 harg6 arg7 harg7 arg8 harg8 arg9 harg9 arg10 harg10 arg11 harg11 arg12 harg12 arg2 v32 X3 X4 X5 X7 X12 k).2.2.1 f9 f10 f11
    = [⟨Rect.unit ![0, 0] S1024x128.size inb_S1024x128_S1024x128_0_0,
        stepA (tripU i arg3 arg4 arg7 X3 X4 X7 k) (keys (arg5.view.read (Elt F) X5) i k) (arg12.view.read (Elt F) X12)
          (arg9.view.read (Elt F) f9) (arg11.view.read (Elt F) f11)⟩] := by
  unfold trip_k0_t1
  dsimp only
  refine congrArg (fun z => [(⟨_, z⟩ : View.Piece (Elt F) S1024x128 .f32)]) ?_
  sl_unfold_words
  simp only [View.readAt_eq_ld, View.ld_unit_zero (S := S1024x128) hz2, View.ld_unit_zero (S := S1x1024x128) hz3]
  rfl

end Trip

/-- The running maximum, sums and weighted values. -/
abbrev St (F : FTy → Type) := FVec F S1024x128 .f32 × FVec F S1024x128 .f32 × FVec F S1024x128 .f32

/-- One trip on the three running arrays. -/
def step (U : Fin 8 → FVec F S1024x128 .f32) (vb : Vec F S1x1024x128 .bf16) (cqb : FVec F S1024x128 .f32) (s : St F) : St F :=
  (stepM U cqb s.1, stepL U cqb s.1 s.2.1, stepA U vb cqb s.1 s.2.2)

/-- The fold over the first `n` blocks below the diagonal. -/
def fold (i : grid0.Coords) (q : Vec F S1x1024x128 .bf16) (x1 x2 : Vec F S1x4096x128 .bf16) (x4 : Vec F S1x1x1x4096 .f32)
    (cqb : FVec F S1024x128 .f32) (s : St F) : (n : ℕ) → n ≤ (k0_t1_loop i).trips → St F
  | 0, _ => s
  | n + 1, h => step (chunks (keys x1 i ⟨n, h⟩) (decay x4 i ⟨n, h⟩) q) (keys x2 i ⟨n, h⟩) cqb
      (fold i q x1 x2 x4 cqb s n (Nat.le_of_succ_le h))

theorem pb_reads (arg2 : BitVec 32) (v32 : FVec F S1024x128 .f32) (X3 : BufTy.Contents (Elt F) arg3.view.ty) (X4 : BufTy.Contents (Elt F) arg4.view.ty) (X5 : BufTy.Contents (Elt F) arg5.view.ty) (X7 : BufTy.Contents (Elt F) arg7.view.ty) (X12 : BufTy.Contents (Elt F) arg12.view.ty) (G9 : BufTy.Contents (Elt F) arg9.view.ty) (G10 : BufTy.Contents (Elt F) arg10.view.ty) (G11 : BufTy.Contents (Elt F) arg11.view.ty) :
    ∀ (n : ℕ) (h : n ≤ (k0_t1_loop i).trips),
      (arg9.view.read (Elt F) (arg9.view.writes (Elt F) G9 (pb_k0_t1 (F := F) 𝒱 c bd i arg3 harg3 arg4 harg4 arg5 harg5 arg6 harg6 arg7 harg7 arg8 harg8 arg9 harg9 arg10 harg10 arg11 harg11 arg12 harg12 arg2 v32 X3 X4 X5 X7 X12 G9 G10 G11 n).1),
       arg10.view.read (Elt F) (arg10.view.writes (Elt F) G10 (pb_k0_t1 (F := F) 𝒱 c bd i arg3 harg3 arg4 harg4 arg5 harg5 arg6 harg6 arg7 harg7 arg8 harg8 arg9 harg9 arg10 harg10 arg11 harg11 arg12 harg12 arg2 v32 X3 X4 X5 X7 X12 G9 G10 G11 n).2.1),
       arg11.view.read (Elt F) (arg11.view.writes (Elt F) G11 (pb_k0_t1 (F := F) 𝒱 c bd i arg3 harg3 arg4 harg4 arg5 harg5 arg6 harg6 arg7 harg7 arg8 harg8 arg9 harg9 arg10 harg10 arg11 harg11 arg12 harg12 arg2 v32 X3 X4 X5 X7 X12 G9 G10 G11 n).2.2))
      = fold i (arg3.view.read (Elt F) X3) (arg4.view.read (Elt F) X4) (arg5.view.read (Elt F) X5) (arg7.view.read (Elt F) X7)
          (arg12.view.read (Elt F) X12) (arg9.view.read (Elt F) G9, arg10.view.read (Elt F) G10, arg11.view.read (Elt F) G11) n h
  | 0, _ => rfl
  | n + 1, h => by
    have ih := pb_reads arg2 v32 X3 X4 X5 X7 X12 G9 G10 G11 n (Nat.le_of_succ_le h)
    rw [pb_k0_t1_succ (F := F) 𝒱 c bd i arg3 harg3 arg4 harg4 arg5 harg5 arg6 harg6 arg7 harg7 arg8 harg8 arg9 harg9 arg10 harg10 arg11 harg11 arg12 harg12 arg2 v32 X3 X4 X5 X7 X12 G9 G10 G11 ⟨n, h⟩]
    unfold fold
    rw [← ih]
    dsimp only
    rw [trip9, trip10, trip11]
    simp only [List.singleton_append]
    rw [View.read_writes_full, View.read_writes_full, View.read_writes_full]
    rfl

/-- The number of blocks below the diagonal is the query block's number, -/
theorem trips1 (i : grid0.Coords) : (k0_t1_loop i).trips = (i 2).val := by
  have key : ∀ n : Fin 4, (Scf.Loop.trips (⟨0#32, Scalar.addi 0#32 (Scalar.muli (Scalar.divsi (Scalar.subi (BitVec.ofNat 32 n.val) 0#32) 1#32) 1#32), 1#32⟩ : Scf.Loop 32)) = n.val := by decide +kernel
  exact key (i 2)

/-- and the remainder loop makes no trip. -/
theorem trips2 (i : grid0.Coords) : (k0_t2_loop i).trips = 0 := by
  have key : ∀ n : Fin 4, (Scf.Loop.trips (⟨Scalar.addi 0#32 (Scalar.muli (Scalar.divsi (Scalar.subi (BitVec.ofNat 32 n.val) 0#32) 1#32) 1#32), Scalar.addi 0#32 (Scalar.subi (BitVec.ofNat 32 n.val) 0#32), 1#32⟩ : Scf.Loop 32)) = 0 := by decide +kernel
  exact key (i 2)

/-- The result block: the fold below the diagonal, the masked block, the quotient. -/
def blockOut (i : grid0.Coords) (x0 : Vec F S1x1024x128 .bf16) (x1 x2 : Vec F S1x4096x128 .bf16)
    (x3 : Vec F S1x1024x128 .f32) (x4 : Vec F S1x1x1x4096 .f32) : Vec F S1x1024x128 .bf16 :=
  let s := step (chunksM (keysD x1 i) (decayD x4 i) x0) (keysD x2 i) (k0_pay63 i x3)
    (fold i x0 x1 x2 x4 (k0_pay63 i x3) (k0_pay60, k0_pay61, k0_pay62) (k0_t1_loop i).trips le_rfl)
  k0_pay1 (k0_pay99 s.2.1) s.2.2

theorem pb2_nil (arg2 : BitVec 32) (v32 : FVec F S1024x128 .f32) (v40 : BitVec 32) (X3 : BufTy.Contents (Elt F) arg3.view.ty) (X4 : BufTy.Contents (Elt F) arg4.view.ty) (X5 : BufTy.Contents (Elt F) arg5.view.ty) (X7 : BufTy.Contents (Elt F) arg7.view.ty) (X12 : BufTy.Contents (Elt F) arg12.view.ty) (G9 : BufTy.Contents (Elt F) arg9.view.ty) (G10 : BufTy.Contents (Elt F) arg10.view.ty) (G11 : BufTy.Contents (Elt F) arg11.view.ty) :
    pb_k0_t2 (F := F) 𝒱 c bd i arg3 harg3 arg4 harg4 arg5 harg5 arg6 harg6 arg7 harg7 arg8 harg8 arg9 harg9 arg10 harg10 arg11 harg11 arg12 harg12 arg2 v32 v40 X3 X4 X5 X7 X12 G9 G10 G11 0 = ([], [], []) := rfl

theorem out_eq (x0 : Vec F S1x1024x128 .bf16) (x1 : Vec F S1x4096x128 .bf16) (x2 : Vec F S1x4096x128 .bf16) (x3 : Vec F S1x1024x128 .f32) (x4 : Vec F S1x1x1x4096 .f32) :
  out0_A_5 c i arg3 harg3 arg4 harg4 arg5 harg5 arg6 harg6 arg7 harg7 arg8 harg8 arg9 harg9 arg10 harg10 arg11 harg11 arg12 harg12 x0 x1 x2 x3 x4 = blockOut i x0 x1 x2 x3 x4 := by
  have e2 := trips2 i
  have hp := pb_reads Variants.none c none i arg3 harg3 arg4 harg4 arg5 harg5 arg6 harg6 arg7 harg7 arg8 harg8 arg9 harg9 arg10 harg10 arg11 harg11 arg12 harg12 (BitVec.ofNat 32 ↑(i 2)) (k0_pay63 i x3) (harg3.unread x0)
    (harg4.unread x1) (harg5.unread x2) (harg7.unread x4)
    (arg12.view.writes (Elt F) arg12.view.junk [⟨Rect.unit ![0, 0] ![1024, 128] inb_S1024x128_S1024x128_0_0, k0_pay64 (k0_pay63 i x3)⟩])
    (arg9.view.writes (Elt F) arg9.view.junk [⟨Rect.unit ![0, 0] ![1024, 128] inb_S1024x128_S1024x128_0_0, k0_pay60⟩])
    (arg10.view.writes (Elt F) arg10.view.junk [⟨Rect.unit ![0, 0] ![1024, 128] inb_S1024x128_S1024x128_0_0, k0_pay61⟩])
    (arg11.view.writes (Elt F) arg11.view.junk [⟨Rect.unit ![0, 0] ![1024, 128] inb_S1024x128_S1024x128_0_0, k0_pay62⟩])
    (k0_t1_loop i).trips le_rfl
  rw [show arg12.view.read (Elt F) (arg12.view.writes (Elt F) arg12.view.junk [⟨Rect.unit ![0, 0] ![1024, 128] inb_S1024x128_S1024x128_0_0, k0_pay64 (k0_pay63 i x3)⟩]) = k0_pay63 i x3 from
      (View.read_writes_full (s := S1024x128) ..).trans (by unfold k0_pay64; rw [shapeCast_self]),
    show arg9.view.read (Elt F) (arg9.view.writes (Elt F) arg9.view.junk [⟨Rect.unit ![0, 0] ![1024, 128] inb_S1024x128_S1024x128_0_0, k0_pay60⟩]) = k0_pay60 from
      View.read_writes_full (s := S1024x128) ..,
    show arg10.view.read (Elt F) (arg10.view.writes (Elt F) arg10.view.junk [⟨Rect.unit ![0, 0] ![1024, 128] inb_S1024x128_S1024x128_0_0, k0_pay61⟩]) = k0_pay61 from
      View.read_writes_full (s := S1024x128) ..,
    show arg11.view.read (Elt F) (arg11.view.writes (Elt F) arg11.view.junk [⟨Rect.unit ![0, 0] ![1024, 128] inb_S1024x128_S1024x128_0_0, k0_pay62⟩]) = k0_pay62 from
      View.read_writes_full (s := S1024x128) .., harg3.read_unread, harg4.read_unread, harg5.read_unread, harg7.read_unread] at hp
  obtain ⟨h9, h10, h11⟩ : _ ∧ _ ∧ _ := ⟨congrArg (·.1) hp, congrArg (·.2.1) hp, congrArg (·.2.2) hp⟩
  dsimp only at h9 h10 h11
  unfold out0_A_5 kernelRun0_A
  dsimp only
  rw [View.read_writes_full]
  unfold kernelRun0_A.sl.v211
  sl_unfold_words
  simp only [View.readAt_eq_ld, View.ld_unit_zero (S := S1024x128) hz2, View.ld_unit_zero (S := S1x1024x128) hz3]
  dsimp only [Scf.Loop.trips] at e2 h9 h10 h11 ⊢
  simp only [e2, pb2_nil, List.nil_append, harg3.read_unread, harg4.read_unread, harg5.read_unread, harg6.read_unread, harg7.read_unread, View.readCov, View.readAt_eq_ld, View.ld_unit_zero (S := S1024x128) hz2, View.writes_append]
  have h12 : arg12.view.read (Elt F) (arg12.view.writes (Elt F) arg12.view.junk [⟨Rect.unit ![0, 0] ![1024, 128] inb_S1024x128_S1024x128_0_0, k0_pay64 (k0_pay63 i x3)⟩]) = k0_pay63 i x3 :=
    (View.read_writes_full (s := S1024x128) ..).trans (by unfold k0_pay64; rw [shapeCast_self])
  simp only [h12, h9, h10, h11]
  have f10 : ∀ (L) (w) (L'), arg10.view.read (Elt F) (arg10.view.writes (Elt F) L (⟨Rect.unit ![0, 0] ![1024, 128] inb_S1024x128_S1024x128_0_0, w⟩ :: L')) = w :=
    fun L w L' => View.read_writes_full (s := S1024x128) ..
  have f11 : ∀ (L) (w) (L'), arg11.view.read (Elt F) (arg11.view.writes (Elt F) L (⟨Rect.unit ![0, 0] ![1024, 128] inb_S1024x128_S1024x128_0_0, w⟩ :: L')) = w :=
    fun L w L' => View.read_writes_full (s := S1024x128) ..
  simp only [f10, f11]
  rfl
end Cert.KernelIdeal.Att
-- ==== Proof.Step.lean ====
/-
  One trip of the attention kernel read at an index, over the extended reals.
-/
module

public import proofs.«01_k».proof.Proof.Body
public import Idealize.ShloMosaic.Lib.Pointwise

@[expose] public section

set_option maxRecDepth 16384

noncomputable section

namespace Cert.KernelIdeal.Att

open Idealize.ShloMosaic Idealize.ShloMosaic.TcCoe Idealize.SL.Sem
open Cert.KernelIdeal Cert.KernelIdeal.Gen

/-- The key of chunk `c`, lane `l` within its block. -/
abbrev col (c : Fin 8) (l : Fin 128) : Fin 1024 := ⟨c.val * 128 + l.val, by have := c.isLt; have := l.isLt; omega⟩

/-- The logit of row `r` against key `j` of the block, the row's own decay left out. -/
def lgt (kb : Vec Ideal S1x1024x128 .bf16) (ck : Vec Ideal S1x1x1x1024 .f32) (q : Vec Ideal S1x1024x128 .bf16)
    (r j : Fin 1024) : EReal :=
  (∑ d : Fin 128, (show EReal from q (ix3 0 r d)) * kb (ix3 0 j d)) - ck (ix4 0 0 0 j)

theorem chunks_at (kb : Vec Ideal S1x1024x128 .bf16) (ck : Vec Ideal S1x1x1x1024 .f32) (q : Vec Ideal S1x1024x128 .bf16)
    (c : Fin 8) (r : Fin 1024) (l : Fin 128) :
    chunks kb ck q c (ix2 r l) = lgt kb ck q r (col c l) := by
  have hl := l.isLt
  fin_cases c
  · show k0_pay5 kb ck q (ix2 r l) = _
    pointwise [k0_pay5, k0_pay4, k0_pay3]
    show lgt kb ck q r ⟨l.val, by omega⟩ = _
    exact congrArg _ (Fin.ext (by simp [col]))
  · show k0_pay6 kb ck q (ix2 r l) = _
    pointwise [k0_pay6, k0_pay4, k0_pay3]
    show lgt kb ck q r ⟨128 + l.val, by omega⟩ = _
    exact congrArg _ (Fin.ext (by simp [col]))
  · show k0_pay7 kb ck q (ix2 r l) = _
    pointwise [k0_pay7, k0_pay4, k0_pay3]
    show lgt kb ck q r ⟨256 + l.val, by omega⟩ = _
    exact congrArg _ (Fin.ext (by simp [col]))
  · show k0_pay8 kb ck q (ix2 r l) = _
    pointwise [k0_pay8, k0_pay4, k0_pay3]
    show lgt kb ck q r ⟨384 + l.val, by omega⟩ = _
    exact congrArg _ (Fin.ext (by simp [col]))
  · show k0_pay9 kb ck q (ix2 r l) = _
    pointwise [k0_pay9, k0_pay4, k0_pay3]
    show lgt kb ck q r ⟨512 + l.val, by omega⟩ = _
    exact congrArg _ (Fin.ext (by simp [col]))
  · show k0_pay10 kb ck q (ix2 r l) = _
    pointwise [k0_pay10, k0_pay4, k0_pay3]
    show lgt kb ck q r ⟨640 + l.val, by omega⟩ = _
    exact congrArg _ (Fin.ext (by simp [col]))
  · show k0_pay11 kb ck q (ix2 r l) = _
    pointwise [k0_pay11, k0_pay4, k0_pay3]
    show lgt kb ck q r ⟨768 + l.val, by omega⟩ = _
    exact congrArg _ (Fin.ext (by simp [col]))
  · show k0_pay12 kb ck q (ix2 r l) = _
    pointwise [k0_pay12, k0_pay4, k0_pay3]
    show lgt kb ck q r ⟨896 + l.val, by omega⟩ = _
    exact congrArg _ (Fin.ext (by simp [col]))

theorem select_sle (a b : Nat) (ha : a < 1024) (hb : b < 1024) (x y : EReal) :
    Scalar.select (IntOp.cmpi CmpIPredicate.sle (BitVec.ofNat 32 a) (BitVec.ofNat 32 b)) x y = if a ≤ b then x else y := by
  have e : (BitVec.ofNat 32 a).sle (BitVec.ofNat 32 b) = decide (a ≤ b) := by
    rw [BitVec.sle_eq_decide]
    rw [BitVec.toInt_eq_toNat_of_lt (by simp; omega), BitVec.toInt_eq_toNat_of_lt (by simp; omega)]
    simp only [BitVec.toNat_ofNat, decide_eq_decide, Nat.cast_le]
    omega
  simp only [IntOp.cmpi, Scalar.select, e]
  by_cases h : a ≤ b <;> simp [h]

theorem bot_word : Ideal.ofBits FTy.f32 4286578688#32 = (⊥ : EReal) := by
  simp [Ideal.ofBits, Ideal.ieee]

theorem chunksM_at (kb : Vec Ideal S1x1024x128 .bf16) (ck : Vec Ideal S1x1x1x1024 .f32) (q : Vec Ideal S1x1024x128 .bf16)
    (c : Fin 8) (r : Fin 1024) (l : Fin 128) :
    chunksM kb ck q c (ix2 r l) = if (col c l).val ≤ r.val then lgt kb ck q r (col c l) else (⊥ : EReal) := by
  have hl := l.isLt
  have hr := r.isLt
  fin_cases c
  · show k0_pay72 kb ck q (ix2 r l) = _
    pointwise [k0_pay3, k0_pay69, k0_pay70, k0_pay71, k0_pay72]
    simp only [IntOp.addi, ← BitVec.ofNat_add, bot_word]
    rw [select_sle _ _ (by omega) (by omega)]
    have e : (⟨l.val, by omega⟩ : Fin 1024) = col 0 l := Fin.ext (by simp [col])
    show (if l.val + 0 ≤ r.val then lgt kb ck q r ⟨l.val, by omega⟩ else ⊥) = if l.val ≤ r.val then lgt kb ck q r (col 0 l) else ⊥
    rw [← e]
    simp only [Nat.add_comm, Nat.add_zero, Nat.zero_add]
  · show k0_pay74 (k0_pay73 kb ck q) (ix2 r l) = _
    pointwise [k0_pay3, k0_pay69, k0_pay70, k0_pay71, k0_pay73, k0_pay74]
    simp only [IntOp.addi, ← BitVec.ofNat_add, bot_word]
    rw [select_sle _ _ (by omega) (by omega)]
    have e : (⟨128 + l.val, by omega⟩ : Fin 1024) = col 1 l := Fin.ext (by simp [col])
    show (if l.val + 128 ≤ r.val then lgt kb ck q r ⟨128 + l.val, by omega⟩ else ⊥) = if (col 1 l).val ≤ r.val then lgt kb ck q r (col 1 l) else ⊥
    rw [← e]
    simp only [Nat.add_comm, Nat.add_zero, Nat.zero_add]
  · show k0_pay75 (k0_pay70 ck) (k0_pay71 kb q) (ix2 r l) = _
    pointwise [k0_pay3, k0_pay69, k0_pay70, k0_pay71, k0_pay75]
    simp only [IntOp.addi, ← BitVec.ofNat_add, bot_word]
    rw [select_sle _ _ (by omega) (by omega)]
    have e : (⟨256 + l.val, by omega⟩ : Fin 1024) = col 2 l := Fin.ext (by simp [col])
    show (if l.val + 256 ≤ r.val then lgt kb ck q r ⟨256 + l.val, by omega⟩ else ⊥) = if (col 2 l).val ≤ r.val then lgt kb ck q r (col 2 l) else ⊥
    rw [← e]
    simp only [Nat.add_comm, Nat.add_zero, Nat.zero_add]
  · show k0_pay76 (k0_pay70 ck) (k0_pay71 kb q) (ix2 r l) = _
    pointwise [k0_pay3, k0_pay69, k0_pay70, k0_pay71, k0_pay76]
    simp only [IntOp.addi, ← BitVec.ofNat_add, bot_word]
    rw [select_sle _ _ (by omega) (by omega)]
    have e : (⟨384 + l.val, by omega⟩ : Fin 1024) = col 3 l := Fin.ext (by simp [col])
    show (if l.val + 384 ≤ r.val then lgt kb ck q r ⟨384 + l.val, by omega⟩ else ⊥) = if (col 3 l).val ≤ r.val then lgt kb ck q r (col 3 l) else ⊥
    rw [← e]
    simp only [Nat.add_comm, Nat.add_zero, Nat.zero_add]
  · show k0_pay77 (k0_pay70 ck) (k0_pay71 kb q) (ix2 r l) = _
    pointwise [k0_pay3, k0_pay69, k0_pay70, k0_pay71, k0_pay77]
    simp only [IntOp.addi, ← BitVec.ofNat_add, bot_word]
    rw [select_sle _ _ (by omega) (by omega)]
    have e : (⟨512 + l.val, by omega⟩ : Fin 1024) = col 4 l := Fin.ext (by simp [col])
    show (if l.val + 512 ≤ r.val then lgt kb ck q r ⟨512 + l.val, by omega⟩ else ⊥) = if (col 4 l).val ≤ r.val then lgt kb ck q r (col 4 l) else ⊥
    rw [← e]
    simp only [Nat.add_comm, Nat.add_zero, Nat.zero_add]
  · show k0_pay81 (k0_pay78 (k0_pay70 ck) (k0_pay71 kb q)) k0_pay79 k0_pay80 (ix2 r l) = _
    pointwise [k0_pay3, k0_pay69, k0_pay70, k0_pay71, k0_pay78, k0_pay79, k0_pay80, k0_pay81]
    simp only [IntOp.addi, ← BitVec.ofNat_add, bot_word]
    rw [select_sle _ _ (by omega) (by omega)]
    have e : (⟨640 + l.val, by omega⟩ : Fin 1024) = col 5 l := Fin.ext (by simp [col])
    show (if l.val + 640 ≤ r.val then lgt kb ck q r ⟨640 + l.val, by omega⟩ else ⊥) = if (col 5 l).val ≤ r.val then lgt kb ck q r (col 5 l) else ⊥
    rw [← e]
    simp only [Nat.add_comm, Nat.add_zero, Nat.zero_add]
  · show k0_pay82 (k0_pay70 ck) (k0_pay71 kb q) (ix2 r l) = _
    pointwise [k0_pay3, k0_pay69, k0_pay70, k0_pay71, k0_pay82]
    simp only [IntOp.addi, ← BitVec.ofNat_add, bot_word]
    rw [select_sle _ _ (by omega) (by omega)]
    have e : (⟨768 + l.val, by omega⟩ : Fin 1024) = col 6 l := Fin.ext (by simp [col])
    show (if l.val + 768 ≤ r.val then lgt kb ck q r ⟨768 + l.val, by omega⟩ else ⊥) = if (col 6 l).val ≤ r.val then lgt kb ck q r (col 6 l) else ⊥
    rw [← e]
    simp only [Nat.add_comm, Nat.add_zero, Nat.zero_add]
  · show k0_pay83 (k0_pay70 ck) (k0_pay71 kb q) (ix2 r l) = _
    pointwise [k0_pay3, k0_pay69, k0_pay70, k0_pay71, k0_pay83]
    simp only [IntOp.addi, ← BitVec.ofNat_add, bot_word]
    rw [select_sle _ _ (by omega) (by omega)]
    have e : (⟨896 + l.val, by omega⟩ : Fin 1024) = col 7 l := Fin.ext (by simp [col])
    show (if l.val + 896 ≤ r.val then lgt kb ck q r ⟨896 + l.val, by omega⟩ else ⊥) = if (col 7 l).val ≤ r.val then lgt kb ck q r (col 7 l) else ⊥
    rw [← e]
    simp only [Nat.add_comm, Nat.add_zero, Nat.zero_add]

theorem stepM_at (U : Fin 8 → FVec Ideal S1024x128 .f32) (cqb m : FVec Ideal S1024x128 .f32) (r : Fin 1024) (l : Fin 128) :
    stepM U cqb m (ix2 r l)
      = max (m (ix2 r l)) (Finset.fold max (⊥ : EReal)
          (fun x => max (max (max (max (max (max (max (U 0 (ix2 r x)) (U 1 (ix2 r x))) (U 2 (ix2 r x))) (U 3 (ix2 r x)))
            (U 4 (ix2 r x))) (U 5 (ix2 r x))) (U 6 (ix2 r x))) (U 7 (ix2 r x))) Finset.univ + cqb (ix2 r l)) := by
  pointwise [stepM, k0_pay14]
  rw [bot_word]

/-- The weight of chunk `c`, lane `l` in row `r`, relative to the row's maximum. -/
def wgt (U : Fin 8 → FVec Ideal S1024x128 .f32) (cqb M : FVec Ideal S1024x128 .f32) (r : Fin 1024) (c : Fin 8)
    (l : Fin 128) : EReal :=
  Ideal.exp (U c (ix2 r l) + (cqb (ix2 r l) - M (ix2 r l)))

theorem stepL_at (U : Fin 8 → FVec Ideal S1024x128 .f32) (cqb m s : FVec Ideal S1024x128 .f32) (r : Fin 1024) (l : Fin 128) :
    stepL U cqb m s (ix2 r l)
      = Ideal.exp (m (ix2 r l) - stepM U cqb m (ix2 r l)) * s (ix2 r l) + ∑ c : Fin 8, wgt U cqb (stepM U cqb m) r c l := by
  rw [Fin.sum_univ_eight]
  simp only [wgt]
  pointwise [stepL, stepM, k0_pay25, k0_pay15, k0_pay16, k0_pay17, k0_pay18, k0_pay19, k0_pay20, k0_pay21, k0_pay22, k0_pay23, k0_pay24]

theorem stepA_at (U : Fin 8 → FVec Ideal S1024x128 .f32) (vb : Vec Ideal S1x1024x128 .bf16) (cqb m s : FVec Ideal S1024x128 .f32) (r : Fin 1024) (l : Fin 128) :
    stepA U vb cqb m s (ix2 r l)
      = Ideal.exp (m (ix2 r l) - stepM U cqb m (ix2 r l)) * s (ix2 r l)
        + ∑ c : Fin 8, ∑ x : Fin 128, wgt U cqb (stepM U cqb m) r c x * vb (ix3 0 (col c x) l) := by
  have key : ∀ f : Fin 1024 → EReal, ∑ j, f j = ∑ c : Fin 8, ∑ x : Fin 128, f (col c x) := by
    intro f
    rw [← Fintype.sum_prod_type' (fun c x => f (col c x))]
    exact (Equiv.sum_comp (finProdFinEquiv (m := 8) (n := 128)) f).symm.trans (Finset.sum_congr rfl fun p _ => by
      congr 1; ext; simp [finProdFinEquiv, col]; ring)
  have hw : ∀ (c : Fin 8) (x : Fin 128), wgt U cqb (stepM U cqb m) r c x = Ideal.exp (U c (ix2 r x) + (cqb (ix2 r x) - k0_pay14 (U 2) (U 3) (U 4) (U 5) (U 6) (U 7) (maximumf (U 0) (U 1)) cqb m (ix2 r x))) := fun _ _ => rfl
  have hM : stepM U cqb m (ix2 r l) = k0_pay14 (U 2) (U 3) (U 4) (U 5) (U 6) (U 7) (maximumf (U 0) (U 1)) cqb m (ix2 r l) := rfl
  simp only [hw, hM]
  pointwise [stepA, k0_pay65, k0_pay2, k0_pay15, k0_pay16, k0_pay17, k0_pay18, k0_pay19, k0_pay20, k0_pay21, k0_pay22, k0_pay23, k0_pay24, k0_pay26, k0_pay27, k0_pay28, k0_pay29, k0_pay30]
  congr 1
  rw [key]
  refine Finset.sum_congr rfl fun c _ => Finset.sum_congr rfl fun x _ => ?_
  congr 1
  have hx := x.isLt
  fin_cases c
  all_goals show _ = Ideal.exp (U _ (ix2 r x) + _)
  · have e' : ∀ h : 0 * 128 + x.val  < 128, (⟨0 * 128 + x.val , h⟩ : Fin 128) = x := fun h => Fin.ext (by show 0 * 128 + x.val  = x.val; omega)
    simp (discharger := omega) only [dif_pos, dif_neg, e']
    try rfl
  · have e' : ∀ h : 1 * 128 + x.val - 128  < 128, (⟨1 * 128 + x.val - 128 , h⟩ : Fin 128) = x := fun h => Fin.ext (by show 1 * 128 + x.val - 128  = x.val; omega)
    simp (discharger := omega) only [dif_pos, dif_neg, e']
    try rfl
  · have e' : ∀ h : 2 * 128 + x.val - 128 - 128  < 128, (⟨2 * 128 + x.val - 128 - 128 , h⟩ : Fin 128) = x := fun h => Fin.ext (by show 2 * 128 + x.val - 128 - 128  = x.val; omega)
    simp (discharger := omega) only [dif_pos, dif_neg, e']
    try rfl
  · have e' : ∀ h : 3 * 128 + x.val - 128 - 128 - 128  < 128, (⟨3 * 128 + x.val - 128 - 128 - 128 , h⟩ : Fin 128) = x := fun h => Fin.ext (by show 3 * 128 + x.val - 128 - 128 - 128  = x.val; omega)
    simp (discharger := omega) only [dif_pos, dif_neg, e']
    try rfl
  · have e' : ∀ h : 4 * 128 + x.val - 128 - 128 - 128 - 128  < 128, (⟨4 * 128 + x.val - 128 - 128 - 128 - 128 , h⟩ : Fin 128) = x := fun h => Fin.ext (by show 4 * 128 + x.val - 128 - 128 - 128 - 128  = x.val; omega)
    simp (discharger := omega) only [dif_pos, dif_neg, e']
    try rfl
  · have e' : ∀ h : 5 * 128 + x.val - 128 - 128 - 128 - 128 - 128  < 128, (⟨5 * 128 + x.val - 128 - 128 - 128 - 128 - 128 , h⟩ : Fin 128) = x := fun h => Fin.ext (by show 5 * 128 + x.val - 128 - 128 - 128 - 128 - 128  = x.val; omega)
    simp (discharger := omega) only [dif_pos, dif_neg, e']
    try rfl
  · have e' : ∀ h : 6 * 128 + x.val - 128 - 128 - 128 - 128 - 128 - 128  < 128, (⟨6 * 128 + x.val - 128 - 128 - 128 - 128 - 128 - 128 , h⟩ : Fin 128) = x := fun h => Fin.ext (by show 6 * 128 + x.val - 128 - 128 - 128 - 128 - 128 - 128  = x.val; omega)
    simp (discharger := omega) only [dif_pos, dif_neg, e']
    try rfl
  · have e' : ∀ h : 7 * 128 + x.val - 128 - 128 - 128 - 128 - 128 - 128 - 128  < 128, (⟨7 * 128 + x.val - 128 - 128 - 128 - 128 - 128 - 128 - 128 , h⟩ : Fin 128) = x := fun h => Fin.ext (by show 7 * 128 + x.val - 128 - 128 - 128 - 128 - 128 - 128 - 128  = x.val; omega)
    simp (discharger := omega) only [dif_pos, dif_neg, e']
    try rfl

theorem out_at (a : Vec Ideal S1024x128 .f32) (s : Vec Ideal S1024x128 .f32) (r : Fin 1024) (l : Fin 128) :
    k0_pay1 (k0_pay99 s) a (ix3 0 r l) = Ideal.div (a (ix2 r l)) (∑ x : Fin 128, (show EReal from s (ix2 r x))) := by
  pointwise [k0_pay1, k0_pay99]

theorem head_word (h : Fin 32) :
    (Scalar.select
            (Scalar.andi
              (Scalar.xori
                (Scalar.cmpi CmpIPredicate.slt
                  (Scalar.remsi (BitVec.ofNat 32 h.val)
                    (Scalar.select (Scalar.cmpi CmpIPredicate.eq 128#32 0#32) 1#32 128#32))
                  0#32)
                (Scalar.cmpi CmpIPredicate.slt (Scalar.select (Scalar.cmpi CmpIPredicate.eq 128#32 0#32) 1#32 128#32)
                  0#32))
              (Scalar.cmpi CmpIPredicate.ne
                (Scalar.remsi (BitVec.ofNat 32 h.val)
                  (Scalar.select (Scalar.cmpi CmpIPredicate.eq 128#32 0#32) 1#32 128#32))
                0#32))
            (Scalar.addi
              (Scalar.remsi (BitVec.ofNat 32 h.val)
                (Scalar.select (Scalar.cmpi CmpIPredicate.eq 128#32 0#32) 1#32 128#32))
              (Scalar.select (Scalar.cmpi CmpIPredicate.eq 128#32 0#32) 1#32 128#32))
            (Scalar.remsi (BitVec.ofNat 32 h.val)
              (Scalar.select (Scalar.cmpi CmpIPredicate.eq 128#32 0#32) 1#32 128#32))) = BitVec.ofNat 32 h.val := by
  revert h; decide +kernel

theorem pick (h : Nat) (hh : h < 128) (f : Fin 128 → EReal) :
    ∑ j : Fin 128, Scalar.select (IntOp.cmpi CmpIPredicate.eq (BitVec.ofNat 32 j.val) (BitVec.ofNat 32 h)) (f j) 0 = f ⟨h, hh⟩ := by
  rw [Finset.sum_eq_single ⟨h, hh⟩]
  · simp [IntOp.cmpi, Scalar.select]
  · intro j _ hj
    have : BitVec.ofNat 32 j.val ≠ BitVec.ofNat 32 h := by
      intro e
      have := congrArg BitVec.toNat e
      simp only [BitVec.toNat_ofNat] at this
      have h1 := j.isLt
      exact hj (Fin.ext (by show j.val = h; omega))
    simp [IntOp.cmpi, Scalar.select, beq_eq_false_iff_ne.mpr this]
  · simp

/-- The head of a grid point. -/
abbrev head (i : grid0.Coords) : Fin 32 := i 1

theorem pay63_at (i : grid0.Coords) (x : Vec Ideal S1x1024x128 .f32) (r : Fin 1024) (l : Fin 128) :
    k0_pay63 i x (ix2 r l) = x (ix3 0 r ⟨(head i).val, by have := (head i).isLt; omega⟩) := by
  pointwise [k0_pay63]
  refine (Finset.sum_congr rfl fun j _ => ?_).trans (pick (head i).val (by have := (head i).isLt; omega) (fun j => x (ix3 0 r j)))
  exact congrArg (fun w => Scalar.select (IntOp.cmpi CmpIPredicate.eq (BitVec.ofNat 32 j.val) w) (x (ix3 0 r j)) 0) (head_word (head i))

end Cert.KernelIdeal.Att
-- ==== Proof.Softmax.lean ====
/-
  The running softmax of one row over the extended reals: what the blocks read so far leave in the row's maximum,
  sum and accumulator.
-/
module

public import proofs.«01_k».proof.Proof.Step

@[expose] public section

set_option maxRecDepth 16384

noncomputable section

namespace Cert.KernelIdeal.Att

open Idealize.ShloMosaic Idealize.ShloMosaic.TcCoe Idealize.SL.Sem
open Cert.KernelIdeal Cert.KernelIdeal.Gen

/-- The exponential of a logit that is real or −∞, as a real number. -/
def wt (e : EReal) : ℝ := if e = ⊥ then 0 else Real.exp e.toReal

theorem wt_nonneg (e : EReal) : 0 ≤ wt e := by
  unfold wt; split
  · exact le_rfl
  · exact (Real.exp_pos _).le

theorem wt_pos {e : EReal} (h : e ≠ ⊥) : 0 < wt e := by
  rw [wt, if_neg h]; exact Real.exp_pos _

theorem exp_add_coe {e : EReal} (he : e ≠ ⊤) (a : ℝ) : Ideal.exp (e + (a : EReal)) = ((wt e * Real.exp a : ℝ) : EReal) := by
  induction e with
  | bot => simp [wt]
  | top => exact absurd rfl he
  | coe x =>
    rw [← EReal.coe_add, Ideal.exp_coe, Real.exp_add]
    simp [wt]

/-- A nonnegative real factor goes into a sum of extended reals. -/
theorem coe_mul_sum {ι : Type*} (s : Finset ι) (f : ι → EReal) {a : ℝ} (ha : 0 ≤ a) :
    (a : EReal) * ∑ i ∈ s, f i = ∑ i ∈ s, (a : EReal) * f i := by
  classical
  induction s using Finset.induction_on with
  | empty => simp
  | insert i s hi ih =>
    rw [Finset.sum_insert hi, Finset.sum_insert hi,
      EReal.left_distrib_of_nonneg_of_ne_top (by exact_mod_cast ha) (EReal.coe_ne_top a), ih]

theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem coe_mul_assoc (a b : ℝ) (x : EReal) : (a : EReal) * ((b : EReal) * x) = ((a * b : ℝ) : EReal) * x := by
  rw [EReal.coe_mul, mul_assoc]

/-- The terms of block `k`, one for each of its keys, added up. -/
abbrev blockSum {M : Type*} [AddCommMonoid M] (f : ℕ → M) (k : ℕ) : M :=
  ∑ c : Fin 8, ∑ x : Fin 128, f (k * 1024 + (c.val * 128 + x.val))

/-- What the first `n` blocks leave in row `r`: nothing yet, or a real maximum `M` with sums relative to it. -/
def Inv (r : Fin 1024) (cq : ℝ) (w : ℕ → ℝ) (V : ℕ → Fin 128 → EReal) (n : ℕ) (s : St Ideal) : Prop :=
  (n = 0 ∧ ∀ x : Fin 128, s.1 (ix2 r x) = (⊥ : EReal) ∧ s.2.1 (ix2 r x) = (0 : EReal) ∧ s.2.2 (ix2 r x) = (0 : EReal)) ∨
  ∃ M : ℝ, ∀ x : Fin 128, s.1 (ix2 r x) = (M : EReal)
    ∧ s.2.1 (ix2 r x) = ((Real.exp (cq - M) * ∑ k ∈ Finset.range n, ∑ c : Fin 8, w (k * 1024 + (c.val * 128 + x.val)) : ℝ) : EReal)
    ∧ s.2.2 (ix2 r x) = (Real.exp (cq - M) : EReal) * ∑ k ∈ Finset.range n, blockSum (fun t => (w t : EReal) * V t x) k

/-- The new maximum is real and the same on every lane. -/
theorem stepM_real (U : Fin 8 → FVec Ideal S1024x128 .f32) (cqb m : FVec Ideal S1024x128 .f32) (r : Fin 1024) (cq : ℝ)
    (hq : ∀ x : Fin 128, cqb (ix2 r x) = (cq : EReal)) (hU : ∀ c (x : Fin 128), U c (ix2 r x) ≠ (⊤ : EReal))
    (c0 : Fin 8) (x0 : Fin 128) (hB : U c0 (ix2 r x0) ≠ (⊥ : EReal)) (e : EReal) (he : e ≠ ⊤)
    (hm : ∀ x : Fin 128, m (ix2 r x) = e) :
    ∃ M : ℝ, ∀ x : Fin 128, stepM U cqb m (ix2 r x) = (M : EReal) := by
  set f : Fin 128 → EReal := fun x => max (max (max (max (max (max (max (U 0 (ix2 r x)) (U 1 (ix2 r x))) (U 2 (ix2 r x))) (U 3 (ix2 r x)))
            (U 4 (ix2 r x))) (U 5 (ix2 r x))) (U 6 (ix2 r x))) (U 7 (ix2 r x)) with hf
  have h1 : Finset.fold max (⊥ : EReal) f Finset.univ < ⊤ := by
    rw [Finset.fold_max_lt]
    refine ⟨bot_lt_top, fun x _ => ?_⟩
    simp only [hf, max_lt_iff]
    exact ⟨⟨⟨⟨⟨⟨⟨(hU 0 x).lt_top, (hU 1 x).lt_top⟩, (hU 2 x).lt_top⟩, (hU 3 x).lt_top⟩, (hU 4 x).lt_top⟩, (hU 5 x).lt_top⟩,
      (hU 6 x).lt_top⟩, (hU 7 x).lt_top⟩
  have h2 : (⊥ : EReal) < Finset.fold max (⊥ : EReal) f Finset.univ := by
    rw [Finset.lt_fold_max]
    refine Or.inr ⟨x0, Finset.mem_univ _, ?_⟩
    have hb : (⊥ : EReal) < U c0 (ix2 r x0) := bot_lt_iff_ne_bot.mpr hB
    simp only [hf, lt_max_iff]
    revert hb
    fin_cases c0 <;> intro hb <;> simp_all
  have key : ∀ x : Fin 128, stepM U cqb m (ix2 r x) = max e (Finset.fold max (⊥ : EReal) f Finset.univ + (cq : EReal)) := by
    intro x; rw [stepM_at, hm, hq]
  generalize Finset.fold max (⊥ : EReal) f Finset.univ = F at h1 h2 key
  lift F to ℝ using ⟨h1.ne, h2.ne'⟩
  rw [← EReal.coe_add] at key
  induction e with
  | bot => exact ⟨F + cq, fun x => by rw [key]; exact max_eq_right bot_le⟩
  | top => exact absurd rfl he
  | coe y => exact ⟨max y (F + cq), fun x => by rw [key]; exact (EReal.coe_strictMono.monotone.map_max).symm⟩

theorem wgt_real (U : Fin 8 → FVec Ideal S1024x128 .f32) (cqb M : FVec Ideal S1024x128 .f32) (r : Fin 1024) (c : Fin 8) (x : Fin 128)
    (cq μ : ℝ) (hq : cqb (ix2 r x) = (cq : EReal)) (hU : U c (ix2 r x) ≠ (⊤ : EReal)) (hM : M (ix2 r x) = (μ : EReal)) :
    wgt U cqb M r c x = ((wt (U c (ix2 r x)) * Real.exp (cq - μ) : ℝ) : EReal) := by
  rw [wgt, hq, hM, ← EReal.coe_sub]
  exact exp_add_coe hU _

/-- One trip takes the sums over `n` blocks to the sums over `n + 1`. -/
theorem step_inv (U : Fin 8 → FVec Ideal S1024x128 .f32) (vb : Vec Ideal S1x1024x128 .bf16) (cqb : FVec Ideal S1024x128 .f32)
    (s : St Ideal) (r : Fin 1024) (cq : ℝ) (w : ℕ → ℝ) (V : ℕ → Fin 128 → EReal) (n : ℕ)
    (hw : ∀ t, 0 ≤ w t)
    (hq : ∀ x : Fin 128, cqb (ix2 r x) = (cq : EReal)) (hU : ∀ c (x : Fin 128), U c (ix2 r x) ≠ (⊤ : EReal))
    (hUw : ∀ (c : Fin 8) (x : Fin 128), wt (U c (ix2 r x)) = w (n * 1024 + (c.val * 128 + x.val)))
    (c0 : Fin 8) (x0 : Fin 128) (hB : U c0 (ix2 r x0) ≠ (⊥ : EReal))
    (hV : ∀ (c : Fin 8) (x d : Fin 128), vb (ix3 0 (col c x) d) = V (n * 1024 + (c.val * 128 + x.val)) d)
    (hs : Inv r cq w V n s) : Inv r cq w V (n + 1) (step U vb cqb s) := by
  have hm : ∃ e : EReal, e ≠ ⊤ ∧ ∀ x : Fin 128, s.1 (ix2 r x) = e := by
    rcases hs with ⟨_, h⟩ | ⟨M, h⟩
    · exact ⟨⊥, bot_ne_top, fun x => (h x).1⟩
    · exact ⟨M, EReal.coe_ne_top M, fun x => (h x).1⟩
  obtain ⟨e, he, hm⟩ := hm
  obtain ⟨μ, hμ⟩ := stepM_real U cqb s.1 r cq hq hU c0 x0 hB e he hm
  refine Or.inr ⟨μ, fun x => ⟨hμ x, ?_, ?_⟩⟩
  · show stepL U cqb s.1 s.2.1 (ix2 r x) = _
    have e1 : ∑ c : Fin 8, wgt U cqb (stepM U cqb s.1) r c x
        = ((Real.exp (cq - μ) * ∑ c : Fin 8, w (n * 1024 + (c.val * 128 + x.val)) : ℝ) : EReal) := by
      rw [Finset.mul_sum, coe_sum]
      refine Finset.sum_congr rfl fun c _ => ?_
      rw [wgt_real U cqb _ r c x cq μ (hq x) (hU c x) (hμ x), hUw, mul_comm]
    rw [stepL_at, e1, hμ, Finset.sum_range_succ]
    rcases hs with ⟨rfl, h⟩ | ⟨M, h⟩
    · rw [(h x).2.1]; simp
    · rw [(h x).1, (h x).2.1, ← EReal.coe_sub, Ideal.exp_coe, ← EReal.coe_mul, ← EReal.coe_add]
      congr 1
      rw [← mul_assoc, ← Real.exp_add, show M - μ + (cq - M) = cq - μ by ring]
      ring
  · show stepA U vb cqb s.1 s.2.2 (ix2 r x) = _
    have e1 : ∑ c : Fin 8, ∑ y : Fin 128, wgt U cqb (stepM U cqb s.1) r c y * vb (ix3 0 (col c y) x)
        = (Real.exp (cq - μ) : EReal) * blockSum (fun t => (w t : EReal) * V t x) n := by
      rw [coe_mul_sum _ _ (Real.exp_pos _).le]
      refine Finset.sum_congr rfl fun c _ => ?_
      rw [coe_mul_sum _ _ (Real.exp_pos _).le]
      refine Finset.sum_congr rfl fun y _ => ?_
      rw [wgt_real U cqb _ r c y cq μ (hq y) (hU c y) (hμ y), hUw, hV, coe_mul_assoc, mul_comm (Real.exp _)]
    rw [stepA_at, e1, hμ, Finset.sum_range_succ,
      EReal.left_distrib_of_nonneg_of_ne_top (by exact_mod_cast (Real.exp_pos _).le) (EReal.coe_ne_top _)]
    congr 1
    rcases hs with ⟨rfl, h⟩ | ⟨M, h⟩
    · rw [(h x).2.2]; simp
    · rw [(h x).1, (h x).2.2, ← EReal.coe_sub, Ideal.exp_coe, coe_mul_assoc, ← Real.exp_add,
        show M - μ + (cq - M) = cq - μ by ring]

theorem blockSum_range {M : Type*} [AddCommMonoid M] (f : ℕ → M) (n : ℕ) :
    ∑ k ∈ Finset.range n, blockSum f k = ∑ t ∈ Finset.range (n * 1024), f t := by
  have key : ∀ g : ℕ → M, ∑ c : Fin 8, ∑ x : Fin 128, g (c.val * 128 + x.val) = ∑ t ∈ Finset.range 1024, g t := by
    intro g
    rw [Finset.sum_range, ← Fintype.sum_prod_type' (fun (c : Fin 8) (x : Fin 128) => g (c.val * 128 + x.val))]
    refine (Finset.sum_congr rfl fun p _ => ?_).trans (Equiv.sum_comp (finProdFinEquiv (m := 8) (n := 128)) fun j : Fin 1024 => g j.val)
    congr 1
    simp [finProdFinEquiv]; ring
  induction n with
  | zero => simp
  | succ n ih =>
    rw [Finset.sum_range_succ, ih, show (n + 1) * 1024 = n * 1024 + 1024 by ring, Finset.sum_range_add]
    congr 1
    exact key fun t => f (n * 1024 + t)

/-- The last quotient of the row: the weights divided by their sum, against the values. -/
theorem out_row (s : St Ideal) (r : Fin 1024) (cq : ℝ) (w : ℕ → ℝ) (V : ℕ → Fin 128 → EReal) (n : ℕ) (hn : n ≠ 0)
    (hw : ∀ t, 0 ≤ w t) (hpos : 0 < ∑ t ∈ Finset.range (n * 1024), w t)
    (hs : Inv r cq w V n s) (d : Fin 128) :
    (show EReal from k0_pay1 (F := Ideal) (k0_pay99 s.2.1) s.2.2 (ix3 0 r d))
      = (((∑ t ∈ Finset.range (n * 1024), w t)⁻¹ : ℝ) : EReal) * ∑ t ∈ Finset.range (n * 1024), (w t : EReal) * V t d := by
  rcases hs with ⟨h, _⟩ | ⟨M, h⟩
  · exact absurd h hn
  have hB : (∑ x : Fin 128, (show EReal from s.2.1 (ix2 r x)))
      = ((Real.exp (cq - M) * ∑ t ∈ Finset.range (n * 1024), w t : ℝ) : EReal) := by
    rw [← blockSum_range, Finset.mul_sum, coe_sum]
    rw [Finset.sum_congr rfl fun x _ => (h x).2.1, ← coe_sum, ← coe_sum]
    congr 1
    rw [← Finset.mul_sum, ← Finset.mul_sum]
    congr 1
    rw [Finset.sum_comm]
    exact Finset.sum_congr rfl fun k _ => Finset.sum_comm
  have hne : Real.exp (cq - M) * ∑ t ∈ Finset.range (n * 1024), w t ≠ 0 := (mul_pos (Real.exp_pos _) hpos).ne'
  rw [out_at, hB, (h d).2.2, blockSum_range, Ideal.div, if_neg (by exact_mod_cast hne), ← EReal.coe_inv, mul_comm, coe_mul_assoc]
  congr 2
  rw [mul_inv]
  field_simp

end Cert.KernelIdeal.Att
-- ==== Proof.Blocks.lean ====
/-
  The arrays the attention's windows stage, as functions of the arguments, and each window's block at an index.
-/
module

public import proofs.«01_k».proof.Proof.Body
public import Idealize.ShloMosaic.Lib.Pointwise
public import Idealize.ShloMosaic.Lib.Pipeline.ValueKit
public import Idealize.ShloMosaic.Lib.Claim

@[expose] public section

set_option maxRecDepth 16384

noncomputable section

namespace Cert.KernelIdeal.Att

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-- The argument arrays, at their literal shapes. -/
abbrev Q : FVec Ideal S2x4096x4096 .f32 := m ((c : Thread nD τ).loc main_arg0)
abbrev K : FVec Ideal S2x4096x4096 .f32 := m ((c : Thread nD τ).loc main_arg1)
abbrev W : FVec Ideal S2x4096x4096 .f32 := m ((c : Thread nD τ).loc main_arg2)
abbrev C : FVec Ideal S2x4096x32 .f32 := m ((c : Thread nD τ).loc main_arg3)

/-- The scale, the word both programs use. -/
abbrev scale : EReal := Ideal.ofBits FTy.f32 0x3DB504F3#32

/-- The three arrays side by side. -/
abbrev cat3 {F : FTy → Type} [FloatOps F] (x y z : FVec F S2x4096x4096 .bf16) : FVec F S2x4096x12288 .bf16 :=
  concatenate S2x4096x12288 2 [⟨S2x4096x4096, x⟩, ⟨S2x4096x4096, y⟩, ⟨S2x4096x4096, z⟩] concatenates_S2x4096x4096_S2x4096x4096_S2x4096x4096_S2x4096x12288_d2

/-- The scaled queries. -/
abbrev qs {F : FTy → Type} [FloatOps F] (x : FVec F S2x4096x4096 .f32) : FVec F S2x4096x4096 .bf16 :=
  truncf .bf16 (mulf x (broadcastInDim S2x4096x4096 ![] bcast_S_S2x4096x4096 (constant S_ .f32 0x3DB504F3#32))) bitsLt_bf16_f32

/-- The decay, padded to 128 lanes. -/
abbrev padC {F : FTy → Type} [FloatOps F] (x : FVec F S2x4096x32 .f32) : FVec F S2x4096x128 .f32 :=
  pad S2x4096x128 ![0, 0, 0] ![0, 0, 96] ![0, 0, 0] x (sitofp .f32 (constantI S_ 32 0#32)) pads_S2x4096x32_S2x4096x128_000_000_0960 h_S_

/-- The padded decay, a row for each head. -/
abbrev rowC {F : FTy → Type} [FloatOps F] (x : FVec F S2x4096x128 .f32) : FVec F S2x32x1x4096 .f32 :=
  broadcastInDim S2x32x1x4096 ![0, 1, 3] bcast_S2x32x4096_S2x32x1x4096_0_1_3
    (transpose S2x32x4096 [0, 2, 1] (extractStridedSlice S2x4096x32 ![0, 0, 0] x slices_S2x4096x128_S2x4096x32_0_0_0)
      transposes_S2x4096x32_S2x32x4096_0_2_1)

section
variable {F : FTy → Type} [FloatOps F] (m : (ℓ : Loc nD τ sig) → Buf (Elt F) ℓ) (c : Dev nD)

set_option maxHeartbeats 2000000 in
theorem v5_eq : V m c main_v5 = cat3 (F := F) (qs (m ((c : Thread nD τ).loc main_arg0)))
    (truncf .bf16 (m ((c : Thread nD τ).loc main_arg1) : FVec F S2x4096x4096 .f32) bitsLt_bf16_f32)
    (truncf .bf16 (m ((c : Thread nD τ).loc main_arg2) : FVec F S2x4096x4096 .f32) bitsLt_bf16_f32) := by
  simp only [V, hostOps0, hostOps0_1, hostOps0_2, List.flatten_cons, List.flatten_nil, List.append_nil, List.cons_append, List.nil_append]
  after_results
  rfl

set_option maxHeartbeats 2000000 in
theorem v6_eq : V m c main_v6 = padC (F := F) (m ((c : Thread nD τ).loc main_arg3)) := by
  simp only [V, hostOps0, hostOps0_1, hostOps0_2, List.flatten_cons, List.flatten_nil, List.append_nil, List.cons_append, List.nil_append]
  after_results
  rfl

set_option maxHeartbeats 2000000 in
theorem v9_eq : V m c main_v9 = rowC (padC (F := F) (m ((c : Thread nD τ).loc main_arg3))) := by
  simp only [V, hostOps0, hostOps0_1, hostOps0_2, List.flatten_cons, List.flatten_nil, List.append_nil, List.cons_append, List.nil_append]
  after_results
  rfl
end

theorem qs_at (x : FVec Ideal S2x4096x4096 .f32) (b : Fin 2) (s j : Fin 4096) :
    qs x (ix3 b s j) = (x (ix3 b s j) : EReal) * scale := by
  pointwise

theorem cat_q (x y z : FVec Ideal S2x4096x4096 .bf16) (b : Fin 2) (s j : Fin 4096) :
    cat3 x y z (ix3 b s ⟨j.val, by omega⟩) = x (ix3 b s j) := by
  unfold cat3
  pointwise

theorem cat_k (x y z : FVec Ideal S2x4096x4096 .bf16) (b : Fin 2) (s j : Fin 4096) :
    cat3 x y z (ix3 b s ⟨4096 + j.val, by omega⟩) = y (ix3 b s j) := by
  unfold cat3
  pointwise

theorem cat_v (x y z : FVec Ideal S2x4096x4096 .bf16) (b : Fin 2) (s j : Fin 4096) :
    cat3 x y z (ix3 b s ⟨8192 + j.val, by omega⟩) = z (ix3 b s j) := by
  unfold cat3
  pointwise
  rw [dif_neg (by omega), dif_neg (by omega)]
  exact congrArg (fun j => z (ix3 b s j)) (Fin.ext (by simp only []; omega))

theorem pad_at (x : FVec Ideal S2x4096x32 .f32) (b : Fin 2) (s : Fin 4096) (h : Fin 32) :
    padC x (ix3 b s ⟨h.val, by omega⟩) = x (ix3 b s h) := by
  pointwise

theorem row_at (x : FVec Ideal S2x4096x128 .f32) (b : Fin 2) (s : Fin 4096) (h : Fin 32) :
    rowC x (ix4 b h 0 s) = x (ix3 b s ⟨h.val, by omega⟩) := by
  pointwise

/-- The windows' index maps over the grid. -/
theorem idx : ∀ t : Fin cfg0.N,
    win0_0.index t = ![(grid0.coords t 0).val, (grid0.coords t 2).val, (grid0.coords t 1).val]
    ∧ win0_1.index t = ![(grid0.coords t 0).val, 0, (grid0.coords t 1).val + 32]
    ∧ win0_2.index t = ![(grid0.coords t 0).val, 0, (grid0.coords t 1).val + 64]
    ∧ win0_3.index t = ![(grid0.coords t 0).val, (grid0.coords t 2).val, 0]
    ∧ win0_4.index t = ![(grid0.coords t 0).val, (grid0.coords t 1).val, 0, 0]
    ∧ win0_5.index t = ![(grid0.coords t 0).val, (grid0.coords t 2).val, (grid0.coords t 1).val] :=
  (by decide +kernel : ∀ t : Fin grid0.N, _)

/-- A grid point's batch, head and query block. -/
abbrev bI (t : Fin cfg0.N) : Fin 2 := grid0.coords t 0
abbrev hI (t : Fin cfg0.N) : Fin 32 := grid0.coords t 1
abbrev qI (t : Fin cfg0.N) : Fin 4 := grid0.coords t 2

abbrev hd (h : Fin 32) (d : Fin 128) : Fin 4096 := ⟨h.val * 128 + d.val, by omega⟩
abbrev rowI (q : Fin 4) (r : Fin 1024) : Fin 4096 := ⟨q.val * 1024 + r.val, by omega⟩

variable (t : Fin cfg0.N)

theorem x0_at (r : Fin 1024) (d : Fin 128) :
    (show FVec Ideal S1x1024x128 .bf16 from iblk m c 0 t) (ix3 0 r d)
      = (Q m c (ix3 (bI t) (rowI (qI t) r) (hd (hI t) d)) : EReal) * scale := by
  have e : (show FVec Ideal S1x1024x128 .bf16 from iblk m c 0 t) (ix3 0 r d)
      = (show FVec Ideal S2x4096x12288 .bf16 from V m c main_v5) (ix3 (bI t) (rowI (qI t) r) ⟨(hd (hI t) d).val, by omega⟩) := by
    have h0 : (grid0.coords t 0).val = (bI t).val := rfl
    have h1 : (grid0.coords t 1).val = (hI t).val := rfl
    blk_ext [iblk, idx t] <;> omega
  rw [e, v5_eq]
  exact (cat_q _ _ _ _ _ _).trans (qs_at _ _ _ _)

theorem x1_at (s : Fin 4096) (d : Fin 128) :
    (show FVec Ideal S1x4096x128 .bf16 from iblk m c 1 t) (ix3 0 s d) = K m c (ix3 (bI t) s (hd (hI t) d)) := by
  have e : (show FVec Ideal S1x4096x128 .bf16 from iblk m c 1 t) (ix3 0 s d)
      = (show FVec Ideal S2x4096x12288 .bf16 from V m c main_v5) (ix3 (bI t) s ⟨4096 + (hd (hI t) d).val, by omega⟩) := by
    have h0 : (grid0.coords t 0).val = (bI t).val := rfl
    have h1 : (grid0.coords t 1).val = (hI t).val := rfl
    blk_ext [iblk, idx t] <;> omega
  rw [e, v5_eq]
  exact cat_k _ _ _ _ _ _

theorem x2_at (s : Fin 4096) (d : Fin 128) :
    (show FVec Ideal S1x4096x128 .bf16 from iblk m c 2 t) (ix3 0 s d) = W m c (ix3 (bI t) s (hd (hI t) d)) := by
  have e : (show FVec Ideal S1x4096x128 .bf16 from iblk m c 2 t) (ix3 0 s d)
      = (show FVec Ideal S2x4096x12288 .bf16 from V m c main_v5) (ix3 (bI t) s ⟨8192 + (hd (hI t) d).val, by omega⟩) := by
    have h0 : (grid0.coords t 0).val = (bI t).val := rfl
    have h1 : (grid0.coords t 1).val = (hI t).val := rfl
    blk_ext [iblk, idx t] <;> omega
  rw [e, v5_eq]
  exact cat_v _ _ _ _ _ _

theorem x3_at (r : Fin 1024) (h : Fin 32) :
    (show FVec Ideal S1x1024x128 .f32 from iblk m c 3 t) (ix3 0 r ⟨h.val, by omega⟩)
      = C m c (ix3 (bI t) (rowI (qI t) r) h) := by
  have e : (show FVec Ideal S1x1024x128 .f32 from iblk m c 3 t) (ix3 0 r ⟨h.val, by omega⟩)
      = (show FVec Ideal S2x4096x128 .f32 from V m c main_v6) (ix3 (bI t) (rowI (qI t) r) ⟨h.val, by omega⟩) := by
    have h0 : (grid0.coords t 0).val = (bI t).val := rfl
    have h1 : (grid0.coords t 1).val = (hI t).val := rfl
    blk_ext [iblk, idx t] <;> omega
  rw [e, v6_eq]
  exact pad_at _ _ _ _

theorem x4_at (s : Fin 4096) :
    (show FVec Ideal S1x1x1x4096 .f32 from iblk m c 4 t) (ix4 0 0 0 s) = C m c (ix3 (bI t) s (hI t)) := by
  have e : (show FVec Ideal S1x1x1x4096 .f32 from iblk m c 4 t) (ix4 0 0 0 s)
      = (show FVec Ideal S2x32x1x4096 .f32 from V m c main_v9) (ix4 (bI t) (hI t) 0 s) := by
    have h0 : (grid0.coords t 0).val = (bI t).val := rfl
    have h1 : (grid0.coords t 1).val = (hI t).val := rfl
    blk_ext [iblk, idx t] <;> omega
  rw [e, v9_eq]
  exact (row_at _ _ _ _).trans (pad_at _ _ _ _)

/-! The rows a trip reads out of the staged blocks. -/

theorem off1 (i : grid0.Coords) (k : Fin (k0_t1_loop i).trips) : k0_off1 i k = ![0, k.val * 1024, 0] := by
  have key : ∀ n : Fin 4, (Scalar.indexCast (Scalar.muli (Scf.iv 0#32 1#32 n.val) 1024#32) : Index).toNat = n.val * 1024 := by decide +kernel
  have hk : k.val < 4 := by have := k.isLt; have := trips1 i; have : (i 2).val < 4 := (i 2).isLt; omega
  unfold k0_off1
  exact congrArg (fun n => ![0, n, 0]) (key ⟨k.val, hk⟩)

theorem off2 (i : grid0.Coords) (k : Fin (k0_t1_loop i).trips) : k0_off2 i k = ![0, 0, 0, k.val * 1024] := by
  have key : ∀ n : Fin 4, (Scalar.indexCast (Scalar.muli (Scf.iv 0#32 1#32 n.val) 1024#32) : Index).toNat = n.val * 1024 := by decide +kernel
  have hk : k.val < 4 := by have := k.isLt; have := trips1 i; have : (i 2).val < 4 := (i 2).isLt; omega
  unfold k0_off2
  exact congrArg (fun n => ![0, 0, 0, n]) (key ⟨k.val, hk⟩)

theorem off5 (i : grid0.Coords) : k0_off5 i = ![0, (i 2).val * 1024, 0] := by
  have key : ∀ n : Fin 4, (Scalar.indexCast (Scalar.muli (BitVec.ofNat 32 n.val) 1024#32) : Index).toNat = n.val * 1024 := by decide +kernel
  unfold k0_off5
  exact congrArg (fun n => ![0, n, 0]) (key (i 2))

theorem off6 (i : grid0.Coords) : k0_off6 i = ![0, 0, 0, (i 2).val * 1024] := by
  have key : ∀ n : Fin 4, (Scalar.indexCast (Scalar.muli (BitVec.ofNat 32 n.val) 1024#32) : Index).toNat = n.val * 1024 := by decide +kernel
  unfold k0_off6
  exact congrArg (fun n => ![0, 0, 0, n]) (key (i 2))

theorem keys_at (x : Vec Ideal S1x4096x128 .bf16) (i : grid0.Coords) (k : Fin (k0_t1_loop i).trips) (j : Fin 1024)
    (d : Fin 128) (s : Fin 4096) (hs : s.val = k.val * 1024 + j.val) : keys x i k (ix3 0 j d) = x (ix3 0 s d) := by
  refine View.ld_unit_apply_of x _ _ _ _ (ix3 0 s d) fun a => ?_
  refine Eq.trans ?_ (congrArg (· + _) (congrFun (off1 i k) a).symm)
  fin_cases a <;> simp [ix3, hs]

theorem decay_at (x : Vec Ideal S1x1x1x4096 .f32) (i : grid0.Coords) (k : Fin (k0_t1_loop i).trips) (j : Fin 1024)
    (s : Fin 4096) (hs : s.val = k.val * 1024 + j.val) : decay x i k (ix4 0 0 0 j) = x (ix4 0 0 0 s) := by
  refine View.ld_unit_apply_of x _ _ _ _ (ix4 0 0 0 s) fun a => ?_
  refine Eq.trans ?_ (congrArg (· + _) (congrFun (off2 i k) a).symm)
  fin_cases a <;> simp [ix4, hs]

theorem keysD_at (x : Vec Ideal S1x4096x128 .bf16) (i : grid0.Coords) (j : Fin 1024)
    (d : Fin 128) (s : Fin 4096) (hs : s.val = (i 2).val * 1024 + j.val) : keysD x i (ix3 0 j d) = x (ix3 0 s d) := by
  refine View.ld_unit_apply_of x _ _ _ _ (ix3 0 s d) fun a => ?_
  refine Eq.trans ?_ (congrArg (· + _) (congrFun (off5 i) a).symm)
  fin_cases a <;> simp [ix3, hs]

theorem decayD_at (x : Vec Ideal S1x1x1x4096 .f32) (i : grid0.Coords) (j : Fin 1024)
    (s : Fin 4096) (hs : s.val = (i 2).val * 1024 + j.val) : decayD x i (ix4 0 0 0 j) = x (ix4 0 0 0 s) := by
  refine View.ld_unit_apply_of x _ _ _ _ (ix4 0 0 0 s) fun a => ?_
  refine Eq.trans ?_ (congrArg (· + _) (congrFun (off6 i) a).symm)
  fin_cases a <;> simp [ix4, hs]

end Cert.KernelIdeal.Att
-- ==== Proof.Row.lean ====
/-
  One row of one block of the kernel's result: the quotient of sums over the keys up to the row.
-/
module

public import proofs.«01_k».proof.Proof.Softmax
public import proofs.«01_k».proof.Proof.Blocks

@[expose] public section

set_option maxRecDepth 16384

noncomputable section

namespace Cert.KernelIdeal.Att

open Idealize.ShloMosaic Idealize.ShloMosaic.TcCoe Idealize.SL.Sem
open Cert.KernelIdeal Cert.KernelIdeal.Gen

/-- The weight of key `s` for a row at position `R` with logits `e`: zero past the row and past the array. -/
def rowW (e : Fin 4096 → ℝ) (R : ℕ) (s : ℕ) : ℝ :=
  if h : s < 4096 then (if s ≤ R then Real.exp (e ⟨s, h⟩) else 0) else 0

/-- The values, continued by zero. -/
def rowV (v : Fin 4096 → Fin 128 → EReal) (s : ℕ) (d : Fin 128) : EReal :=
  if h : s < 4096 then v ⟨s, h⟩ d else 0

theorem rowW_nonneg (e : Fin 4096 → ℝ) (R s : ℕ) : 0 ≤ rowW e R s := by
  unfold rowW; split_ifs <;> first | exact (Real.exp_pos _).le | exact le_rfl

theorem rowW_of_le (e : Fin 4096 → ℝ) (R : ℕ) (s : Fin 4096) (h : s.val ≤ R) : rowW e R s.val = Real.exp (e s) := by
  unfold rowW; rw [dif_pos s.isLt, if_pos h]

theorem rowW_of_lt (e : Fin 4096 → ℝ) (R s : ℕ) (h : R < s) : rowW e R s = 0 := by
  unfold rowW; split_ifs <;> first | omega | rfl

theorem wt_coe (a : ℝ) : wt (a : EReal) = Real.exp a := by
  rw [wt, if_neg (EReal.coe_ne_bot a), EReal.toReal_coe]

theorem wt_bot : wt ⊥ = 0 := if_pos rfl

section
variable (i : grid0.Coords) (x0 : Vec Ideal S1x1024x128 .bf16) (x1 x2 : Vec Ideal S1x4096x128 .bf16)
  (x3 : Vec Ideal S1x1024x128 .f32) (x4 : Vec Ideal S1x1x1x4096 .f32)
  (r : Fin 1024) (e : Fin 4096 → ℝ) (cq : ℝ) (v : Fin 4096 → Fin 128 → EReal)
  (he : ∀ s : Fin 4096, (∑ d : Fin 128, (show EReal from x0 (ix3 0 r d)) * x1 (ix3 0 s d)) - x4 (ix4 0 0 0 s) = (e s : EReal))
  (hcq : ∀ x : Fin 128, k0_pay63 i x3 (ix2 r x) = (cq : EReal))
  (hv : ∀ (s : Fin 4096) (d : Fin 128), x2 (ix3 0 s d) = v s d)

include he hcq hv

theorem fold_inv : ∀ (n : ℕ) (h : n ≤ (k0_t1_loop i).trips),
    Inv r cq (rowW e ((i 2).val * 1024 + r.val)) (rowV v) n
      (fold i x0 x1 x2 x4 (k0_pay63 i x3) (k0_pay60 (F := Ideal), k0_pay61 (F := Ideal), k0_pay62 (F := Ideal)) n h)
  | 0, _ => by
    refine Or.inl ⟨rfl, fun x => ⟨?_, ?_, ?_⟩⟩
    · show k0_pay60 (F := Ideal) (ix2 r x) = _
      exact bot_word
    · show k0_pay61 (F := Ideal) (ix2 r x) = _
      pointwise [k0_pay61]
    · show k0_pay62 (F := Ideal) (ix2 r x) = _
      pointwise [k0_pay62]
  | n + 1, h => by
    have hn : n < (i 2).val := by have := trips1 i; omega
    have h4 : (i 2).val < 4 := (i 2).isLt
    have hr := r.isLt
    have hU : ∀ (c : Fin 8) (x : Fin 128), chunks (keys x1 i ⟨n, h⟩) (decay x4 i ⟨n, h⟩) x0 c (ix2 r x)
        = (e ⟨n * 1024 + (c.val * 128 + x.val), by omega⟩ : EReal) := by
      intro c x
      rw [chunks_at, lgt, ← he]
      refine congrArg₂ (· - ·) (Finset.sum_congr rfl fun d _ => congrArg (_ * ·) ?_) ?_
      · exact keys_at x1 i ⟨n, h⟩ (col c x) d _ rfl
      · exact decay_at x4 i ⟨n, h⟩ (col c x) _ rfl
    refine step_inv _ _ _ _ r cq _ _ n (rowW_nonneg _ _) hcq ?_ ?_ 0 0 ?_ ?_ (fold_inv n _)
    · intro c x; rw [hU]; exact EReal.coe_ne_top _
    · intro c x
      rw [hU, wt_coe]
      exact (rowW_of_le e _ ⟨n * 1024 + (c.val * 128 + x.val), by omega⟩ (by simp only []; omega)).symm
    · rw [hU]; exact EReal.coe_ne_bot _
    · intro c x d
      rw [rowV, dif_pos (by omega), ← hv]
      exact keys_at x2 i ⟨n, h⟩ (col c x) d _ rfl

/-- A row of the block: the keys' values weighted, over the sum of the weights. -/
theorem block_row (d : Fin 128) :
    (show EReal from blockOut i x0 x1 x2 x3 x4 (ix3 0 r d))
      = (((∑ s ∈ Finset.range (((i 2).val + 1) * 1024), rowW e ((i 2).val * 1024 + r.val) s)⁻¹ : ℝ) : EReal)
        * ∑ s ∈ Finset.range (((i 2).val + 1) * 1024), (rowW e ((i 2).val * 1024 + r.val) s : EReal) * rowV v s d := by
  have h4 : (i 2).val < 4 := (i 2).isLt
  have hr := r.isLt
  have hU : ∀ (c : Fin 8) (x : Fin 128), chunksM (keysD x1 i) (decayD x4 i) x0 c (ix2 r x)
      = if (col c x).val ≤ r.val then (e ⟨(i 2).val * 1024 + (c.val * 128 + x.val), by omega⟩ : EReal) else ⊥ := by
    intro c x
    rw [chunksM_at, lgt, ← he]
    refine if_congr Iff.rfl (congrArg₂ (· - ·) (Finset.sum_congr rfl fun d _ => congrArg (_ * ·) ?_) ?_) rfl
    · exact keysD_at x1 i (col c x) d _ rfl
    · exact decayD_at x4 i (col c x) _ rfl
  have hi : Inv r cq (rowW e ((i 2).val * 1024 + r.val)) (rowV v) ((i 2).val + 1)
      (step (chunksM (keysD x1 i) (decayD x4 i) x0) (keysD x2 i) (k0_pay63 i x3)
        (fold i x0 x1 x2 x4 (k0_pay63 i x3) (k0_pay60 (F := Ideal), k0_pay61 (F := Ideal), k0_pay62 (F := Ideal)) (k0_t1_loop i).trips le_rfl)) := by
    have hf := fold_inv i x0 x1 x2 x3 x4 r e cq v he hcq hv (k0_t1_loop i).trips le_rfl
    rw [show Inv r cq (rowW e ((i 2).val * 1024 + r.val)) (rowV v) (k0_t1_loop i).trips = Inv r cq (rowW e ((i 2).val * 1024 + r.val)) (rowV v) (i 2).val from
      congrArg (Inv r cq (rowW e ((i 2).val * 1024 + r.val)) (rowV v)) (trips1 i)] at hf
    refine step_inv _ _ _ _ r cq _ _ _ (rowW_nonneg _ _) hcq ?_ ?_ 0 0 ?_ ?_ hf
    · intro c x; rw [hU]; split_ifs
      · exact EReal.coe_ne_top _
      · exact bot_ne_top
    · intro c x
      rw [hU]
      split_ifs with hc
      · rw [wt_coe]
        exact (rowW_of_le e _ ⟨(i 2).val * 1024 + (c.val * 128 + x.val), by omega⟩ (by simp only [] at hc ⊢; omega)).symm
      · rw [wt_bot]
        exact (rowW_of_lt e _ _ (by simp only [] at hc ⊢; omega)).symm
    · rw [hU, if_pos (by simp)]; exact EReal.coe_ne_bot _
    · intro c x d
      rw [rowV, dif_pos (by omega), ← hv]
      exact keysD_at x2 i (col c x) d _ rfl
  refine out_row _ r cq _ _ _ (Nat.succ_ne_zero _) (rowW_nonneg _ _) ?_ hi d
  refine Finset.sum_pos' (fun s _ => rowW_nonneg _ _ s) ⟨0, Finset.mem_range.mpr (by omega), ?_⟩
  exact (Real.exp_pos _).trans_eq (rowW_of_le e _ ⟨0, by omega⟩ (Nat.zero_le _)).symm

end

/-- The sums run over all the keys: past the row the weights are zero. -/
theorem sum_rows {M : Type*} [AddCommMonoid M] (n R : ℕ) (hn : n ≤ 4096) (hR : R < n) (f : ℕ → M) (hf : ∀ s, R < s → f s = 0) :
    ∑ s ∈ Finset.range n, f s = ∑ s : Fin 4096, f s.val := by
  rw [← Finset.sum_range (n := 4096) f]
  exact Finset.sum_subset (Finset.range_subset_range.mpr hn) fun s _ hs => hf s (by simp only [Finset.mem_range] at hs; omega)

end Cert.KernelIdeal.Att
-- ==== Proof.RefAt.lean ====
/-
  The reference attention read at an index: logits, row maximum, exponentials, their sum and the weighted values.
-/
module

public import proofs.«01_k».proof.Proof.Gen.ReferenceIdeal.Run
public import Idealize.ShloMosaic.Lib.Pointwise

@[expose] public section

set_option maxRecDepth 16384

noncomputable section

namespace Cert.ReferenceIdeal.Att

open Idealize.ShloMosaic Idealize.ShloMosaic.TcCoe Idealize.SL.Sem
open Cert.ReferenceIdeal Cert.ReferenceIdeal.Gen Cert.ReferenceIdeal.Value

section
variable {F : FTy → Type} [FloatOps F]

/-- The masked logits. -/
def lgR (q k : FVec F S2x4096x4096 .f32) (cum : FVec F S2x4096x32 .f32) : FVec F S2x32x4096x4096 .f32 :=
  select (broadcastInDim S2x32x4096x4096 ![2, 3] bcast_S4096x4096_S2x32x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) (addf (mulf (Host.dotGeneral dot_S2x4096x32x128_S2x4096x32x128_S2x32x4096x4096_3_3_1_1_02_02 none (shapeCast _ q shapeCasts_S2x4096x4096_S2x4096x32x128) (shapeCast _ k shapeCasts_S2x4096x4096_S2x4096x32x128)) (broadcastInDim S2x32x4096x4096 ![] bcast_S_S2x32x4096x4096 (constant S_ .f32 0x3DB504F3#32))) (subf (broadcastInDim S2x32x4096x4096 ![0, 1, 2, 3] bcast_S2x32x4096x1_S2x32x4096x4096_0_1_2_3 (broadcastInDim S2x32x4096x1 ![0, 1, 2] bcast_S2x32x4096_S2x32x4096x1_0_1_2 (transpose S2x32x4096 [0, 2, 1] cum transposes_S2x4096x32_S2x32x4096_0_2_1))) (broadcastInDim S2x32x4096x4096 ![0, 1, 2, 3] bcast_S2x32x1x4096_S2x32x4096x4096_0_1_2_3 (broadcastInDim S2x32x1x4096 ![0, 1, 3] bcast_S2x32x4096_S2x32x1x4096_0_1_3 (transpose S2x32x4096 [0, 2, 1] cum transposes_S2x4096x32_S2x32x4096_0_2_1))))) (broadcastInDim S2x32x4096x4096 ![] bcast_S_S2x32x4096x4096 (id (constant S_ .f32 0xFF800000#32)))
/-- The row maxima of logits `L`. -/
def mxR (L : FVec F S2x32x4096x4096 .f32) : FVec F S2x32x4096 .f32 :=
  maximumf (broadcastInDim S2x32x4096 ![] bcast_S_S2x32x4096 (constant S_ .f32 0xFF800000#32)) (Host.reduce FloatOps.maximumf L (constant S_ .f32 0xFF800000#32) reducesTo_S2x32x4096x4096_S2x32x4096_d3 h_S_)
/-- The exponentials of logits `L` relative to maxima `M`. -/
def exR (L : FVec F S2x32x4096x4096 .f32) (M : FVec F S2x32x4096 .f32) : FVec F S2x32x4096x4096 .f32 :=
  Host.exp (subf L (broadcastInDim S2x32x4096x4096 ![0, 1, 2, 3] bcast_S2x32x4096x1_S2x32x4096x4096_0_1_2_3 (broadcastInDim S2x32x4096x1 ![0, 1, 2] bcast_S2x32x4096_S2x32x4096x1_0_1_2 M)))
/-- The row sums of `E`. -/
def smR (E : FVec F S2x32x4096x4096 .f32) : FVec F S2x32x4096 .f32 :=
  Host.reduceAdd E (constant S_ .f32 0x00000000#32) reducesTo_S2x32x4096x4096_S2x32x4096_d3 h_S_
/-- The quotients of `E` by row sums `S`. -/
def pR (E : FVec F S2x32x4096x4096 .f32) (S : FVec F S2x32x4096 .f32) : FVec F S2x32x4096x4096 .f32 :=
  Host.divf E (broadcastInDim S2x32x4096x4096 ![0, 1, 2, 3] bcast_S2x32x4096x1_S2x32x4096x4096_0_1_2_3 (broadcastInDim S2x32x4096x1 ![0, 1, 2] bcast_S2x32x4096_S2x32x4096x1_0_1_2 S))
/-- The values `v` weighted by `P`. -/
def outR (P : FVec F S2x32x4096x4096 .f32) (v : FVec F S2x4096x4096 .f32) : FVec F S2x4096x4096 .bf16 :=
  truncf .bf16 (shapeCast _ (transpose S2x4096x32x128 [0, 3, 1, 2] (Host.dotGeneral dot_S2x4096x32x128_S2x32x4096x4096_S2x32x128x4096_1_3_3_2_02_01 none (shapeCast _ v shapeCasts_S2x4096x4096_S2x4096x32x128) P) transposes_S2x32x128x4096_S2x4096x32x128_0_3_1_2) shapeCasts_S2x4096x32x128_S2x4096x4096) bitsLt_bf16_f32

end

theorem outR_at (P : FVec Ideal S2x32x4096x4096 .f32) (v : FVec Ideal S2x4096x4096 .f32) (b : Fin 2) (r j : Fin 4096) :
    outR P v (ix3 b r j) = ∑ x : Fin 4096, (show EReal from v (ix3 b x j)) * P (ix4 b ⟨j.val / 128, by omega⟩ r x) := by
  pointwise [outR]

theorem pR_at (E : FVec Ideal S2x32x4096x4096 .f32) (S : FVec Ideal S2x32x4096 .f32) (b : Fin 2) (h : Fin 32) (r t : Fin 4096) :
    pR E S (ix4 b h r t) = Ideal.div (E (ix4 b h r t)) (S (ix3 b h r)) := by
  pointwise [pR]

theorem smR_at (E : FVec Ideal S2x32x4096x4096 .f32) (b : Fin 2) (h : Fin 32) (r : Fin 4096) :
    smR E (ix3 b h r) = ∑ t : Fin 4096, (show EReal from E (ix4 b h r t)) := by
  pointwise [smR]

theorem exR_at (L : FVec Ideal S2x32x4096x4096 .f32) (M : FVec Ideal S2x32x4096 .f32) (b : Fin 2) (h : Fin 32) (r t : Fin 4096) :
    exR L M (ix4 b h r t) = Ideal.exp (L (ix4 b h r t) - M (ix3 b h r)) := by
  pointwise [exR]

theorem redR_at (L : FVec Ideal S2x32x4096x4096 .f32) (b : Fin 2) (h : Fin 32) (r : Fin 4096) :
    (Host.reduce FloatOps.maximumf L (constant S_ .f32 0xFF800000#32) reducesTo_S2x32x4096x4096_S2x32x4096_d3 h_S_) (ix3 b h r)
      = Finset.univ.fold max (Ideal.ofBits .f32 0xFF800000#32) fun t => L (ix4 b h r t) := by
  pointwise

theorem maxR_at (X : FVec Ideal S2x32x4096 .f32) (b : Fin 2) (h : Fin 32) (r : Fin 4096) :
    maximumf (broadcastInDim S2x32x4096 ![] bcast_S_S2x32x4096 (constant S_ .f32 0xFF800000#32)) X (ix3 b h r)
      = max (Ideal.ofBits .f32 0xFF800000#32) (X (ix3 b h r)) := by
  pointwise

theorem mxR_at (L : FVec Ideal S2x32x4096x4096 .f32) (b : Fin 2) (h : Fin 32) (r : Fin 4096) :
    mxR L (ix3 b h r) = max (Ideal.ofBits .f32 0xFF800000#32) (Finset.univ.fold max (Ideal.ofBits .f32 0xFF800000#32) fun t => L (ix4 b h r t)) :=
  (maxR_at _ b h r).trans (congrArg (max (Ideal.ofBits .f32 0xFF800000#32)) (redR_at L b h r))

theorem lgR_at (q k : FVec Ideal S2x4096x4096 .f32) (cum : FVec Ideal S2x4096x32 .f32) (b : Fin 2) (h : Fin 32) (r t : Fin 4096) :
    lgR q k cum (ix4 b h r t) = Scalar.select (IntOp.cmpi CmpIPredicate.sle (BitVec.ofNat 32 t.val) (BitVec.ofNat 32 r.val))
      (((∑ x : Fin 128, (show EReal from q (ix3 b r ⟨h.val * 128 + x.val, by omega⟩)) * k (ix3 b t ⟨h.val * 128 + x.val, by omega⟩)) * Ideal.ofBits FTy.f32 0x3DB504F3#32 +
        (cum (ix3 b r h) - cum (ix3 b t h)) : EReal))
      (Ideal.ofBits FTy.f32 0xFF800000#32) := by
  pointwise [lgR]
  rfl

section
variable {F : FTy → Type} [FloatOps F] (m : (ℓ : Loc nD τ sig) → Buf (Elt F) ℓ) (c : Dev nD)

/-- The masked logits of the argument arrays. -/
def lgM : FVec F S2x32x4096x4096 .f32 :=
  select (broadcastInDim S2x32x4096x4096 ![2, 3] bcast_S4096x4096_S2x32x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) (addf (mulf (Host.dotGeneral dot_S2x4096x32x128_S2x4096x32x128_S2x32x4096x4096_3_3_1_1_02_02 none (shapeCast _ (m ((c.tc : Thread nD τ).loc main_arg0)) shapeCasts_S2x4096x4096_S2x4096x32x128) (shapeCast _ (m ((c.tc : Thread nD τ).loc main_arg1)) shapeCasts_S2x4096x4096_S2x4096x32x128)) (broadcastInDim S2x32x4096x4096 ![] bcast_S_S2x32x4096x4096 (constant S_ .f32 0x3DB504F3#32))) (subf (broadcastInDim S2x32x4096x4096 ![0, 1, 2, 3] bcast_S2x32x4096x1_S2x32x4096x4096_0_1_2_3 (broadcastInDim S2x32x4096x1 ![0, 1, 2] bcast_S2x32x4096_S2x32x4096x1_0_1_2 (transpose S2x32x4096 [0, 2, 1] (m ((c.tc : Thread nD τ).loc main_arg3)) transposes_S2x4096x32_S2x32x4096_0_2_1))) (broadcastInDim S2x32x4096x4096 ![0, 1, 2, 3] bcast_S2x32x1x4096_S2x32x4096x4096_0_1_2_3 (broadcastInDim S2x32x1x4096 ![0, 1, 3] bcast_S2x32x4096_S2x32x1x4096_0_1_3 (transpose S2x32x4096 [0, 2, 1] (m ((c.tc : Thread nD τ).loc main_arg3)) transposes_S2x4096x32_S2x32x4096_0_2_1))))) (broadcastInDim S2x32x4096x4096 ![] bcast_S_S2x32x4096x4096 (id (constant S_ .f32 0xFF800000#32)))

/-- The argument values weighted by `P`. -/
def outM (P : FVec F S2x32x4096x4096 .f32) : FVec F S2x4096x4096 .bf16 :=
  truncf .bf16 (shapeCast _ (transpose S2x4096x32x128 [0, 3, 1, 2] (Host.dotGeneral dot_S2x4096x32x128_S2x32x4096x4096_S2x32x128x4096_1_3_3_2_02_01 none (shapeCast _ (m ((c.tc : Thread nD τ).loc main_arg2)) shapeCasts_S2x4096x4096_S2x4096x32x128) P) transposes_S2x32x128x4096_S2x4096x32x128_0_3_1_2) shapeCasts_S2x4096x32x128_S2x4096x4096) bitsLt_bf16_f32

theorem lgM_eq : lgM m c = lgR (m ((c.tc : Thread nD τ).loc main_arg0)) (m ((c.tc : Thread nD τ).loc main_arg1)) (m ((c.tc : Thread nD τ).loc main_arg3)) := rfl

theorem outM_eq (P : FVec F S2x32x4096x4096 .f32) : outM m c P = outR P (m ((c.tc : Thread nD τ).loc main_arg2)) := rfl

theorem res_eqM (L : FVec F S2x32x4096x4096 .f32) (hL : lgM m c = L) : res_main_v34 m c = outM m c (pR (exR L (mxR L)) (smR (exR L (mxR L)))) := by
  subst hL
  unfold res_main_v34 outM pR smR exR mxR lgM
  with_reducible_and_instances rfl

end

end Cert.ReferenceIdeal.Att
-- ==== Proof.RefRow.lean ====
/-
  One row of the reference's attention: the quotient of sums over the keys up to the row.
-/
module

public import proofs.«01_k».proof.Proof.Row
public import proofs.«01_k».proof.Proof.RefAt

@[expose] public section

set_option maxRecDepth 16384

noncomputable section

namespace Cert.ReferenceIdeal.Att

open Idealize.ShloMosaic Idealize.ShloMosaic.TcCoe Idealize.SL.Sem
open Cert.ReferenceIdeal
open Cert.KernelIdeal.Att (wt wt_nonneg wt_pos wt_coe wt_bot exp_add_coe coe_sum coe_mul_sum coe_mul_assoc rowW rowW_nonneg rowW_of_le rowW_of_lt bot_word)

/-- The maximum of a row with a real entry and none +∞ is real. -/
theorem max_real (L : Fin 4096 → EReal) (hT : ∀ t, L t ≠ ⊤) (t0 : Fin 4096) (h0 : L t0 ≠ ⊥) :
    ∃ μ : ℝ, max (⊥ : EReal) (Finset.univ.fold max (⊥ : EReal) L) = (μ : EReal) := by
  have h1 : Finset.univ.fold max (⊥ : EReal) L < ⊤ := by
    rw [Finset.fold_max_lt]; exact ⟨bot_lt_top, fun t _ => (hT t).lt_top⟩
  have h2 : (⊥ : EReal) < Finset.univ.fold max (⊥ : EReal) L := by
    rw [Finset.lt_fold_max]; exact Or.inr ⟨t0, Finset.mem_univ _, bot_lt_iff_ne_bot.mpr h0⟩
  rw [max_eq_right bot_le]
  generalize Finset.univ.fold max (⊥ : EReal) L = F at h1 h2
  lift F to ℝ using ⟨h1.ne, h2.ne'⟩
  exact ⟨F, rfl⟩

/-- A common positive factor of the weights cancels. -/
theorem cancel (w : Fin 4096 → ℝ) (v : Fin 4096 → EReal) (a : ℝ) (ha : 0 < a) :
    ((((∑ t, a * w t)⁻¹ : ℝ) : EReal) * ∑ t, ((a * w t : ℝ) : EReal) * v t)
      = (((∑ t, w t)⁻¹ : ℝ) : EReal) * ∑ t, (w t : EReal) * v t := by
  have e : ∑ t, ((a * w t : ℝ) : EReal) * v t = (a : EReal) * ∑ t, (w t : EReal) * v t := by
    rw [coe_mul_sum _ _ ha.le]
    exact Finset.sum_congr rfl fun t _ => (coe_mul_assoc _ _ _).symm
  rw [e, coe_mul_assoc, ← Finset.mul_sum]
  congr 2
  rw [mul_inv]
  field_simp

/-- The softmax of the row, weighting `v`. -/
theorem soft_row (L v : Fin 4096 → EReal) (hT : ∀ t, L t ≠ ⊤) (t0 : Fin 4096) (h0 : L t0 ≠ ⊥) (M : EReal)
    (hM : M = max (⊥ : EReal) (Finset.univ.fold max (⊥ : EReal) L)) :
    ∑ t, v t * Ideal.div (Ideal.exp (L t - M)) (∑ x, Ideal.exp (L x - M))
      = (((∑ t, wt (L t))⁻¹ : ℝ) : EReal) * ∑ t, (wt (L t) : EReal) * v t := by
  obtain ⟨μ, hμ⟩ := max_real L hT t0 h0
  rw [hμ] at hM
  subst hM
  have e : ∀ t, Ideal.exp (L t - (μ : EReal)) = ((Real.exp (-μ) * wt (L t) : ℝ) : EReal) := by
    intro t
    rw [sub_eq_add_neg, ← EReal.coe_neg, exp_add_coe (hT t), mul_comm]
  rw [← cancel (fun t => wt (L t)) v _ (Real.exp_pos (-μ))]
  have hpos : 0 < ∑ t, Real.exp (-μ) * wt (L t) :=
    Finset.sum_pos' (fun t _ => mul_nonneg (Real.exp_pos _).le (wt_nonneg _)) ⟨t0, Finset.mem_univ _, mul_pos (Real.exp_pos _) (wt_pos h0)⟩
  simp only [e]
  rw [← coe_sum, coe_mul_sum _ _ (inv_nonneg.mpr hpos.le)]
  refine Finset.sum_congr rfl fun t _ => ?_
  rw [Ideal.div, if_neg (by exact_mod_cast hpos.ne'), ← EReal.coe_inv, ← EReal.coe_mul, coe_mul_assoc, mul_comm]
  congr 2
  exact mul_comm _ _

theorem select_sle (a b : Nat) (ha : a < 4096) (hb : b < 4096) (x y : EReal) :
    Scalar.select (IntOp.cmpi CmpIPredicate.sle (BitVec.ofNat 32 a) (BitVec.ofNat 32 b)) x y = if a ≤ b then x else y := by
  have e : (BitVec.ofNat 32 a).sle (BitVec.ofNat 32 b) = decide (a ≤ b) := by
    rw [BitVec.sle_eq_decide]
    rw [BitVec.toInt_eq_toNat_of_lt (by simp; omega), BitVec.toInt_eq_toNat_of_lt (by simp; omega)]
    simp only [BitVec.toNat_ofNat, decide_eq_decide, Nat.cast_le]
    omega
  simp only [IntOp.cmpi, Scalar.select, e]
  by_cases h : a ≤ b <;> simp [h]

/-- The reference's result at an index, from the row's logits `e + cq` up to the row. -/
theorem ref_row (L : FVec Ideal S2x32x4096x4096 .f32) (v : FVec Ideal S2x4096x4096 .f32) (b : Fin 2) (r j : Fin 4096) (h : Fin 32)
    (hj : j.val / 128 = h.val) (e : Fin 4096 → ℝ) (cq : ℝ)
    (hL : ∀ t : Fin 4096, L (ix4 b h r t) = if t.val ≤ r.val then ((e t + cq : ℝ) : EReal) else (⊥ : EReal)) :
    (show EReal from outR (pR (exR L (mxR L)) (smR (exR L (mxR L)))) v (ix3 b r j))
      = (((∑ t : Fin 4096, rowW e r.val t.val)⁻¹ : ℝ) : EReal) * ∑ t : Fin 4096, (rowW e r.val t.val : EReal) * v (ix3 b t j) := by
  have hh : ∀ p : j.val / 128 < 32, (⟨j.val / 128, p⟩ : Fin 32) = h := fun _ => Fin.ext hj
  have hw : ∀ t : Fin 4096, wt (L (ix4 b h r t)) = Real.exp cq * rowW e r.val t.val := by
    intro t
    rw [hL]
    split_ifs with ht
    · rw [wt_coe, rowW_of_le _ _ _ ht, Real.exp_add, mul_comm]
    · rw [wt_bot, rowW_of_lt _ _ _ (by omega), mul_zero]
  rw [← cancel _ _ _ (Real.exp_pos cq)]
  simp only [← hw]
  rw [← soft_row (fun t => L (ix4 b h r t)) (fun t => v (ix3 b t j)) (fun t => by
      rw [hL]; split_ifs
      · exact EReal.coe_ne_top _
      · exact bot_ne_top) r (by rw [hL, if_pos le_rfl]; exact EReal.coe_ne_bot _)
      (mxR L (ix3 b h r)) ((mxR_at L b _ r).trans (by rw [bot_word]))]
  have ho := outR_at (pR (exR L (mxR L)) (smR (exR L (mxR L)))) v b r j
  rw [hh] at ho
  refine ho.trans (Finset.sum_congr rfl fun t _ => congrArg (_ * ·) ?_)
  refine (pR_at _ _ b _ r t).trans (congrArg₂ Ideal.div (exR_at L _ b _ r t) ?_)
  exact (smR_at _ b _ r).trans (Finset.sum_congr rfl fun x _ => exR_at L _ b _ r x)

end Cert.ReferenceIdeal.Att
-- ==== Proof.Finite.lean ====
/-
  The precondition, element by element: each entry of the queries, keys and decay is a real number.
-/
module

public import proofs.«01_k».proof.Pre_finite
public import Idealize.ShloMosaic.Lib.Pointwise
public import Idealize.ShloMosaic.Lib.ReduceAll
public import Idealize.ShloMosaic.Lib.Affine

@[expose] public section

set_option maxRecDepth 16384

noncomputable section

namespace Cert.Pre_finite.Att

open Idealize.ShloMosaic Cert.Pre_finite Cert.Pre_finite.Facts

variable [Cert.Pre_finite.Facts]

theorem real_of_lt (x : EReal) (h : Ideal.cmp .olt (max x (-x)) (⊤ : EReal) = 1#1) : ∃ y : ℝ, x = (y : EReal) := by
  induction x with
  | bot => simp [Ideal.cmp] at h
  | top => simp [Ideal.cmp] at h
  | coe y => exact ⟨y, rfl⟩

theorem top_word : Ideal.ofBits FTy.f32 0x7F800000#32 = (⊤ : EReal) := by
  simp [Ideal.ofBits, Ideal.ieee]

instance : Subsingleton S_.Idx := ⟨fun a b => funext fun x => x.elim0⟩

theorem split (q k v : FVec Ideal S2x4096x4096 .f32) (g : FVec Ideal S2x4096x32 .f32) (h : fn (F := Ideal) q k v g = fun _ => 1#1) :
    (∀ i, cmpf .olt (Host.absf q) (broadcastInDim S2x4096x4096 ![] bcast_S_S2x4096x4096 (constant S_ .f32 0x7F800000#32)) i = 1#1)
    ∧ (∀ i, cmpf .olt (Host.absf k) (broadcastInDim S2x4096x4096 ![] bcast_S_S2x4096x4096 (constant S_ .f32 0x7F800000#32)) i = 1#1)
    ∧ (∀ i, cmpf .olt (Host.absf g) (broadcastInDim S2x4096x32 ![] bcast_S_S2x4096x32 (constant S_ .f32 0x7F800000#32)) i = 1#1) := by
  have h0 := congrFun h (fun a => a.elim0)
  unfold fn at h0
  obtain ⟨h1, h3⟩ := IntOp.andi_eq_one.1 h0
  obtain ⟨h1, h2⟩ := IntOp.andi_eq_one.1 h1
  exact ⟨Host.reduce_andi_all _ _ _ _ _ h1, Host.reduce_andi_all _ _ _ _ _ h2, Host.reduce_andi_all _ _ _ _ _ h3⟩

theorem real3 (x : FVec Ideal S2x4096x4096 .f32)
    (h : ∀ i, cmpf .olt (Host.absf x) (broadcastInDim S2x4096x4096 ![] bcast_S_S2x4096x4096 (constant S_ .f32 0x7F800000#32)) i = 1#1)
    (b : Fin 2) (s j : Fin 4096) : ∃ y : ℝ, x (ix3 b s j) = (y : EReal) := by
  have h' := h (ix3 b s j)
  refine real_of_lt _ ?_
  rw [← top_word]
  exact h'

theorem real32 (x : FVec Ideal S2x4096x32 .f32)
    (h : ∀ i, cmpf .olt (Host.absf x) (broadcastInDim S2x4096x32 ![] bcast_S_S2x4096x32 (constant S_ .f32 0x7F800000#32)) i = 1#1)
    (b : Fin 2) (s : Fin 4096) (j : Fin 32) : ∃ y : ℝ, x (ix3 b s j) = (y : EReal) := by
  have h' := h (ix3 b s j)
  refine real_of_lt _ ?_
  rw [← top_word]
  exact h'

/-- The entries as real numbers. -/
theorem reals (q k v : FVec Ideal S2x4096x4096 .f32) (g : FVec Ideal S2x4096x32 .f32) (h : fn (F := Ideal) q k v g = fun _ => 1#1) :
    ∃ (qr kr : Fin 2 → Fin 4096 → Fin 4096 → ℝ) (gr : Fin 2 → Fin 4096 → Fin 32 → ℝ),
      (∀ b s j, q (ix3 b s j) = (qr b s j : EReal)) ∧ (∀ b s j, k (ix3 b s j) = (kr b s j : EReal))
        ∧ (∀ b s j, g (ix3 b s j) = (gr b s j : EReal)) := by
  obtain ⟨hq, hk, hg⟩ := split q k v g h
  choose qr hqr using fun b s j => real3 q hq b s j
  choose kr hkr using fun b s j => real3 k hk b s j
  choose gr hgr using fun b s j => real32 g hg b s j
  exact ⟨qr, kr, gr, hqr, hkr, hgr⟩

end Cert.Pre_finite.Att
-- ==== Proof.Join.lean ====
/-
  The kernel's result array is the reference's.
-/
module

public import proofs.«01_k».proof.Proof.RefRow
public import proofs.«01_k».proof.Proof.Finite
public import proofs.«01_k».proof.Proof.Gen.KernelIdeal.Value
public import proofs.«01_k».proof.Proof.Gen.ReferenceIdeal.Run

@[expose] public section

set_option maxRecDepth 16384

noncomputable section

namespace Cert.KernelIdeal.Att

open Idealize.ShloMosaic Idealize.ShloMosaic.TcCoe Idealize.SL.Sem
open Idealize.ShloMosaic.Pipeline (Dat)
open Cert.KernelIdeal Cert.KernelIdeal.Gen
open Cert.ReferenceIdeal.Att (lgR mxR exR smR pR outR)

/-- The common result array. -/
abbrev res (q k v : FVec Ideal S2x4096x4096 .f32) (g : FVec Ideal S2x4096x32 .f32) : FVec Ideal S2x4096x4096 .bf16 :=
  outR (pR (exR (lgR q k g) (mxR (lgR q k g))) (smR (exR (lgR q k g) (mxR (lgR q k g))))) v

/-- The scale is a real number. -/
theorem scale_real : ∃ σ : ℝ, scale = (σ : EReal) := by
  refine ⟨EReal.toReal scale, (EReal.coe_toReal ?_ ?_).symm⟩ <;> simp only [scale, Ideal.ofBits, Ideal.ieee] <;>
    split_ifs <;> first | exact EReal.coe_ne_top _ | exact EReal.coe_ne_bot _ | (exfalso; simp_all; done)

/-- A row of the kernel's block against the reference's row. -/
theorem point (m : (ℓ : Loc nD τ sig) → Buf (Elt Ideal) ℓ) (c : Dev nD) (t : Fin cfg0.N)
    (qr kr : Fin 2 → Fin 4096 → Fin 4096 → ℝ) (gr : Fin 2 → Fin 4096 → Fin 32 → ℝ)
    (hq : ∀ b s j, Q m c (ix3 b s j) = (qr b s j : EReal)) (hk : ∀ b s j, K m c (ix3 b s j) = (kr b s j : EReal))
    (hg : ∀ b s j, C m c (ix3 b s j) = (gr b s j : EReal)) (r : Fin 1024) (d : Fin 128) :
    (show FVec Ideal S1x1024x128 .bf16 from outsAt0 m c t) (ix3 0 r d)
      = res (Q m c) (K m c) (W m c) (C m c) (ix3 (bI t) (rowI (qI t) r) (hd (hI t) d)) := by
  obtain ⟨σ, hσ⟩ := scale_real
  have hqI : ((grid0.coords t) 2).val = (qI t).val := rfl
  have hr := r.isLt
  have h4 := (qI t).isLt
  let e : Fin 4096 → ℝ := fun s => (∑ x : Fin 128, (qr (bI t) (rowI (qI t) r) (hd (hI t) x) * σ) * kr (bI t) s (hd (hI t) x)) - gr (bI t) s (hI t)
  let cq : ℝ := gr (bI t) (rowI (qI t) r) (hI t)
  have e1 : outsAt0 m c t = blockOut (grid0.coords t) (iblk m c 0 t) (iblk m c 1 t) (iblk m c 2 t) (iblk m c 3 t) (iblk m c 4 t) := by
    unfold outsAt0
    exact out_eq ..
  rw [e1]
  refine (block_row (grid0.coords t) (iblk m c 0 t) (iblk m c 1 t) (iblk m c 2 t) (iblk m c 3 t) (iblk m c 4 t) r e cq
    (fun s d => W m c (ix3 (bI t) s (hd (hI t) d))) ?_ ?_ ?_ d).trans ?_
  · intro s
    refine Eq.trans (congrArg₂ (· - ·) (Finset.sum_congr rfl fun x _ => congrArg₂ (· * ·) (x0_at m c t r x) (x1_at m c t s x)) (x4_at m c t s)) ?_
    simp only [hq, hk, hg, hσ, ← EReal.coe_mul, ← coe_sum, ← EReal.coe_sub]
    rfl
  · intro x
    exact (pay63_at _ _ r x).trans ((x3_at m c t r (hI t)).trans (hg _ _ _))
  · intro s d
    exact x2_at m c t s d
  · have h0 := sum_rows (((qI t).val + 1) * 1024) ((qI t).val * 1024 + r.val) (by omega) (by omega)
      (fun s => rowW e ((qI t).val * 1024 + r.val) s) (fun s hs => rowW_of_lt _ _ _ hs)
    have h1 := sum_rows (((qI t).val + 1) * 1024) ((qI t).val * 1024 + r.val) (by omega) (by omega)
      (fun s => (rowW e ((qI t).val * 1024 + r.val) s : EReal) * rowV (fun s d => W m c (ix3 (bI t) s (hd (hI t) d))) s d)
      (fun s hs => by rw [rowW_of_lt _ _ _ hs]; simp)
    refine (congrArg₂ (fun (a : ℝ) (b : EReal) => ((a⁻¹ : ℝ) : EReal) * b) h0 h1).trans ?_
    refine Eq.trans ?_ (Cert.ReferenceIdeal.Att.ref_row (lgR (Q m c) (K m c) (C m c)) (W m c) (bI t) (rowI (qI t) r) (hd (hI t) d) (hI t)
      (by simp only []; omega) e cq ?_).symm
    · refine congrArg _ (Finset.sum_congr rfl fun s _ => congrArg (_ * ·) ?_)
      rw [rowV, dif_pos s.isLt]
    · intro s
      refine (Cert.ReferenceIdeal.Att.lgR_at _ _ _ _ _ _ _).trans ?_
      rw [Cert.ReferenceIdeal.Att.select_sle _ _ (by omega) (by omega), bot_word]
      refine if_congr Iff.rfl ?_ rfl
      refine Eq.trans (congrArg₂ (· + ·) (congrArg₂ (· * ·) (Finset.sum_congr rfl fun x _ => congrArg₂ (· * ·) (hq _ _ _) (hk _ _ _)) hσ)
        (congrArg₂ (· - ·) (hg _ _ _) (hg _ _ _))) ?_
      simp only [← EReal.coe_mul, ← coe_sum, ← EReal.coe_sub, ← EReal.coe_add]
      congr 1
      simp only [e, cq, Finset.sum_mul]
      rw [Finset.sum_congr rfl fun x _ => mul_right_comm (qr (bI t) (rowI (qI t) r) (hd (hI t) x)) σ (kr (bI t) s (hd (hI t) x))]
      ring

theorem arr_eq (m : (ℓ : Loc nD τ sig) → Buf (Elt Ideal) ℓ) (c : Dev nD)
    (qr kr : Fin 2 → Fin 4096 → Fin 4096 → ℝ) (gr : Fin 2 → Fin 4096 → Fin 32 → ℝ)
    (hq : ∀ b s j, Q m c (ix3 b s j) = (qr b s j : EReal)) (hk : ∀ b s j, K m c (ix3 b s j) = (kr b s j : EReal))
    (hg : ∀ b s j, C m c (ix3 b s j) = (gr b s j : EReal)) :
    (dats m 0 c).arrAt 5 cfg0.N = res (Q m c) (K m c) (W m c) (C m c) := by
  have hp := fun t => point m c t qr kr gr hq hk hg
  generalize res (Q m c) (K m c) (W m c) (C m c) = R at hp ⊢
  refine (dats m 0 c).arrAt_eq_of_covers 5 _ (by decide +kernel) fun t _ y => ?_
  blk_simp
  rw [after0_5]
  have h0 : (grid0.coords t 0).val = (bI t).val := rfl
  have h1 : (grid0.coords t 1).val = (hI t).val := rfl
  have ey : y = (ix3 0 (y 1) (y 2) : S1x1024x128.Idx) := by blk_ext []
  have ee : (win0_5.blk t).view.emb y = ix3 (bI t) (rowI (qI t) (y 1)) (hd (hI t) (y 2)) := by
    blk_ext [idx t] <;> omega
  rw [ee]
  refine Eq.trans (congrArg (outsAt0 m c t) ey) ?_
  exact hp t (y 1) (y 2)

end Cert.KernelIdeal.Att
-- ==== Proof.ProjRun.lean ====
/-
  The projection kernel's body on any staging buffers: at a block's first column block it stores the
  modulated rows in its scratch and the gate logits in its second result; at every column block it
  stores the product of the scratch with that block's weights. Stated for any floats.
-/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.Value
public import Idealize.ShloMosaic.Lib.Pipeline.ValueKit
public import Idealize.ShloMosaic.Lib.Ring
public import Idealize.ShloMosaic.Lib.WholeRead
public import Idealize.ShloMosaic.Lib.Tactic

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- A whole load reads the contents; -/
theorem rd {s : Shape} {e : EltTy} (mr : Memref sig .tc .vmem s e) (hm : mr.IsWhole) {off : Fin s.rank → Nat} (h : off = fun _ => 0)
    (inb : ∀ a, off a + s.size a ≤ s.size a) (X : s.Idx → Elt F e) :
    mr.view.readAt (Elt F) (Rect.unit off s.size inb).toLoadRect (hm.unread X) = X := by
  subst h; funext x
  rw [hm.readAt_unread]
  exact congrFun (View.ld_unit_zero rfl inb X) x
/-- a whole store leaves what it stores. -/
theorem wr {s : Shape} {e : EltTy} (mr : Memref sig .tc .vmem s e) {off : Fin s.rank → Nat} (h : off = fun _ => 0)
    (inb : ∀ a, off a + s.size a ≤ s.size a) (f : mr.view.ty.Contents (Elt F)) (w : s.Idx → Elt F e) :
    mr.view.read (Elt F) (mr.view.writes (Elt F) f [⟨Rect.unit off s.size inb, w⟩]) = w := by
  rw [View.read_writes_eq_canon _ _ _ (fun y => ⟨_, List.mem_singleton_self _, View.mem_set_unit_zero h inb y⟩), View.canon_unit_zero h]

set_option maxHeartbeats 1000000 in
/-- At a first column block. -/
theorem body_first (c : Dev nD) (i : grid0.Coords) (arg2 : Memref sig .tc .vmem S512x4096 .f32) (harg2 : arg2.IsWhole)
    (arg3 : Memref sig .tc .vmem S1x6x4096 .f32) (harg3 : arg3.IsWhole) (arg4 : Memref sig .tc .vmem S1x1024x4096 .bf16) (harg4 : arg4.IsWhole)
    (arg5 : Memref sig .tc .vmem S1x128x4096 .f32) (harg5 : arg5.IsWhole) (arg6 : Memref sig .tc .vmem S512x1024 .bf16) (harg6 : arg6.IsWhole)
    (arg7 : Memref sig .tc .vmem S512x128 .f32) (harg7 : arg7.IsWhole) (arg8 : Memref sig .tc .vmem S512x4096 .bf16) (harg8 : arg8.IsWhole)
    (hc : k0_cond1 i = 1#1)
    (x0 : Vec F S512x4096 .f32) (x1 : Vec F S1x6x4096 .f32) (x2 : Vec F S1x1024x4096 .bf16) (x3 : Vec F S1x128x4096 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay5 i (k0_pay3 x1 x0) x2)
            ∗ owns (c : Thread nD τ) arg7 fullShare (k0_pay4 x1 x0 x3) ∗ owns (c : Thread nD τ) arg8 fullShare (k0_pay3 x1 x0)) -∗ K ⟨⟩))
      ⊢ wp frame (wpE (defs₀ (F := F)) Variants.none c none) E
          (cc0_fox_proj i arg2 harg2 arg3 harg3 arg4 harg4 arg5 harg5 arg6 harg6 arg7 harg7 arg8 harg8) K := by
  simp only [cc0_fox_proj_eq_skeleton]; unfold cc0_fox_proj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
  obtain rfl := harg2.eq_unread hf0; obtain rfl := harg3.eq_unread hf1; obtain rfl := harg4.eq_unread hf2; obtain rfl := harg5.eq_unread hf3
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    unfold body_first.sl.v3 body_first.sl.HS0_1
    rw [wr arg6 hz2, View.readCov_unit_zero _ hz2, rd arg4 harg4 hz3, rd arg3 harg3 hz3, rd arg2 harg2 hz2]
  isplitl [H5]
  · iexists _; isplitr
    swap; · iexact H5
    ipureintro
    rw [wr arg7 hz2, rd arg3 harg3 hz3, rd arg2 harg2 hz2, rd arg5 harg5 hz3]
  iexists _; isplitr
  swap; · iexact HS0
  ipureintro
  unfold body_first.sl.HS0_1
  rw [wr arg8 hz2, rd arg3 harg3 hz3, rd arg2 harg2 hz2]

set_option maxHeartbeats 1000000 in
/-- At a later column block: the scratch is read as it was left. -/
theorem body_later (c : Dev nD) (i : grid0.Coords) (arg2 : Memref sig .tc .vmem S512x4096 .f32) (harg2 : arg2.IsWhole)
    (arg3 : Memref sig .tc .vmem S1x6x4096 .f32) (harg3 : arg3.IsWhole) (arg4 : Memref sig .tc .vmem S1x1024x4096 .bf16) (harg4 : arg4.IsWhole)
    (arg5 : Memref sig .tc .vmem S1x128x4096 .f32) (harg5 : arg5.IsWhole) (arg6 : Memref sig .tc .vmem S512x1024 .bf16) (harg6 : arg6.IsWhole)
    (arg7 : Memref sig .tc .vmem S512x128 .f32) (harg7 : arg7.IsWhole) (arg8 : Memref sig .tc .vmem S512x4096 .bf16) (harg8 : arg8.IsWhole)
    (hc : ¬ k0_cond1 i = 1#1)
    (x2 : Vec F S1x1024x4096 .bf16) (xs : Vec F S512x4096 .bf16)
    (E : Set ℕ) (K : PUnit → sProp 𝕄) :
    iprop(owns (c : Thread nD τ) arg4 fullShare x2 ∗ (∃ d, owns (c : Thread nD τ) arg6 fullShare d) ∗ owns (c : Thread nD τ) arg8 fullShare xs
        ∗ (iprop(owns (c : Thread nD τ) arg4 fullShare x2 ∗ owns (c : Thread nD τ) arg6 fullShare (k0_pay5 i xs x2)
            ∗ owns (c : Thread nD τ) arg8 fullShare xs) -∗ K ⟨⟩))
      ⊢ wp frame (wpE (defs₀ (F := F)) Variants.none c none) E
          (cc0_fox_proj i arg2 harg2 arg3 harg3 arg4 harg4 arg5 harg5 arg6 harg6 arg7 harg7 arg8 harg8) K := by
  simp only [cc0_fox_proj_eq_skeleton]; unfold cc0_fox_proj_skel
  unfold owns
  iintro ⟨⟨%f2, %hf2, H2⟩, ⟨%d4, %f4, -, H4⟩, ⟨%fs0, %hfs0, HS0⟩, Hk⟩
  obtain rfl := harg4.eq_unread hf2; obtain rfl := harg8.eq_unread hfs0
  sl_exec
  sl_step
  iapply Hk
  isplitl [H2]
  · iexists _; isplitr; · ipureintro; exact harg4.read_unread _
    iexact H2
  isplitl [H4]
  · iexists _; isplitr
    swap; · iexact H4
    ipureintro
    rw [wr arg6 hz2, rd arg4 harg4 hz3, rd arg8 harg8 hz2]
  iexists _; isplitr
  swap; · iexact HS0
  ipureintro; exact harg8.read_unread _

end Cert.Kernel2Ideal.Proj

end
-- ==== Proof.ProjFrame.lean ====
/-
  The frame of the projection kernel, written by hand: its scratch is carried from a row block's first
  column block to its last, its gate weights' window overhangs its array (past the thirty-second row its
  buffer holds anything, and the body masks those rows), and its gate logits are stored once a row block.
  Stated for any floats.
-/
module

public import proofs.«01_k».proof.Proof.ProjRun
public import Idealize.ShloMosaic.Lib.Claim
public import Idealize.ShloMosaic.Lib.ValueLayout
public import Idealize.ShloMosaic.Lib.Pipeline.Frame

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the launch -/

/-- Core `c`'s buffers when the launch is reached. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- The arguments reach the launch as they were. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

/-! ## What the buffers hold -/

/-- Window `w`'s block at point `t`, of its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first point, and the first point of the row block that position `n` lies in. -/
def t0 : Fin cfg0.N := ⟨0, by decide⟩
def rp (n : ℕ) : Fin cfg0.N := ⟨12 * (n / 12 % 16), by show _ < grid0.N; rw [N_0]; omega⟩

theorem rp_self (t : Fin cfg0.N) (h : t.val % 12 = 0) : rp t.val = t := by
  have := t.isLt; have e : cfg0.N = 192 := N_0
  apply Fin.ext; show 12 * (t.val / 12 % 16) = t.val; omega
theorem rp_pred (n : ℕ) (h : n % 12 ≠ 0) : rp (n - 1) = rp n := by
  apply Fin.ext; show 12 * ((n - 1) / 12 % 16) = 12 * (n / 12 % 16); congr 2; omega
theorem rp_succ (n : ℕ) (h : (n + 1) % 12 ≠ 0) : rp (n + 1) = rp n := by
  apply Fin.ext; show 12 * ((n + 1) / 12 % 16) = 12 * (n / 12 % 16); congr 2; omega

/-- The gate weights' buffer: the block on the rows inside the array, `d` past them. -/
def wf (c : Dev nD) (d : S1x128x4096.Idx → Elt F .f32) : S1x128x4096.Idx → Elt F .f32 :=
  win0_3.fill (grid0.coords t0) d (iblk m c 3 t0)

/-- The modulated rows of the row block that position `n` lies in, as the scratch holds them; -/
def hAt (c : Dev nD) (n : ℕ) : Vec F S512x4096 .bf16 := k0_pay3 (iblk m c 1 (rp n)) (iblk m c 0 (rp n))
/-- its gate logits. -/
def fAt (c : Dev nD) (n : ℕ) : Vec F S512x128 .f32 :=
  k0_pay4 (iblk m c 1 (rp n)) (iblk m c 0 (rp n)) (wf m c fun _ => Scalar.ofBits .f32 0#32)

/-- The scratch. -/
abbrev scM : Memref sig .tc .vmem S512x4096 .bf16 := Memref.whole cc0_scratch0

/-- The scratch at position `n`: anything at a row block's start, else the row block's modulated rows. -/
def scAt (c : Dev nD) (n : ℕ) : sProp 𝕄 :=
  if n % 12 = 0 then iprop(∃ d, owns (c : Thread nD τ) scM fullShare d)
  else owns (c : Thread nD τ) scM fullShare (hAt m c n)

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => wf m c fun _ => Scalar.ofBits .f32 0#32
    | ⟨4, _⟩ => k0_pay5 (grid0.coords t) (hAt m c t.val) (iblk m c 2 t)
    | ⟨5, _⟩ => fAt m c t.val
  Φ t := iprop(scAt m c t.val ∗ (∃ r, prngReg c r))
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = wf m c fun _ => Scalar.ofBits .f32 0#32 := by dsimp only [dats]
theorem after0_4 (c : Dev nD) (t : Fin cfg0.N) :
    (dats m 0 c).after 4 t = k0_pay5 (grid0.coords t) (hAt m c t.val) (iblk m c 2 t) := by dsimp only [dats]
theorem after0_5 (c : Dev nD) (t : Fin cfg0.N) : (dats m 0 c).after 5 t = fAt m c t.val := by dsimp only [dats]

/-- The first branch is taken at a row block's first point. -/
theorem hcond : ∀ t : Fin cfg0.N, k0_cond1 (grid0.coords t) = 1#1 ↔ t.val % 12 = 0 :=
  (by decide +kernel : ∀ t : Fin grid0.N, k0_cond1 (grid0.coords t) = 1#1 ↔ t.val % 12 = 0)

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-- The part of the gate weights' block inside the array, of any filling. -/
theorem cut_wf (c : Dev nD) (t : Fin cfg0.N) (d : S1x128x4096.Idx → Elt F .f32) : win0_3.cut (grid0.coords t) (wf m c d) = iblk m c 3 t0 :=
  win0_3.cut_fill (grid0.coords t0) _ _

/-- The gate weights' buffer holds the block, and anything past the array's end. -/
theorem before0_3 (c : Dev nD) (t : Fin cfg0.N) (d) : (dats m 0 c).before 3 t d = wf m c d := by
  by_cases h : t.val = 0
  · have ht : t = t0 := Fin.ext h
    subst ht
    rw [Dat.before_fetched _ _ _ ((fetch0_3 t0).mpr rfl)]
    unfold Dat.fetched Dat.blockOf wf iblk
    rw [A_eq]
  · have hf : (cfg0.win 3).fetch t = false := by
      rw [Bool.eq_false_iff, ne_eq, fetch0_3]
      have := t.isLt; have e : cfg0.N = 192 := N_0
      omega
    rw [Dat.before_unfetched_in _ 3 rfl t hf (fun _ => rfl)]
    unfold Dat.kept
    rw [after0_3]
    exact congrArg (win0_3.fill (grid0.coords t0) d) (cut_wf m c t0 _)

/-- Between a row block's first point and its last the gate logits' buffer holds them. -/
theorem before0_5 (c : Dev nD) (n : ℕ) : ∀ (h : n < cfg0.N), n % 12 ≠ 0 → ∀ d, (dats m 0 c).before 5 ⟨n, h⟩ d = fAt m c n := by
  induction n with
  | zero => intro h hn; exact absurd rfl hn
  | succ n ih =>
    intro h hn d
    have hlt : n < cfg0.N := Nat.lt_of_succ_lt h
    rw [Dat.before_of_pos _ 5 ⟨n + 1, h⟩ (Nat.succ_ne_zero n) ((cfg0.win 5).fetch_out rfl _)]
    have hfl : (cfg0.win 5).flush ⟨n, hlt⟩ = false := by
      rw [Bool.eq_false_iff, ne_eq, flush0_5]; show ¬ n % 12 = 11; omega
    show (if (cfg0.win 5).flush ⟨n, hlt⟩ then d else (dats m 0 c).left 5 ⟨n, hlt⟩ d) = _
    rw [hfl, if_neg Bool.false_ne_true]
    have hr : fAt m c (n + 1) = fAt m c n := by unfold fAt; rw [rp_succ n hn]
    rw [hr]
    by_cases h0 : n % 12 = 0
    · have hi : cfg0.idle 5 (cfg0.grid.coords ⟨n, hlt⟩) = false := by
        show (!(k0_cond1 (grid0.coords ⟨n, hlt⟩) == 1#1)) = false
        rw [(hcond ⟨n, hlt⟩).mpr h0]; rfl
      unfold Dat.left; rw [hi]
      show (dats m 0 c).kept 5 ⟨n, hlt⟩ d = _
      unfold Dat.kept; rw [after0_5]; rfl
    · have hi : cfg0.idle 5 (cfg0.grid.coords ⟨n, hlt⟩) = true := by
        show (!(k0_cond1 (grid0.coords ⟨n, hlt⟩) == 1#1)) = true
        have : ¬ k0_cond1 (grid0.coords ⟨n, hlt⟩) = 1#1 := fun e => h0 ((hcond ⟨n, hlt⟩).mp e)
        simp [this]
      unfold Dat.left; rw [hi]
      exact ih hlt h0 d

/-- The body reads the gate weights on the rows inside the array only. -/
theorem mask_bit : ∀ r : Fin 128, Scalar.cmpi .slt (BitVec.ofNat 32 r.val) 32#32 = if r.val < 32 then 1#1 else 0#1 := by decide +kernel

theorem wf_row (c : Dev nD) (d d' : S1x128x4096.Idx → Elt F .f32) (y : S1x128x4096.Idx) (h : (y 1).val < 32) :
    wf m c d y = wf m c d' y := by
  have hm : win0_3.moved (grid0.coords t0) y = true := (win0_3.moved_iff _ _).mpr fun a => by
    fin_cases a
    · exact (y 0).isLt
    · exact h
    · exact (y 2).isLt
  unfold wf Window.fill; rw [dif_pos hm, dif_pos hm]

/-- The gate logits do not depend on what lies past the array's end. -/
theorem pay4_wf (c : Dev nD) (x1 : Vec F S1x6x4096 .f32) (x0 : Vec F S512x4096 .f32) (d d' : S1x128x4096.Idx → Elt F .f32) :
    k0_pay4 x1 x0 (wf m c d) = k0_pay4 x1 x0 (wf m c d') := by
  have e : (select (cmpi .slt (iota .tc S128x4096 32 [0] iota_S128x4096_d0_w32) (broadcast S128x4096 32#32))
        (shapeCast S128x4096 (wf m c d) shapeCasts_S1x128x4096_S128x4096 : FVec F S128x4096 .f32) (broadcast S128x4096 (Scalar.ofBits .f32 0x00000000#32)))
      = select (cmpi .slt (iota .tc S128x4096 32 [0] iota_S128x4096_d0_w32) (broadcast S128x4096 32#32))
        (shapeCast S128x4096 (wf m c d') shapeCasts_S1x128x4096_S128x4096) (broadcast S128x4096 (Scalar.ofBits .f32 0x00000000#32)) := by
    funext y
    have hb := mask_bit (y 0)
    have hi : cmpi .slt (iota .tc S128x4096 32 [0] iota_S128x4096_d0_w32) (broadcast S128x4096 32#32) y = Scalar.cmpi .slt (BitVec.ofNat 32 (y 0).val) 32#32 := by
      show Scalar.cmpi .slt (iota .tc S128x4096 32 [0] iota_S128x4096_d0_w32 y) 32#32 = _
      rw [iota_single_apply]
    show Scalar.select (cmpi .slt (iota .tc S128x4096 32 [0] iota_S128x4096_d0_w32) (broadcast S128x4096 32#32) y) _ _ = Scalar.select (cmpi .slt (iota .tc S128x4096 32 [0] iota_S128x4096_d0_w32) (broadcast S128x4096 32#32) y) _ _
    rw [hi]
    by_cases h : (y 0).val < 32
    · have hv : shapeCast S128x4096 (wf m c d) shapeCasts_S1x128x4096_S128x4096 y = shapeCast S128x4096 (wf m c d') shapeCasts_S1x128x4096_S128x4096 y := by
        have key : ∀ w : S1x128x4096.Idx → Elt F .f32,
            shapeCast S128x4096 w shapeCasts_S1x128x4096_S128x4096 y = w (ValueIdx.ix3 (0 : Fin 1) (y 0) (y 1)) := fun w =>
          (congrArg (shapeCast S128x4096 w shapeCasts_S1x128x4096_S128x4096) (ValueIdx.eq_ix2 y)).trans (ValueIdx.shapeCast_1ab_ab_apply w _ (y 0) (y 1))
        rw [key, key]
        exact wf_row m c d d' _ h
      rw [hv]
    · rw [hb, if_neg h]; rfl
  unfold k0_pay4
  simp only [e]

/-! ## The body's obligation -/

/-- Each window's staging buffer at point `t`. -/
abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x6x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .f32 := win0_5.stage (cfg0.slots t 5)
abbrev hs0_5 (t : Fin cfg0.N) : (ms0_5 t).IsWhole := hstage0_5 ((cfg0.slots t 5).cast nbuf0_5)

/-- What the body is called with, and what it returns but the gate logits' buffer. -/
def bodyPre (c : Dev nD) (t : Fin cfg0.N) : sProp 𝕄 :=
  iprop(iprop(scAt m c t.val ∗ (∃ r, prngReg c r)) ∗ (dats m 0 c).owesAt () t.castSucc
    ∗ (∃ d : S512x4096.Idx → Elt F .f32, owns (c : Thread nD τ) (ms0_0 t) fullShare (iblk m c 0 t))
    ∗ (∃ d : S1x6x4096.Idx → Elt F .f32, owns (c : Thread nD τ) (ms0_1 t) fullShare (iblk m c 1 t))
    ∗ (∃ d : S1x1024x4096.Idx → Elt F .bf16, owns (c : Thread nD τ) (ms0_2 t) fullShare (iblk m c 2 t))
    ∗ (∃ d, owns (c : Thread nD τ) (ms0_3 t) fullShare (wf m c d))
    ∗ (∃ d, owns (c : Thread nD τ) (ms0_4 t) fullShare ((dats m 0 c).before 4 t d))
    ∗ (∃ d, owns (c : Thread nD τ) (ms0_5 t) fullShare ((dats m 0 c).before 5 t d)))
def bodyPost (c : Dev nD) (t : Fin cfg0.N) (P5 : sProp 𝕄) : sProp 𝕄 :=
  iprop(iprop(scAt m c (t.val + 1) ∗ (∃ r, prngReg c r)) ∗ (dats m 0 c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ (∃ d, owns (c : Thread nD τ) (ms0_3 t) fullShare (wf m c d))
    ∗ owns (c : Thread nD τ) (ms0_4 t) fullShare (k0_pay5 (grid0.coords t) (hAt m c t.val) (iblk m c 2 t))
    ∗ P5)

/-- A row block's first point: the scratch is filled, both results stored. -/
theorem sound_first (c : Dev nD) (t : Fin cfg0.N) (ht : t.val % 12 = 0) :
    bodyPre m c t ⊢ wp frame (wpE (defs₀ (F := F)) Variants.none c none) Set.univ (bodyAt0 t)
      (fun _ => bodyPost m c t (owns (c : Thread nD τ) (ms0_5 t) fullShare (fAt m c t.val))) := by
  unfold bodyPre bodyPost bodyAt0
  have e1 : scAt m c t.val = iprop(∃ d, owns (c : Thread nD τ) scM fullShare d) := if_pos ht
  have e2 : scAt m c (t.val + 1) = owns (c : Thread nD τ) scM fullShare (hAt m c t.val) := by
    have h1 : ¬ (t.val + 1) % 12 = 0 := by omega
    unfold scAt; rw [if_neg h1]; unfold hAt; rw [rp_succ _ h1]
  have e3 : hAt m c t.val = k0_pay3 (iblk m c 1 t) (iblk m c 0 t) := by unfold hAt; rw [rp_self t ht]
  have e4 : ∀ d, fAt m c t.val = k0_pay4 (iblk m c 1 t) (iblk m c 0 t) (wf m c d) := fun d => by
    unfold fAt; rw [rp_self t ht]; exact pay4_wf m c _ _ _ _
  rw [e1, e2, e3]
  iintro ⟨⟨HS, Hg⟩, Ho, ⟨%d0, H0⟩, ⟨%d1, H1⟩, ⟨%d2, H2⟩, ⟨%d3, H3⟩, ⟨%d4, H4⟩, ⟨%d5, H5⟩⟩
  rw [e4 d3]
  iapply (body_first c (grid0.coords t) _ (hs0_0 t) _ (hs0_1 t) _ (hs0_2 t) _ (hs0_3 t) _ (hs0_4 t) _ (hs0_5 t) scM (Memref.isWhole_whole _)
    ((hcond t).mpr ht) (iblk m c 0 t) (iblk m c 1 t) (iblk m c 2 t) (wf m c d3) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS]; · iexact HS
  iintro ⟨H0, H1, H2, H3, H4, H5, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexists _; iexact H3
  isplitl [H4]; · iexact H4
  iexact H5

/-- A later point: the scratch is read, the first result stored. -/
theorem sound_later (c : Dev nD) (t : Fin cfg0.N) (ht : ¬ t.val % 12 = 0) :
    bodyPre m c t ⊢ wp frame (wpE (defs₀ (F := F)) Variants.none c none) Set.univ (bodyAt0 t)
      (fun _ => bodyPost m c t (iprop(∃ d, owns (c : Thread nD τ) (ms0_5 t) fullShare ((dats m 0 c).before 5 t d)))) := by
  unfold bodyPre bodyPost bodyAt0
  have e1 : scAt m c t.val = owns (c : Thread nD τ) scM fullShare (hAt m c t.val) := if_neg ht
  rw [e1]
  have e2 : owns (c : Thread nD τ) scM fullShare (hAt m c t.val) ⊢ scAt m c (t.val + 1) := by
    unfold scAt
    by_cases h1 : (t.val + 1) % 12 = 0
    · rw [if_pos h1]; iintro H; iexists _; iexact H
    · rw [if_neg h1]; unfold hAt; rw [rp_succ _ h1]
  iintro ⟨⟨HS, Hg⟩, Ho, ⟨%d0, H0⟩, ⟨%d1, H1⟩, ⟨%d2, H2⟩, ⟨%d3, H3⟩, ⟨%d4, H4⟩, H5⟩
  iapply (body_later c (grid0.coords t) _ (hs0_0 t) _ (hs0_1 t) _ (hs0_2 t) _ (hs0_3 t) _ (hs0_4 t) _ (hs0_5 t) scM (Memref.isWhole_whole _)
    (fun e => ht ((hcond t).mp e)) (iblk m c 2 t) (hAt m c t.val) Set.univ _)
  isplitl [H2]; · iexact H2
  isplitl [H4]; · iexists _; iexact H4
  isplitl [HS]; · iexact HS
  iintro ⟨H2, H4, HS⟩
  isplitl [HS Hg]
  · isplitl [HS]; · iapply e2; iexact HS
    iexact Hg
  isplitl [Ho]; · iexact Ho
  isplitl [H0]; · iexact H0
  isplitl [H1]; · iexact H1
  isplitl [H2]; · iexact H2
  isplitl [H3]; · iexists _; iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ := fun t => by
  rw [bigSep_W0, bigSep_W0, defs₀_row]
  simp only [before0_0, before0_1, before0_2, before0_3, after0_0, after0_1, after0_2, after0_4]
  have e3 : ∀ d, (win0 3).fill (grid0.coords t) d ((win0 3).cut (grid0.coords t) ((dats m 0 c).after 3 t)) = wf m c d := fun d => by
    rw [after0_3]; exact congrArg (win0_3.fill (grid0.coords t0) d) (cut_wf m c t _)
  simp only [e3]
  by_cases ht : t.val % 12 = 0
  · have hi : idle0 5 (grid0.coords t) = false := by
      show (!(k0_cond1 (grid0.coords t) == 1#1)) = false
      rw [(hcond t).mpr ht]; rfl
    rw [hi, after0_5]
    exact triple_restated (sound_first m c t ht) rfl .rfl fun _ => .rfl
  · have hi : idle0 5 (grid0.coords t) = true := by
      show (!(k0_cond1 (grid0.coords t) == 1#1)) = true
      have : ¬ k0_cond1 (grid0.coords t) = 1#1 := fun e => ht ((hcond t).mp e)
      simp [this]
    rw [hi, after0_5]
    refine triple_restated (sound_later m c t ht) rfl .rfl fun _ => ?_
    cases hf : (win0 5).flush t with
    | false => exact .rfl
    | true =>
      have h5 : (iprop(∃ d, owns (c : Thread nD τ) (ms0_5 t) fullShare ((dats m 0 c).before 5 t d)) : sProp 𝕄) ⊢ owns (c : Thread nD τ) (ms0_5 t) fullShare (fAt m c t.val) := by
        iintro ⟨%d, H⟩
        rw [before0_5 m c t.val t.isLt ht d]
        iexact H
      unfold bodyPost
      rw [show (dats m 0 c).Φ t.succ = iprop(scAt m c (t.val + 1) ∗ (∃ r, prngReg c r)) from rfl,
        show (dats m 0 c).owesAt () t.succ = (dats m 0 c).owesAt () t.castSucc from rfl]
      iintro ⟨HΦ, Ho, H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iapply h5; iexact H5

/-! ## The run and the frame -/

theorem Phi_eq (c : Dev nD) : (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

set_option backward.isDefEq.respectTransparency.types false in
/-- Every run ends, with the arrays at what the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m)
    (hin := fun c => by
      rw [Phi_eq]; show _ ⊢ iprop(scAt m c 0 ∗ _)
      unfold scAt; rw [if_pos rfl])
    (hout := fun c => by
      rw [Phi_eq]; show iprop(scAt m c cfg0.N ∗ _) ⊢ _
      unfold scAt; rw [if_pos (by show grid0.N % 12 = 0; rw [N_0])])

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (Pipeline.mem_restRefs_of main_arg0 (by decide) (by decide))).trans (V_arg0 m c),
      ((h.1 c).2 main_arg1 (Pipeline.mem_restRefs_of main_arg1 (by decide) (by decide))).trans (V_arg1 m c),
      ((h.1 c).2 main_arg2 (Pipeline.mem_restRefs_of main_arg2 (by decide) (by decide))).trans (V_arg2 m c)⟩, h.2⟩) (run_main_quiescent m ρ)

end Cert.Kernel2Ideal.Proj

end
-- ==== Proof.ProjSame.lean ====
/-
  The projection kernel at the machine's floats and its idealization are one text, so the one run gives both frames.
-/
module

public import proofs.«01_k».proof.Defs
public import proofs.«01_k».proof.Proof.ProjFrame
public import proofs.«01_k».proof.Proof.Gen.Kernel2.Launch

@[expose] public section

set_option maxRecDepth 65536

namespace Cert.Kernel2.Proj

open Idealize.ShloMosaic Idealize.ShloMosaic.TcCoe Idealize.SL.Sem
open Cert Cert.Kernel2.Gen Cert.Kernel2Ideal.Gen

theorem table_eq : Kernel2.defs₀ (F := Bits) = Kernel2Ideal.defs₀ (F := Bits) := by
  unfold Kernel2.defs₀ Kernel2Ideal.defs₀
  refine congrArg Defs.onTc ?_
  funext l
  match l with
  | 0 => funext a; rfl

theorem defs_eq : Kernel2.defs (F := Bits) = Kernel2Ideal.defs (F := Bits) := congrArg (Pipeline.defs Kernel2.pcfgs) table_eq

theorem main_eq : Kernel2.main (F := Bits) = Kernel2Ideal.main (F := Bits) := rfl

theorem frame : Cert.quiescent_Kernel2 := fun m ρ _ => by
  rw [defs_eq, main_eq]
  exact Cert.Kernel2Ideal.Proj.frame (F := Bits) m ρ

end Cert.Kernel2.Proj
-- ==== Proof.ProjValue.lean ====
/-
  The projection kernel's blocks at an index: the modulated rows, the projected columns and the gate logits, as
  functions of the arguments.
-/
module

public import proofs.«01_k».proof.Proof.ProjFrame
public import Idealize.ShloMosaic.Lib.Pointwise
public import Idealize.ShloMosaic.Lib.Pipeline.ValueKit
public import Idealize.ShloMosaic.Lib.Claim

@[expose] public section

set_option maxRecDepth 16384

noncomputable section

namespace Cert.Kernel2Ideal.Proj

open Idealize.ShloMosaic Idealize.ShloMosaic.TcCoe Idealize.SL.Sem
open Idealize.ShloMosaic.Pipeline (Dat)
open Cert.Kernel2Ideal Cert.Kernel2Ideal.Gen

section
variable {F : FTy → Type} [FloatOps F]

/-- The gate and projection weights, a row for each column. -/
abbrev wT (w : FVec F S2x4096x12320 .f32) : FVec F S2x12320x4096 .f32 :=
  transpose S2x12320x4096 [0, 2, 1] w transposes_S2x4096x12320_S2x12320x4096_0_2_1
/-- The projection weights' rows in the narrower floats. -/
abbrev wQ (w : FVec F S2x4096x12320 .f32) : FVec F S2x12288x4096 .bf16 :=
  truncf .bf16 (extractStridedSlice S2x12288x4096 ![0, 0, 0] (wT w) slices_S2x12320x4096_S2x12288x4096_0_0_0) bitsLt_bf16_f32
/-- The rows of both batches under one another. -/
abbrev xF (x : FVec F S2x4096x4096 .f32) : FVec F S8192x4096 .f32 := shapeCast S8192x4096 x shapeCasts_S2x4096x4096_S8192x4096
/-- The six modulation vectors. -/
abbrev mF (x : FVec F S2x24576 .f32) : FVec F S2x6x4096 .f32 := shapeCast S2x6x4096 x shapeCasts_S2x24576_S2x6x4096

variable (m : (ℓ : Loc nD τ sig) → Buf (Elt F) ℓ) (c : Dev nD)

set_option maxHeartbeats 2000000 in
theorem v0_eq : V m c main_v0 = wT (F := F) (m ((c : Thread nD τ).loc main_arg2)) := by
  simp only [V, hostOps0, List.flatten_cons, List.flatten_nil, List.append_nil, List.cons_append, List.nil_append]
  after_results
set_option maxHeartbeats 2000000 in
theorem v2_eq : V m c main_v2 = wQ (F := F) (m ((c : Thread nD τ).loc main_arg2)) := by
  simp only [V, hostOps0, List.flatten_cons, List.flatten_nil, List.append_nil, List.cons_append, List.nil_append]
  after_results
set_option maxHeartbeats 2000000 in
theorem v3_eq : V m c main_v3 = xF (F := F) (m ((c : Thread nD τ).loc main_arg0)) := by
  simp only [V, hostOps0, List.flatten_cons, List.flatten_nil, List.append_nil, List.cons_append, List.nil_append]
  after_results
  rfl
set_option maxHeartbeats 2000000 in
theorem v4_eq : V m c main_v4 = mF (F := F) (m ((c : Thread nD τ).loc main_arg1)) := by
  simp only [V, hostOps0, List.flatten_cons, List.flatten_nil, List.append_nil, List.cons_append, List.nil_append]
  after_results
  rfl
end

/-- The word of one. -/
abbrev one : EReal := Ideal.ofBits FTy.f32 0x3F800000#32
/-- The scale of the queries. -/
abbrev scale : EReal := Ideal.ofBits FTy.f32 0x3DB504F3#32

/-- Row `r` of row block `i` of the sequence: its batch and its place there. -/
abbrev bOf (i : Fin 16) : Fin 2 := ⟨i.val / 8, by omega⟩
abbrev sOf (i : Fin 16) (r : Fin 512) : Fin 4096 := ⟨i.val % 8 * 512 + r.val, by omega⟩
abbrev nOf (i : Fin 16) (r : Fin 512) : Fin 8192 := ⟨i.val * 512 + r.val, by omega⟩
abbrev cOf (j : Fin 12) (k : Fin 1024) : Fin 12288 := ⟨j.val * 1024 + k.val, by omega⟩

theorem wQ_at (w : FVec Ideal S2x4096x12320 .f32) (b : Fin 2) (n : Fin 12288) (k : Fin 4096) :
    wQ w (ix3 b n k) = w (ix3 b k ⟨n.val, by omega⟩) := by
  pointwise
theorem wT_at (w : FVec Ideal S2x4096x12320 .f32) (b : Fin 2) (n : Fin 12320) (k : Fin 4096) :
    wT w (ix3 b n k) = w (ix3 b k n) := by
  pointwise
theorem xF_at (x : FVec Ideal S2x4096x4096 .f32) (i : Fin 16) (r : Fin 512) (k : Fin 4096) :
    xF x (ix2 (nOf i r) k) = x (ix3 (bOf i) (sOf i r) k) := by
  pointwise
  exact congrArg₂ (fun b s => x (ix3 b s k)) (Fin.ext (by simp only []; omega)) (Fin.ext (by simp only []; omega))
theorem mF_at (x : FVec Ideal S2x24576 .f32) (b : Fin 2) (p : Fin 6) (k : Fin 4096) :
    mF x (ix3 b p k) = x (ix2 b ⟨p.val * 4096 + k.val, by omega⟩) := by
  pointwise

/-- A modulated row's entry. -/
abbrev hv (x : FVec Ideal S2x4096x4096 .f32) (md : FVec Ideal S2x24576 .f32) (b : Fin 2) (s k : Fin 4096) : EReal :=
  (x (ix3 b s k) : EReal) * (one + md (ix2 b ⟨4096 + k.val, by omega⟩)) + md (ix2 b ⟨k.val, by omega⟩)

theorem pay1_at (v13 : FVec Ideal S1x6x4096 .f32) (v15 : FVec Ideal S512x4096 .f32) (r : Fin 512) (k : Fin 4096) :
    k0_pay1 (F := Ideal) v13 v15 (ix2 r k) = ((v15 (ix2 r k) : EReal) * (one + v13 (ix3 0 1 k)) + v13 (ix3 0 0 k) : EReal) := by
  pointwise [k0_pay1]
  try rfl
theorem pay2_at (v13 : FVec Ideal S1x6x4096 .f32) (v15 : FVec Ideal S512x4096 .f32) (r : Fin 512) (k : Fin 4096) :
    k0_pay2 (F := Ideal) v13 v15 (ix2 r k) = k0_pay1 (F := Ideal) v13 v15 (ix2 r k) := by
  unfold k0_pay2
  generalize k0_pay1 (F := Ideal) v13 v15 = y
  pointwise
theorem pay3_at (v13 : FVec Ideal S1x6x4096 .f32) (v15 : FVec Ideal S512x4096 .f32) (r : Fin 512) (k : Fin 4096) :
    k0_pay3 (F := Ideal) v13 v15 (ix2 r k) = k0_pay1 (F := Ideal) v13 v15 (ix2 r k) := by
  unfold k0_pay3 k0_pay2
  generalize k0_pay1 (F := Ideal) v13 v15 = y
  pointwise

theorem pay5_at (i : grid0.Coords) (h : FVec Ideal S512x4096 .bf16) (w : FVec Ideal S1x1024x4096 .bf16) (r : Fin 512) (k : Fin 1024) :
    k0_pay5 (F := Ideal) i h w (ix2 r k) = ((∑ x : Fin 4096, (h (ix2 r x) : EReal) * w (ix3 0 k x))
      * Scalar.select (IntOp.cmpi CmpIPredicate.slt (BitVec.ofNat 32 (i 1).val) 4#32) scale one : EReal) := by
  pointwise [k0_pay5]
  try rfl

/-- The masked gate weights. -/
abbrev wM (w : FVec Ideal S1x128x4096 .f32) (l : Fin 128) (k : Fin 4096) : EReal :=
  Scalar.select (IntOp.cmpi CmpIPredicate.slt (BitVec.ofNat 32 l.val) 32#32) (w (ix3 0 l k) : EReal) 0

theorem pay4_at (v13 : FVec Ideal S1x6x4096 .f32) (v15 : FVec Ideal S512x4096 .f32) (w : FVec Ideal S1x128x4096 .f32) (r : Fin 512) (l : Fin 128) :
    k0_pay4 (F := Ideal) v13 v15 w (ix2 r l) =
      ((∑ x : Fin 4096, (k0_pay1 (F := Ideal) v13 v15 (ix2 r x) : EReal) * wM w l x)
        + (∑ x : Fin 4096, ((k0_pay1 (F := Ideal) v13 v15 (ix2 r x) : EReal) - k0_pay1 (F := Ideal) v13 v15 (ix2 r x)) * wM w l x)
        + (∑ x : Fin 4096, (k0_pay1 (F := Ideal) v13 v15 (ix2 r x) : EReal) * (wM w l x - wM w l x)) : EReal) := by
  unfold k0_pay4 k0_pay2
  generalize k0_pay1 (F := Ideal) v13 v15 = y
  pointwise

/-! ## The windows' blocks -/

/-- The windows' index maps over the grid. -/
theorem idx : ∀ t : Fin cfg0.N,
    win0_0.index t = ![(grid0.coords t 0).val, 0]
    ∧ win0_1.index t = ![(grid0.coords t 0).val / 8, 0, 0]
    ∧ win0_2.index t = ![0, (grid0.coords t 1).val, 0]
    ∧ win0_3.index t = ![0, 96, 0]
    ∧ win0_4.index t = ![(grid0.coords t 0).val, (grid0.coords t 1).val]
    ∧ win0_5.index t = ![(grid0.coords t 0).val, 0] :=
  (by decide +kernel : ∀ t : Fin grid0.N, _)

/-- The row block's first point lies in the same row block. -/
theorem rp_coords : ∀ t : Fin cfg0.N, (grid0.coords (rp t.val) 0).val = (grid0.coords t 0).val :=
  (by decide +kernel : ∀ t : Fin grid0.N, (grid0.coords (rp t.val) 0).val = (grid0.coords t 0).val)

variable (m : (ℓ : Loc nD τ sig) → Buf (Elt Ideal) ℓ) (c : Dev nD) (t : Fin cfg0.N)

/-- The argument arrays, at their literal shapes. -/
abbrev X : FVec Ideal S2x4096x4096 .f32 := m ((c : Thread nD τ).loc main_arg0)
abbrev M : FVec Ideal S2x24576 .f32 := m ((c : Thread nD τ).loc main_arg1)
abbrev W : FVec Ideal S2x4096x12320 .f32 := m ((c : Thread nD τ).loc main_arg2)

/-- A grid point's row block and column block. -/
abbrev iI (t : Fin cfg0.N) : Fin 16 := grid0.coords t 0
abbrev jI (t : Fin cfg0.N) : Fin 12 := grid0.coords t 1

theorem x0_at (r : Fin 512) (k : Fin 4096) :
    (show FVec Ideal S512x4096 .f32 from iblk m c 0 t) (ix2 r k) = X m c (ix3 (bOf (iI t)) (sOf (iI t) r) k) := by
  have e : (show FVec Ideal S512x4096 .f32 from iblk m c 0 t) (ix2 r k)
      = (show FVec Ideal S8192x4096 .f32 from V m c main_v3) (ix2 (nOf (iI t) r) k) := by
    have h0 : (grid0.coords t 0).val = (iI t).val := rfl
    blk_ext [iblk, idx t] <;> omega
  rw [e, v3_eq]
  exact xF_at _ _ _ _

theorem x1_at (p : Fin 6) (k : Fin 4096) :
    (show FVec Ideal S1x6x4096 .f32 from iblk m c 1 t) (ix3 0 p k) = M m c (ix2 (bOf (iI t)) ⟨p.val * 4096 + k.val, by omega⟩) := by
  have e : (show FVec Ideal S1x6x4096 .f32 from iblk m c 1 t) (ix3 0 p k)
      = (show FVec Ideal S2x6x4096 .f32 from V m c main_v4) (ix3 (bOf (iI t)) p k) := by
    have h0 : (grid0.coords t 0).val = (iI t).val := rfl
    blk_ext [iblk, idx t] <;> omega
  rw [e, v4_eq]
  exact mF_at _ _ _ _

theorem x2_at (n : Fin 1024) (k : Fin 4096) :
    (show FVec Ideal S1x1024x4096 .bf16 from iblk m c 2 t) (ix3 0 n k) = W m c (ix3 0 k ⟨(cOf (jI t) n).val, by omega⟩) := by
  have e : (show FVec Ideal S1x1024x4096 .bf16 from iblk m c 2 t) (ix3 0 n k)
      = (show FVec Ideal S2x12288x4096 .bf16 from V m c main_v2) (ix3 0 (cOf (jI t) n) k) := by
    have h1 : (grid0.coords t 1).val = (jI t).val := rfl
    blk_ext [iblk, idx t] <;> omega
  rw [e, v2_eq]
  exact wQ_at _ _ _ _

theorem row_at (r : Fin 512) (k : Fin 4096) :
    k0_pay1 (F := Ideal) (iblk m c 1 t) (iblk m c 0 t) (ix2 r k) = hv (X m c) (M m c) (bOf (iI t)) (sOf (iI t) r) k := by
  refine (pay1_at _ _ r k).trans ?_
  refine (congrArg₂ (· + ·) (congrArg₂ (· * ·) (x0_at m c t r k) (congrArg (one + ·) (x1_at m c t 1 k))) (x1_at m c t 0 k)).trans ?_
  refine congrArg₂ (· + ·) (congrArg (_ * ·) (congrArg (one + ·) (congrArg (fun a => M m c (ix2 (bOf (iI t)) a)) (Fin.ext ?_)))) (congrArg (fun a => M m c (ix2 (bOf (iI t)) a)) (Fin.ext ?_)) <;>
    simp

theorem h_row (r : Fin 512) (k : Fin 4096) :
    k0_pay1 (F := Ideal) (iblk m c 1 (rp t.val)) (iblk m c 0 (rp t.val)) (ix2 r k) = hv (X m c) (M m c) (bOf (iI t)) (sOf (iI t) r) k := by
  refine (row_at m c (rp t.val) r k).trans ?_
  rw [show iI (rp t.val) = iI t from Fin.ext (rp_coords t)]

/-- A projected entry: the modulated row against the weights' column. -/
abbrev pv (x : FVec Ideal S2x4096x4096 .f32) (md : FVec Ideal S2x24576 .f32) (w : FVec Ideal S2x4096x12320 .f32) (b : Fin 2) (s : Fin 4096) (n : Fin 12320) : EReal :=
  ∑ k : Fin 4096, hv x md b s k * w (ix3 0 k n)

theorem qkv_at (r : Fin 512) (n : Fin 1024) :
    (show FVec Ideal S512x1024 .bf16 from k0_pay5 (F := Ideal) (grid0.coords t) (hAt m c t.val) (iblk m c 2 t)) (ix2 r n)
      = pv (X m c) (M m c) (W m c) (bOf (iI t)) (sOf (iI t) r) ⟨(cOf (jI t) n).val, by omega⟩ * (if (cOf (jI t) n).val < 4096 then scale else one) := by
  refine (pay5_at _ _ _ r n).trans ?_
  refine congrArg₂ (· * ·) (Finset.sum_congr rfl fun k _ => congrArg₂ (· * ·) ?_ (x2_at m c t n k)) ?_
  · unfold hAt
    exact (pay3_at _ _ r k).trans (h_row m c t r k)
  · have key : ∀ j : Fin 12, IntOp.cmpi CmpIPredicate.slt (BitVec.ofNat 32 j.val) 4#32 = 1#1 ↔ j.val < 4 := by decide
    unfold Scalar.select
    refine if_congr ((key (jI t)).trans ?_) rfl rfl
    simp only [cOf]
    omega

theorem wf_at (d : S1x128x4096.Idx → Elt Ideal .f32) (l : Fin 128) (hl : l.val < 32) (k : Fin 4096) :
    (show FVec Ideal S1x128x4096 .f32 from wf m c d) (ix3 0 l k) = W m c (ix3 0 k ⟨12288 + l.val, by omega⟩) := by
  have hm : win0_3.moved (grid0.coords t0) (ix3 (0 : Fin 1) l k : S1x128x4096.Idx) = true := (win0_3.moved_iff _ _).mpr fun a => by
    fin_cases a
    · exact (0 : Fin 1).isLt
    · exact hl
    · exact k.isLt
  have e : (show FVec Ideal S1x128x4096 .f32 from wf m c d) (ix3 0 l k)
      = (show FVec Ideal S2x12320x4096 .f32 from V m c main_v0) (ix3 0 ⟨12288 + l.val, by omega⟩ k) := by
    show Pipeline.Window.fill win0_3 _ _ _ _ = _
    unfold Pipeline.Window.fill
    rw [dif_pos hm]
    blk_ext [iblk, idx t0] <;> omega
  rw [e, v0_eq]
  exact wT_at _ _ _ _

theorem lane_bit : ∀ l : Fin 128, IntOp.cmpi CmpIPredicate.slt (BitVec.ofNat 32 l.val) 32#32 = 1#1 ↔ l.val < 32 := by decide +kernel

theorem sum_real (n : ℕ) (f : Fin n → ℝ) : (∑ k, (f k : EReal)) = ((∑ k, f k : ℝ) : EReal) :=
  (map_sum (⟨⟨Real.toEReal, EReal.coe_zero⟩, EReal.coe_add⟩ : ℝ →+ EReal) f Finset.univ).symm

/-- The split product is the product, of finite operands. -/
theorem split_sum (h w : Fin 4096 → ℝ) :
    (∑ k, (h k : EReal) * w k) + (∑ k, ((h k : EReal) - h k) * w k) + (∑ k, (h k : EReal) * ((w k : EReal) - w k)) = ∑ k, (h k : EReal) * w k := by
  have e1 : ∀ k, ((h k : EReal) - h k) * w k = 0 := fun k => by
    rw [← EReal.coe_sub, sub_self, EReal.coe_zero, zero_mul]
  have e2 : ∀ k, (h k : EReal) * ((w k : EReal) - w k) = 0 := fun k => by
    rw [← EReal.coe_sub, sub_self, EReal.coe_zero, mul_zero]
  simp only [e1, e2, Finset.sum_const_zero, add_zero]

theorem f_at (hr : Fin 2 → Fin 4096 → Fin 4096 → ℝ) (wr : Fin 4096 → Fin 32 → ℝ)
    (hh : ∀ b s k, hv (X m c) (M m c) b s k = (hr b s k : EReal))
    (hw : ∀ k (l : Fin 32), W m c (ix3 0 k ⟨12288 + l.val, by omega⟩) = (wr k l : EReal)) (r : Fin 512) (l : Fin 128) :
    (show FVec Ideal S512x128 .f32 from fAt m c t.val) (ix2 r l)
      = if h : l.val < 32 then pv (X m c) (M m c) (W m c) (bOf (iI t)) (sOf (iI t) r) ⟨12288 + l.val, by omega⟩ else 0 := by
  unfold fAt
  refine (pay4_at _ _ _ r l).trans ?_
  have hy : ∀ k, k0_pay1 (F := Ideal) (iblk m c 1 (rp t.val)) (iblk m c 0 (rp t.val)) (ix2 r k) = (hr (bOf (iI t)) (sOf (iI t) r) k : EReal) :=
    fun k => (h_row m c t r k).trans (hh _ _ _)
  have hz : ∀ k, wM (wf (F := Ideal) m c fun _ => (Scalar.ofBits .f32 0#32 : Ideal .f32)) l k
      = ((if h : l.val < 32 then wr k ⟨l.val, h⟩ else 0 : ℝ) : EReal) := fun k => by
    by_cases h : l.val < 32
    · rw [dif_pos h]
      exact (if_pos ((lane_bit l).mpr h)).trans ((wf_at m c _ l h k).trans (hw k ⟨l.val, h⟩))
    · rw [dif_neg h]
      exact (if_neg fun e => h ((lane_bit l).mp e)).trans EReal.coe_zero.symm
  refine Eq.trans (congrArg₂ (· + ·) (congrArg₂ (· + ·) (Finset.sum_congr rfl fun k _ => congrArg₂ (· * ·) (hy k) (hz k))
    (Finset.sum_congr rfl fun k _ => congrArg₂ (· * ·) (congrArg₂ (· - ·) (hy k) (hy k)) (hz k)))
    (Finset.sum_congr rfl fun k _ => congrArg₂ (· * ·) (hy k) (congrArg₂ (· - ·) (hz k) (hz k)))) ?_
  refine (split_sum _ _).trans ?_
  by_cases h : l.val < 32
  · rw [dif_pos h]
    refine Finset.sum_congr rfl fun k _ => ?_
    rw [dif_pos h, hh]
    exact congrArg (_ * ·) (hw k ⟨l.val, h⟩).symm
  · rw [dif_neg h]
    refine Finset.sum_eq_zero fun k _ => ?_
    rw [dif_neg h, EReal.coe_zero, mul_zero]

/-! ## The result arrays -/

theorem arr4_eq (R : FVec Ideal S8192x12288 .bf16)
    (hR : ∀ (i : Fin 16) (j : Fin 12) (r : Fin 512) (n : Fin 1024), R (ix2 (nOf i r) (cOf j n))
      = pv (X m c) (M m c) (W m c) (bOf i) (sOf i r) ⟨(cOf j n).val, by omega⟩ * (if (cOf j n).val < 4096 then scale else one)) :
    (dats m 0 c).arrAt 4 cfg0.N = R := by
  refine (dats m 0 c).arrAt_eq_of_covers 4 _ (by decide +kernel) fun t _ y => ?_
  blk_simp
  rw [after0_4]
  have h0 : (grid0.coords t 0).val = (iI t).val := rfl
  have h1 : (grid0.coords t 1).val = (jI t).val := rfl
  have ey : y = (ix2 (y 0) (y 1) : S512x1024.Idx) := by blk_ext []
  have ee : (win0_4.blk t).view.emb y = ix2 (nOf (iI t) (y 0)) (cOf (jI t) (y 1)) := by
    blk_ext [idx t] <;> omega
  rw [ee]
  refine Eq.trans (congrArg (k0_pay5 (F := Ideal) (grid0.coords t) (hAt m c t.val) (iblk m c 2 t)) ey) ?_
  exact (qkv_at m c t (y 0) (y 1)).trans (hR _ _ _ _).symm

theorem arr5_eq (hr : Fin 2 → Fin 4096 → Fin 4096 → ℝ) (wr : Fin 4096 → Fin 32 → ℝ)
    (hh : ∀ b s k, hv (X m c) (M m c) b s k = (hr b s k : EReal))
    (hw : ∀ k (l : Fin 32), W m c (ix3 0 k ⟨12288 + l.val, by omega⟩) = (wr k l : EReal)) (R : FVec Ideal S8192x128 .f32)
    (hR : ∀ (i : Fin 16) (r : Fin 512) (l : Fin 128), R (ix2 (nOf i r) l)
      = if h : l.val < 32 then pv (X m c) (M m c) (W m c) (bOf i) (sOf i r) ⟨12288 + l.val, by omega⟩ else 0) :
    (dats m 0 c).arrAt 5 cfg0.N = R := by
  refine (dats m 0 c).arrAt_eq_of_covers 5 _ (by decide +kernel) fun t _ y => ?_
  blk_simp
  rw [after0_5]
  have h0 : (grid0.coords t 0).val = (iI t).val := rfl
  have ey : y = (ix2 (y 0) (y 1) : S512x128.Idx) := by blk_ext []
  have ee : (win0_5.blk t).view.emb y = ix2 (nOf (iI t) (y 0)) (y 1) := by
    blk_ext [idx t] <;> omega
  rw [ee]
  refine Eq.trans (congrArg (fAt m c t.val) ey) ?_
  exact (f_at m c t hr wr hh hw (y 0) (y 1)).trans (hR _ _ _).symm

end Cert.Kernel2Ideal.Proj
-- ==== Proof.ProjRef.lean ====
/-
  The reference projection read at an index: the modulated rows, the product with the weights, its scaled columns and
  its padded gate logits.
-/
module

public import proofs.«01_k».proof.Proof.Gen.Reference2Ideal.Run
public import Idealize.ShloMosaic.Lib.Pointwise

@[expose] public section

set_option maxRecDepth 16384

noncomputable section

namespace Cert.Reference2Ideal.Proj

open Idealize.ShloMosaic Idealize.ShloMosaic.TcCoe Idealize.SL.Sem
open Cert.Reference2Ideal Cert.Reference2Ideal.Gen Cert.Reference2Ideal.Value

section
variable {F : FTy → Type} [FloatOps F]

/-- The modulation vectors of every row. -/
abbrev mR (md : FVec F S2x24576 .f32) : FVec F S2x1x24576 .f32 := broadcastInDim S2x1x24576 ![0, 2] bcast_S2x24576_S2x1x24576_0_2 md

/-- The modulated rows. -/
def hR (x : FVec F S2x4096x4096 .f32) (md : FVec F S2x24576 .f32) : FVec F S2x4096x4096 .f32 :=
  addf (mulf x (broadcastInDim S2x4096x4096 ![0, 1, 2] bcast_S2x1x4096_S2x4096x4096_0_1_2
      (addf (broadcastInDim S2x1x4096 ![] bcast_S_S2x1x4096 (constant S_ .f32 0x3F800000#32))
        (extractStridedSlice S2x1x4096 ![0, 0, 4096] (mR md) slices_S2x1x24576_S2x1x4096_0_0_4096))))
    (broadcastInDim S2x4096x4096 ![0, 1, 2] bcast_S2x1x4096_S2x4096x4096_0_1_2
      (extractStridedSlice S2x1x4096 ![0, 0, 0] (mR md) slices_S2x1x24576_S2x1x4096_0_0_0))

/-- Rows `h` against the weights. -/
def pR (h : FVec F S2x4096x4096 .f32) (w : FVec F S2x4096x12320 .f32) : FVec F S2x4096x12320 .f32 :=
  Host.dotGeneral dot_S2x4096x4096_S4096x12320_S2x4096x12320_2_0_01_1_n_n none h
    (shapeCast _ (extractStridedSlice S1x4096x12320 ![0, 0, 0] w slices_S2x4096x12320_S1x4096x12320_0_0_0) shapeCasts_S1x4096x12320_S4096x12320)

/-- The queries scaled, the keys and the values of a product `p`. -/
def qkvR (p : FVec F S2x4096x12320 .f32) : FVec F S8192x12288 .bf16 :=
  truncf .bf16 (shapeCast _ (concatenate S2x4096x12288 2
    [⟨S2x4096x4096, (mulf (extractStridedSlice S2x4096x4096 ![0, 0, 0] p slices_S2x4096x12320_S2x4096x4096_0_0_0)
        (broadcastInDim S2x4096x4096 ![] bcast_S_S2x4096x4096 (constant S_ .f32 0x3DB504F3#32)))⟩,
     ⟨S2x4096x8192, (extractStridedSlice S2x4096x8192 ![0, 0, 4096] p slices_S2x4096x12320_S2x4096x8192_0_0_4096)⟩]
    concatenates_S2x4096x4096_S2x4096x8192_S2x4096x12288_d2) shapeCasts_S2x4096x12288_S8192x12288) bitsLt_bf16_f32

/-- The gate logits of a product `p`, padded. -/
def fR (p : FVec F S2x4096x12320 .f32) : FVec F S8192x128 .f32 :=
  pad S8192x128 ![0, 0] ![0, 96] ![0, 0] (shapeCast _ (extractStridedSlice S2x4096x32 ![0, 0, 12288] p slices_S2x4096x12320_S2x4096x32_0_0_12288) shapeCasts_S2x4096x32_S8192x32)
    (sitofp .f32 (constantI S_ 32 0#32)) pads_S8192x32_S8192x128_000_0960 h_S_
end

theorem hR_at (x : FVec Ideal S2x4096x4096 .f32) (md : FVec Ideal S2x24576 .f32) (b : Fin 2) (s k : Fin 4096) :
    hR x md (ix3 b s k) = ((x (ix3 b s k) : EReal) * (Ideal.ofBits FTy.f32 0x3F800000#32 + md (ix2 b ⟨4096 + k.val, by omega⟩)) + md (ix2 b ⟨k.val, by omega⟩) : EReal) := by
  pointwise [hR]
  try rfl

theorem pR_at (h : FVec Ideal S2x4096x4096 .f32) (w : FVec Ideal S2x4096x12320 .f32) (b : Fin 2) (s : Fin 4096) (n : Fin 12320) :
    pR h w (ix3 b s n) = ∑ k : Fin 4096, (show EReal from h (ix3 b s k)) * w (ix3 0 k n) := by
  pointwise [pR]
  try rfl

theorem qkvR_at (p : FVec Ideal S2x4096x12320 .f32) (i : Fin 16) (r : Fin 512) (n : Fin 12288) :
    qkvR p (ix2 ⟨i.val * 512 + r.val, by omega⟩ n) =
      (if n.val < 4096 then (show EReal from p (ix3 ⟨i.val / 8, by omega⟩ ⟨i.val % 8 * 512 + r.val, by omega⟩ ⟨n.val, by omega⟩)) * Ideal.ofBits FTy.f32 0x3DB504F3#32
        else p (ix3 ⟨i.val / 8, by omega⟩ ⟨i.val % 8 * 512 + r.val, by omega⟩ ⟨n.val, by omega⟩)) := by
  have hb : (⟨(i.val * 512 + r.val) / 4096, by omega⟩ : Fin 2) = ⟨i.val / 8, by omega⟩ := Fin.ext (by simp only []; omega)
  have hs : (⟨(i.val * 512 + r.val) % 4096, by omega⟩ : Fin 4096) = ⟨i.val % 8 * 512 + r.val, by omega⟩ := Fin.ext (by simp only []; omega)
  pointwise [qkvR]
  by_cases h : n.val < 4096
  · refine (dif_pos h).trans (Eq.trans ?_ (if_pos h).symm)
    exact congrArg₂ (fun b s => (show EReal from p (ix3 b s ⟨n.val, by omega⟩)) * Ideal.ofBits FTy.f32 0x3DB504F3#32) hb hs
  · refine (dif_neg h).trans (Eq.trans ?_ (if_neg h).symm)
    have hn : (⟨4096 + (n.val - 4096), by omega⟩ : Fin 12320) = ⟨n.val, by omega⟩ := Fin.ext (by simp only []; omega)
    exact (congrArg₂ (fun b s => p (ix3 b s _)) hb hs).trans (congrArg (fun a => p (ix3 _ _ a)) hn)

theorem fR_at (p : FVec Ideal S2x4096x12320 .f32) (i : Fin 16) (r : Fin 512) (l : Fin 128) :
    fR p (ix2 ⟨i.val * 512 + r.val, by omega⟩ l) =
      if h : l.val < 32 then (show EReal from p (ix3 ⟨i.val / 8, by omega⟩ ⟨i.val % 8 * 512 + r.val, by omega⟩ ⟨12288 + l.val, by omega⟩)) else 0 := by
  have hb : (⟨(i.val * 512 + r.val) / 4096, by omega⟩ : Fin 2) = ⟨i.val / 8, by omega⟩ := Fin.ext (by simp only []; omega)
  have hs : (⟨(i.val * 512 + r.val) % 4096, by omega⟩ : Fin 4096) = ⟨i.val % 8 * 512 + r.val, by omega⟩ := Fin.ext (by simp only []; omega)
  pointwise [fR]
  by_cases h : l.val < 32
  · refine (dif_pos ⟨by omega, h⟩).trans (Eq.trans ?_ (dif_pos h).symm)
    exact congrArg₂ (fun b s => p (ix3 b s ⟨12288 + l.val, by omega⟩)) hb hs
  · refine (dif_neg fun e => h e.2).trans (Eq.trans ?_ (dif_neg h).symm)
    exact (congrArg (fun a : ℤ => ((a : ℝ) : EReal)) (show (0#32 : BitVec 32).toInt = 0 from rfl)).trans (by simp)

end Cert.Reference2Ideal.Proj
-- ==== Proof.ProjFinite.lean ====
/-
  The projection's precondition, element by element: the rows, their shift and scale, and the gate weights are real
  numbers.
-/
module

public import proofs.«01_k».proof.Pre_finite2
public import Idealize.ShloMosaic.Lib.Pointwise
public import Idealize.ShloMosaic.Lib.ReduceAll
public import Idealize.ShloMosaic.Lib.Affine

@[expose] public section

set_option maxRecDepth 16384

noncomputable section

namespace Cert.Pre_finite2.Proj

open Idealize.ShloMosaic Cert.Pre_finite2 Cert.Pre_finite2.Facts

instance facts : Cert.Pre_finite2.Facts where
  bcast_S_S2x4096x4096 := by decide
  reducesTo_S2x4096x4096_S_d0_1_2 := by decide
  h_S_ := by decide
  slices_S2x24576_S2x8192_0_0 := by decide
  bcast_S_S2x8192 := by decide
  reducesTo_S2x8192_S_d0_1 := by decide
  slices_S2x4096x12320_S1x4096x32_0_0_12288 := by decide
  shapeCasts_S1x4096x32_S4096x32 := by decide
  bcast_S_S4096x32 := by decide
  reducesTo_S4096x32_S_d0_1 := by decide

theorem real_of_lt (x : EReal) (h : Ideal.cmp .olt (max x (-x)) (Ideal.ofBits FTy.f32 0x7F800000#32) = 1#1) : ∃ y : ℝ, x = (y : EReal) := by
  have e : Ideal.ofBits FTy.f32 0x7F800000#32 = (⊤ : EReal) := by simp [Ideal.ofBits, Ideal.ieee]
  rw [e] at h
  induction x with
  | bot => simp [Ideal.cmp] at h
  | top => simp [Ideal.cmp] at h
  | coe y => exact ⟨y, rfl⟩

instance : Subsingleton S_.Idx := ⟨fun a b => funext fun x => x.elim0⟩

/-- The first two modulation vectors. -/
abbrev md2 (x : FVec Ideal S2x24576 .f32) : FVec Ideal S2x8192 .f32 := extractStridedSlice S2x8192 ![0, 0] x slices_S2x24576_S2x8192_0_0
/-- The gate weights. -/
abbrev wg (x : FVec Ideal S2x4096x12320 .f32) : FVec Ideal S4096x32 .f32 :=
  shapeCast S4096x32 (extractStridedSlice S1x4096x32 ![0, 0, 12288] x slices_S2x4096x12320_S1x4096x32_0_0_12288) shapeCasts_S1x4096x32_S4096x32

theorem md2_at (x : FVec Ideal S2x24576 .f32) (b : Fin 2) (k : Fin 8192) : md2 x (ix2 b k) = x (ix2 b ⟨k.val, by omega⟩) := by
  pointwise
theorem wg_at (x : FVec Ideal S2x4096x12320 .f32) (k : Fin 4096) (l : Fin 32) : wg x (ix2 k l) = x (ix3 0 k ⟨12288 + l.val, by omega⟩) := by
  pointwise

theorem split (x : FVec Ideal S2x4096x4096 .f32) (md : FVec Ideal S2x24576 .f32) (w : FVec Ideal S2x4096x12320 .f32)
    (h : fn (F := Ideal) x md w = fun _ => 1#1) :
    (∀ i, cmpf .olt (Host.absf x) (broadcastInDim S2x4096x4096 ![] bcast_S_S2x4096x4096 (constant S_ .f32 0x7F800000#32)) i = 1#1)
    ∧ (∀ i, cmpf .olt (Host.absf (md2 md)) (broadcastInDim S2x8192 ![] bcast_S_S2x8192 (constant S_ .f32 0x7F800000#32)) i = 1#1)
    ∧ (∀ i, cmpf .olt (Host.absf (wg w)) (broadcastInDim S4096x32 ![] bcast_S_S4096x32 (constant S_ .f32 0x7F800000#32)) i = 1#1) := by
  have h0 := congrFun h (fun a => a.elim0)
  unfold fn at h0
  obtain ⟨h1, h3⟩ := IntOp.andi_eq_one.1 h0
  obtain ⟨h1, h2⟩ := IntOp.andi_eq_one.1 h1
  exact ⟨Host.reduce_andi_all _ _ _ _ _ h1, Host.reduce_andi_all _ _ _ _ _ h2, Host.reduce_andi_all _ _ _ _ _ h3⟩

/-- The entries as real numbers. -/
theorem reals (x : FVec Ideal S2x4096x4096 .f32) (md : FVec Ideal S2x24576 .f32) (w : FVec Ideal S2x4096x12320 .f32)
    (h : fn (F := Ideal) x md w = fun _ => 1#1) :
    ∃ (xr : Fin 2 → Fin 4096 → Fin 4096 → ℝ) (mr : Fin 2 → Fin 8192 → ℝ) (wr : Fin 4096 → Fin 32 → ℝ),
      (∀ b s j, x (ix3 b s j) = (xr b s j : EReal)) ∧ (∀ b (k : Fin 8192), md (ix2 b ⟨k.val, by omega⟩) = (mr b k : EReal))
        ∧ (∀ k (l : Fin 32), w (ix3 0 k ⟨12288 + l.val, by omega⟩) = (wr k l : EReal)) := by
  obtain ⟨h1, h2, h3⟩ := split x md w h
  choose xr hx using fun b s j => real_of_lt (x (ix3 b s j)) (h1 (ix3 b s j))
  choose mr hm using fun b k => real_of_lt (md2 md (ix2 b k)) (h2 (ix2 b k))
  choose wr hw using fun k l => real_of_lt (wg w (ix2 k l)) (h3 (ix2 k l))
  exact ⟨xr, mr, wr, hx, fun b k => (md2_at md b k).symm.trans (hm b k), fun k l => (wg_at w k l).symm.trans (hw k l)⟩

end Cert.Pre_finite2.Proj
-- ==== Proof.ProjJoin.lean ====
/-
  The projection kernel's two result arrays are the reference's, and its claims.
-/
module

public import proofs.«01_k».proof.Defs
public import proofs.«01_k».proof.Proof.ProjValue
public import proofs.«01_k».proof.Proof.ProjRef
public import proofs.«01_k».proof.Proof.ProjFinite
public import Idealize.ShloMosaic.Lib.Claim
public import Idealize.ShloMosaic.Lib.Quiescent

@[expose] public section

set_option maxRecDepth 16384

noncomputable section

namespace Cert.Kernel2Ideal.Proj

open Idealize.ShloMosaic Idealize.ShloMosaic.TcCoe Idealize.SL.Sem
open Idealize.ShloMosaic.Pipeline (Dat)
open Cert.Kernel2Ideal Cert.Kernel2Ideal.Gen
open Cert.Reference2Ideal.Proj (hR pR qkvR fR hR_at pR_at qkvR_at fR_at)

theorem one_word : one = 1 := by
  simp [one, Ideal.ofBits, Ideal.ieee]
  rw [← EReal.coe_mul]
  norm_num

/-- The reference's product, at an index. -/
theorem prod_at (x : FVec Ideal S2x4096x4096 .f32) (md : FVec Ideal S2x24576 .f32) (w : FVec Ideal S2x4096x12320 .f32)
    (b : Fin 2) (s : Fin 4096) (n : Fin 12320) : pR (hR x md) w (ix3 b s n) = pv x md w b s n :=
  (pR_at _ w b s n).trans (Finset.sum_congr rfl fun k _ => congrArg (· * _) (hR_at x md b s k))

variable (m : (ℓ : Loc nD τ sig) → Buf (Elt Ideal) ℓ) (c : Dev nD)

theorem qkv_eq : (dats m 0 c).arrAt 4 cfg0.N = qkvR (pR (hR (X m c) (M m c)) (W m c)) := by
  have hp := prod_at (X m c) (M m c) (W m c)
  refine arr4_eq m c _ fun i j r n => ?_
  generalize pR (hR (X m c) (M m c)) (W m c) = P at hp ⊢
  refine (qkvR_at P i r (cOf j n)).trans ?_
  by_cases h : (cOf j n).val < 4096
  · rw [if_pos h, if_pos h]
    exact congrArg (· * scale) (hp _ _ _)
  · rw [if_neg h, if_neg h, one_word, mul_one]
    exact hp _ _ _

theorem f_eq (xr : Fin 2 → Fin 4096 → Fin 4096 → ℝ) (mr : Fin 2 → Fin 8192 → ℝ) (wr : Fin 4096 → Fin 32 → ℝ)
    (hx : ∀ b s j, X m c (ix3 b s j) = (xr b s j : EReal)) (hm : ∀ b (k : Fin 8192), M m c (ix2 b ⟨k.val, by omega⟩) = (mr b k : EReal))
    (hw : ∀ k (l : Fin 32), W m c (ix3 0 k ⟨12288 + l.val, by omega⟩) = (wr k l : EReal)) :
    (dats m 0 c).arrAt 5 cfg0.N = fR (pR (hR (X m c) (M m c)) (W m c)) := by
  have hp := prod_at (X m c) (M m c) (W m c)
  refine arr5_eq m c (fun b s k => xr b s k * (1 + mr b ⟨4096 + k.val, by omega⟩) + mr b ⟨k.val, by omega⟩) wr (fun b s k => ?_) hw _ fun i r l => ?_
  · unfold hv
    rw [one_word, hx b s k, EReal.coe_add, EReal.coe_mul, EReal.coe_add, EReal.coe_one]
    exact congrArg₂ (· + ·) (congrArg (_ * ·) (congrArg (1 + ·) (hm b ⟨4096 + k.val, by omega⟩))) (hm b ⟨k.val, by omega⟩)
  · generalize pR (hR (X m c) (M m c)) (W m c) = P at hp ⊢
    refine (fR_at P i r l).trans ?_
    by_cases h : l.val < 32
    · rw [dif_pos h, dif_pos h]
      exact hp _ _ _
    · rw [dif_neg h, dif_neg h]

/-- Every run ends with the two result arrays at what the proof data say, the arguments unchanged. -/
theorem run_arrays (ρ : Dev nD → PrngReg) : θ_run defs (onTc (τ := τ) (main (F := Ideal))) ⟨m, fun _ => 0, ρ⟩ (fun r => ∀ c : Dev nD,
      r.2.mem ((c.tc : Thread nD τ).loc main_v5_0) = (dats m 0 c).arrAt 4 cfg0.N
      ∧ r.2.mem ((c.tc : Thread nD τ).loc main_v5_1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).1 4, (h c).1 5,
      ((h c).2 main_arg0 (Pipeline.mem_restRefs_of main_arg0 (by decide) (by decide))).trans (V_arg0 m c),
      ((h c).2 main_arg1 (Pipeline.mem_restRefs_of main_arg1 (by decide) (by decide))).trans (V_arg1 m c),
      ((h c).2 main_arg2 (Pipeline.mem_restRefs_of main_arg2 (by decide) (by decide))).trans (V_arg2 m c)⟩) (run_main m ρ)

theorem algebraic : Cert.algebraic_Kernel2Ideal_Reference2Ideal_pre_finite2 := by
  intro m g m' g' hpre hagree
  refine ⟨fun c => (dats m 0 c).arrAt 4 cfg0.N, fun c => (dats m 0 c).arrAt 5 cfg0.N, run_arrays m g, ?_⟩
  refine (θ_run _ _ _).mono (fun r h c => ⟨(h c).1.trans ?_, (h c).2.1.trans ?_, (h c).2.2⟩) (Cert.Reference2Ideal.Value.run m' g')
  · obtain ⟨h0, h1, h2⟩ := hagree c
    refine Eq.trans ?_ (qkv_eq m c).symm
    rw [h0, h1, h2]
    rfl
  · obtain ⟨h0, h1, h2⟩ := hagree c
    obtain ⟨xr, mr, wr, hx, hm, hw⟩ := Cert.Pre_finite2.Proj.reals _ _ _ (hpre c)
    refine Eq.trans ?_ (f_eq m c xr mr wr hx hm hw).symm
    rw [h0, h1, h2]
    rfl

theorem ref_quiescent (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0) :=
  (θ_run _ _ _).mono (fun r h => ⟨fun c => (h c).2.2, sem_eq_zero_of_no_sems (by decide) r.2⟩) (Cert.Reference2Ideal.Value.run m g)

end Cert.Kernel2Ideal.Proj
-- ==== Proof.OutRun.lean ====
/-
  The output projection's body on any staging buffers: at every column block it stores the product of the
  rows with that block's weights in the block's columns of its result; at the last one it then normalizes
  the result's rows in place, sixty-four at a time. Stated for any floats.
-/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Pipeline.Value
public import Idealize.ShloMosaic.Lib.Pipeline.ValueKit
public import Idealize.ShloMosaic.Lib.Ring
public import Idealize.ShloMosaic.Lib.WholeRead
public import Idealize.ShloMosaic.Lib.WritesUnit
public import Idealize.ShloMosaic.Lib.ValueLayout
public import Idealize.ShloMosaic.Lib.Tactic

@[expose] public section

set_option maxRecDepth 16384

noncomputable section

namespace Cert.Kernel3Ideal.Out

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- A whole load reads the contents. -/
theorem rd {s : Shape} {e : EltTy} (mr : Memref sig .tc .vmem s e) (hm : mr.IsWhole) {off : Fin s.rank → Nat} (h : off = fun _ => 0)
    (inb : ∀ a, off a + s.size a ≤ s.size a) (X : s.Idx → Elt F e) :
    mr.view.readAt (Elt F) (Rect.unit off s.size inb).toLoadRect (hm.unread X) = X := by
  subst h; funext x
  rw [hm.readAt_unread]
  exact congrFun (View.ld_unit_zero rfl inb X) x

/-- `X` with the column block `n` replaced by `p`. -/
def putC (n : ℕ) (X : Vec F S512x4096 .f32) (p : Vec F S512x1024 .f32) : Vec F S512x4096 .f32 := fun y =>
  if h : 1024 * n ≤ (y 1).val ∧ (y 1).val < 1024 * n + 1024 then p (ValueIdx.ix2 (y 0) ⟨(y 1).val - 1024 * n, by omega⟩) else X y

/-- The rows `64 r` to `64 r + 63` of `X`. -/
def rowsOf (X : Vec F S512x4096 .f32) (r : ℕ) : Vec F S64x4096 .f32 := fun z =>
  X (ValueIdx.ix2 ⟨(64 * r + (z 0).val) % 512, Nat.mod_lt _ (by decide)⟩ (z 1))

/-- `Y` with its first `64 k` rows normalized. -/
def lnTo (v12 : Vec F S1x6x4096 .f32) (v15 v17 : Vec F S1x4096 .f32) (X Y : Vec F S512x4096 .f32) (k : ℕ) : Vec F S512x4096 .f32 := fun y =>
  if (y 0).val < 64 * k then
    k0_pay2 v12 v15 v17 (rowsOf X ((y 0).val / 64)) (rowsOf Y ((y 0).val / 64)) (ValueIdx.ix2 ⟨(y 0).val % 64, Nat.mod_lt _ (by decide)⟩ (y 1))
  else Y y

theorem off1 (i : grid0.Coords) : k0_off1 i = ![0, 1024 * (i 1).val] := by
  have h : ∀ j : Fin 4, (Scalar.indexCast (Scalar.muli (BitVec.ofNat 32 j.val) 1024#32) : Index).toNat = 1024 * j.val := by decide +kernel
  unfold k0_off1
  exact congrArg (fun n => (![0, n] : Fin 2 → ℕ)) (h (i 1))

theorem off2 : ∀ k : Fin k0_t1_loop.trips, k0_off2 k = ![64 * k.val, 0] := by decide +kernel

theorem trips_eq : k0_t1_loop.trips = 8 := by decide +kernel

/-- What the store of a column block leaves. -/
theorem wrC (mr : Memref sig .tc .vmem S512x4096 .f32) (hm : mr.IsWhole) (n : ℕ) {off : Fin 2 → Nat} (h : off = ![0, 1024 * n])
    (inb : ∀ a, off a + S512x1024.size a ≤ S512x4096.size a) (X : Vec F S512x4096 .f32) (p : Vec F S512x1024 .f32) :
    mr.view.read (Elt F) (mr.view.writes (Elt F) (hm.unread X) [⟨Rect.unit (s := S512x4096) off S512x1024.size inb, p⟩]) = putC n X p := by
  funext y
  unfold putC
  by_cases hy : 1024 * n ≤ (y 1).val ∧ (y 1).val < 1024 * n + 1024
  · rw [dif_pos hy]
    refine View.read_writes_cons_unit_of_mem mr.view _ inb p [] y (ValueIdx.ix2 (y 0) ⟨(y 1).val - 1024 * n, by omega⟩) h fun a => ?_
    fin_cases a
    · exact (Nat.zero_add _).symm
    · show (y 1).val = 1024 * n + ((y 1).val - 1024 * n); omega
  · rw [dif_neg hy]
    refine (View.read_writes_cons_unit_of_not_mem mr.view _ inb p [] y h 1 ?_).trans ?_
    · show (y 1).val < 1024 * n ∨ 1024 * n + 1024 ≤ (y 1).val; omega
    · exact congrFun (hm.read_unread X) y

/-- What a load of sixty-four rows reads. -/
theorem rdR (mr : Memref sig .tc .vmem S512x4096 .f32) (hm : mr.IsWhole) (r : ℕ) (hr : r < 8) {off : Fin 2 → Nat} (h : off = ![64 * r, 0])
    (inb : ∀ a, off a + S64x4096.size a ≤ S512x4096.size a) (X : Vec F S512x4096 .f32) :
    mr.view.readAt (Elt F) (Rect.unit (s := S512x4096) off S64x4096.size inb).toLoadRect (hm.unread X) = rowsOf X r := by
  subst h; funext z
  rw [hm.readAt_unread]
  refine congrArg X (funext fun a => Fin.ext ?_)
  have h0 : (z 0).val < 64 := (z 0).isLt
  fin_cases a
  · show 64 * r + 1 * (z 0).val = (64 * r + (z 0).val) % 512; omega
  · show 0 + 1 * (z 1).val = (z 1).val; omega

/-- The rows of a partly normalized result that are not yet normalized. -/
theorem rowsOf_lnTo (v12 : Vec F S1x6x4096 .f32) (v15 v17 : Vec F S1x4096 .f32) (X Y : Vec F S512x4096 .f32) (r : ℕ) (hr : r < 8) :
    rowsOf (lnTo v12 v15 v17 X Y r) r = rowsOf Y r := by
  funext z
  have h0 : (z 0).val < 64 := (z 0).isLt
  unfold rowsOf lnTo
  refine if_neg ?_
  show ¬ (64 * r + (z 0).val) % 512 < 64 * r
  omega

/-- What the store of sixty-four normalized rows leaves. -/
theorem wrR (mr : Memref sig .tc .vmem S512x4096 .f32) (hm : mr.IsWhole) (r : ℕ) (hr : r < 8) {off : Fin 2 → Nat} (h : off = ![64 * r, 0])
    (inb : ∀ a, off a + S64x4096.size a ≤ S512x4096.size a)
    (v12 : Vec F S1x6x4096 .f32) (v15 v17 : Vec F S1x4096 .f32) (X Y : Vec F S512x4096 .f32) :
    mr.view.read (Elt F) (mr.view.writes (Elt F) (hm.unread (lnTo v12 v15 v17 X Y r))
        [⟨Rect.unit (s := S512x4096) off S64x4096.size inb, k0_pay2 v12 v15 v17 (rowsOf X r) (rowsOf Y r)⟩])
      = lnTo v12 v15 v17 X Y (r + 1) := by
  funext y
  by_cases hy : 64 * r ≤ (y 0).val ∧ (y 0).val < 64 * r + 64
  · have e : (y 0).val / 64 = r := by omega
    refine (View.read_writes_cons_unit_of_mem mr.view _ inb _ [] y (ValueIdx.ix2 ⟨(y 0).val % 64, Nat.mod_lt _ (by decide)⟩ (y 1)) h fun a => ?_).trans ?_
    · fin_cases a
      · show (y 0).val = 64 * r + (y 0).val % 64; omega
      · exact (Nat.zero_add _).symm
    · unfold lnTo
      rw [if_pos (show (y 0).val < 64 * (r + 1) by omega), e]
  · refine (View.read_writes_cons_unit_of_not_mem mr.view _ inb _ [] y h 0 ?_).trans ?_
    · show (y 0).val < 64 * r ∨ 64 * r + 64 ≤ (y 0).val; omega
    · refine (congrFun (hm.read_unread _) y).trans ?_
      unfold lnTo
      by_cases h1 : (y 0).val < 64 * r
      · rw [if_pos h1, if_pos (show (y 0).val < 64 * (r + 1) by omega)]
      · rw [if_neg h1, if_neg (show ¬ (y 0).val < 64 * (r + 1) by omega)]

section Body

variable (c : Dev nD) (i : grid0.Coords) (arg2 : Memref sig .tc .vmem S512x4096 .bf16) (harg2 : arg2.IsWhole)
    (arg3 : Memref sig .tc .vmem S1x4096x1024 .bf16) (harg3 : arg3.IsWhole) (arg4 : Memref sig .tc .vmem S512x4096 .f32) (harg4 : arg4.IsWhole)
    (arg5 : Memref sig .tc .vmem S1x6x4096 .f32) (harg5 : arg5.IsWhole) (arg6 : Memref sig .tc .vmem S1x4096 .f32) (harg6 : arg6.IsWhole)
    (arg7 : Memref sig .tc .vmem S1x4096 .f32) (harg7 : arg7.IsWhole) (arg8 : Memref sig .tc .vmem S512x4096 .f32) (harg8 : arg8.IsWhole)

set_option maxHeartbeats 1000000 in
/-- At a column block but the last. -/
theorem body_mul (hc : ¬ k0_cond1 i = 1#1)
    (x0 : Vec F S512x4096 .bf16) (x1 : Vec F S1x4096x1024 .bf16) (X : Vec F S512x4096 .f32) (E : Set ℕ) (K : PUnit → sProp 𝕄) :
    iprop(owns (c : Thread nD τ) arg2 fullShare x0 ∗ owns (c : Thread nD τ) arg3 fullShare x1 ∗ owns (c : Thread nD τ) arg8 fullShare X
        ∗ (iprop(owns (c : Thread nD τ) arg2 fullShare x0 ∗ owns (c : Thread nD τ) arg3 fullShare x1
            ∗ owns (c : Thread nD τ) arg8 fullShare (putC (i 1).val X (k0_pay1 x0 x1))) -∗ K ⟨⟩))
      ⊢ wp frame (wpE (defs₀ (F := F)) Variants.none c none) E
          (cc0_fox_out_layer i arg2 harg2 arg3 harg3 arg4 harg4 arg5 harg5 arg6 harg6 arg7 harg7 arg8 harg8) K := by
  simp only [cc0_fox_out_layer_eq_skeleton]; unfold cc0_fox_out_layer_skel
  unfold owns
  iintro ⟨⟨%f0, %hf0, H0⟩, ⟨%f1, %hf1, H1⟩, ⟨%f8, %hf8, H8⟩, Hk⟩
  obtain rfl := harg2.eq_unread hf0; obtain rfl := harg3.eq_unread hf1; obtain rfl := harg8.eq_unread hf8
  sl_exec
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H8
  ipureintro
  rw [wrC arg8 harg8 (i 1).val (off1 i), rd arg2 harg2 hz2, rd arg3 harg3 hz3]

/-- The loop's invariant: the first `64 k` rows are normalized. -/
def inv (v12 : Vec F S1x6x4096 .f32) (v15 v17 : Vec F S1x4096 .f32) (X Y : Vec F S512x4096 .f32) (k : ℕ) (_ : Unit) : sProp 𝕄 :=
  iprop(owns (c : Thread nD τ) arg4 fullShare X ∗ owns (c : Thread nD τ) arg8 fullShare (lnTo v12 v15 v17 X Y k))

set_option maxHeartbeats 1000000 in
/-- One trip. -/
theorem trip (hc : k0_cond1 i = 1#1) (v12 : Vec F S1x6x4096 .f32) (v15 v17 : Vec F S1x4096 .f32) (X Y : Vec F S512x4096 .f32) (E : Set ℕ)
    (k : Fin k0_t1_loop.trips) (acc : Unit) :
    inv c arg4 arg8 v12 v15 v17 X Y k.val acc
      ⊢ wp frame (wpE (defs₀ (F := F)) Variants.none c none) E
          (k0_t1_body i arg2 harg2 arg3 harg3 arg4 harg4 arg5 harg5 arg6 harg6 arg7 harg7 arg8 harg8 hc v12 v15 v17 k acc)
          (inv c arg4 arg8 v12 v15 v17 X Y (k.val + 1)) := by
  have hk : k.val < 8 := trips_eq ▸ k.isLt
  unfold inv k0_t1_body owns
  iintro ⟨⟨%f4, %hf4, H4⟩, ⟨%f8, %hf8, H8⟩⟩
  obtain rfl := harg4.eq_unread hf4; obtain rfl := harg8.eq_unread hf8
  sl_exec
  sl_step
  isplitl [H4]
  · iexists _; isplitr; · ipureintro; exact harg4.read_unread _
    iexact H4
  iexists _; isplitr
  swap; · iexact H8
  ipureintro
  rw [rdR arg4 harg4 k.val hk (off2 k), rdR arg8 harg8 k.val hk (off2 k), rowsOf_lnTo _ _ _ _ _ _ hk, wrR arg8 harg8 k.val hk (off2 k)]

set_option maxHeartbeats 1000000 in
/-- At the last column block. -/
theorem body_last (hc : k0_cond1 i = 1#1)
    (x0 : Vec F S512x4096 .bf16) (x1 : Vec F S1x4096x1024 .bf16) (x2 : Vec F S512x4096 .f32) (x3 : Vec F S1x6x4096 .f32)
    (x4 x5 : Vec F S1x4096 .f32) (X : Vec F S512x4096 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare X
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (lnTo x3 x4 x5 x2 (putC (i 1).val X (k0_pay1 x0 x1)) 8)) -∗ K ⟨⟩))
      ⊢ wp frame (wpE (defs₀ (F := F)) Variants.none c none) E
          (cc0_fox_out_layer i arg2 harg2 arg3 harg3 arg4 harg4 arg5 harg5 arg6 harg6 arg7 harg7 arg8 harg8) K := by
  simp only [cc0_fox_out_layer_eq_skeleton]; unfold cc0_fox_out_layer_skel
  unfold owns
  iintro ⟨⟨%f0, %hf0, H0⟩, ⟨%f1, %hf1, H1⟩, H4, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg8.eq_unread hf8
  obtain rfl := harg5.eq_unread hf5; obtain rfl := harg6.eq_unread hf6; obtain rfl := harg7.eq_unread hf7
  sl_exec
  rw [rd arg5 harg5 hz3, rd arg6 harg6 hz2, rd arg7 harg7 hz2]
  sl_for (inv c arg4 arg8 x3 x4 x5 x2 (putC (i 1).val X (k0_pay1 x0 x1))) $$ [H4 H8]
  case region =>
    intro k acc
    exact trip c i arg2 harg2 arg3 harg3 arg4 harg4 arg5 harg5 arg6 harg6 arg7 harg7 arg8 harg8 hc x3 x4 x5 x2 _ E k acc
  · unfold inv owns
    isplitl [H4]; · iexact H4
    iexists _; isplitr
    swap; · iexact H8
    ipureintro
    rw [wrC arg8 harg8 (i 1).val (off1 i), rd arg2 harg2 hz2, rd arg3 harg3 hz3]
    funext y; unfold lnTo; rw [if_neg (by omega)]
  iintro %a HI
  unfold inv owns
  icases HI with ⟨H4, H8⟩
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H4]; · iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  iexact H8

end Body

end Cert.Kernel3Ideal.Out

end
-- ==== Proof.OutFrame.lean ====
/-
  The frame of the output projection's kernel, written by hand: its result's block fills up a column block
  a point, and only a row block's last point writes it back. So the data say of that buffer what its filled
  columns hold, and at the last point what the whole block is. Stated for any floats.
-/
module

public import proofs.«01_k».proof.Proof.OutRun
public import Idealize.ShloMosaic.Lib.Claim
public import Idealize.ShloMosaic.Lib.ValueLayout
public import Idealize.ShloMosaic.Lib.Pipeline.Frame
public import Idealize.ShloMosaic.Lib.Pipeline.DatRel
public import Idealize.ShloMosaic.Lib.Pipeline.ArrRel

@[expose] public section

set_option maxRecDepth 16384

noncomputable section

namespace Cert.Kernel3Ideal.Out

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the launch -/

/-- Core `c`'s buffers when the launch is reached. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- The arguments reach the launch as they were. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

/-! ## What the buffers hold -/

/-- Window `w`'s block at point `t`, of its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The point of column block `j` in the row block that position `n` lies in. -/
def pt (n j : ℕ) : Fin cfg0.N := ⟨4 * (n / 4 % 16) + j % 4, by show _ < grid0.N; rw [N_0]; omega⟩

theorem pt_self (t : Fin cfg0.N) : pt t.val (t.val % 4) = t := by
  have := t.isLt; have e : cfg0.N = 64 := N_0
  apply Fin.ext; show 4 * (t.val / 4 % 16) + t.val % 4 % 4 = t.val; omega

/-- The row block's whole product, at its row and column. -/
def yAt (c : Dev nD) (n : ℕ) : Vec F S512x4096 .f32 := fun y =>
  k0_pay1 (iblk m c 0 (pt n ((y 1).val / 1024))) (iblk m c 1 (pt n ((y 1).val / 1024)))
    (ValueIdx.ix2 (y 0) ⟨(y 1).val % 1024, Nat.mod_lt _ (by decide)⟩)

theorem yAt_pred (c : Dev nD) (n : ℕ) (h : n % 4 ≠ 0) : yAt m c (n - 1) = yAt m c n := by
  have e : ∀ j, pt (n - 1) j = pt n j := fun j => by
    apply Fin.ext; show 4 * ((n - 1) / 4 % 16) + j % 4 = 4 * (n / 4 % 16) + j % 4; omega
  funext y
  exact congrArg (fun p => k0_pay1 (iblk m c 0 p) (iblk m c 1 p) (ValueIdx.ix2 (y 0) ⟨(y 1).val % 1024, Nat.mod_lt _ (by decide)⟩)) (e _)

/-- The row block's result. -/
def oAt (c : Dev nD) (t : Fin cfg0.N) : Vec F S512x4096 .f32 :=
  lnTo (iblk m c 3 t) (iblk m c 4 t) (iblk m c 5 t) (iblk m c 2 t) (yAt m c t.val) 8

/-- What the result's buffer holds after point `t`. -/
def RAt (c : Dev nD) (t : Fin cfg0.N) (X : Vec F S512x4096 .f32) : Prop :=
  if t.val % 4 = 3 then X = oAt m c t else ∀ y : S512x4096.Idx, (y 1).val < 1024 * (t.val % 4 + 1) → X y = yAt m c t.val y

/-- The result's window is the one its relation speaks of. -/
def fgt (w : Fin cfg0.W) : Bool := match w with
  | ⟨6, _⟩ => true
  | _ => false

def Rl (c : Dev nD) (w : Fin cfg0.W) (t : Fin cfg0.N) (X : (cfg0.win w).block.Idx → Elt F (cfg0.win w).elt) : Prop :=
  match w, X with
  | ⟨6, _⟩, X => RAt m c t X
  | _, _ => True

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => oAt m c t
  Φ _ := Pipeline.ΦA spec0 c
  q _ := fullShare
  owed _ := 0

abbrev rdat (c : Dev nD) := (dats (F := F) m 0 c).toRRel fgt (Rl m c)

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)

/-- The body normalizes at a row block's last point. -/
theorem hcond : ∀ t : Fin cfg0.N, k0_cond1 (grid0.coords t) = 1#1 ↔ t.val % 4 = 3 :=
  (by decide +kernel : ∀ t : Fin grid0.N, k0_cond1 (grid0.coords t) = 1#1 ↔ t.val % 4 = 3)
theorem hcol : ∀ t : Fin cfg0.N, (grid0.coords t 1).val = t.val % 4 :=
  (by decide +kernel : ∀ t : Fin grid0.N, (grid0.coords t 1).val = t.val % 4)

/-- Past a row block's first point the buffer holds what the point before left. -/
theorem finds (c : Dev nD) (t : Fin cfg0.N) (h : t.val % 4 ≠ 0) (X : Vec F S512x4096 .f32) (hX : (rdat m c).Finds 6 t X) :
    ∀ y : S512x4096.Idx, (y 1).val < 1024 * (t.val % 4) → X y = yAt m c t.val y := by
  have h0 : t.val ≠ 0 := fun e => h (by rw [e])
  rcases ((rdat m c).finds_of_pos ((cfg0.win 6).fetch_out rfl _) h0 X).mp hX with hf | hL
  · have := (flush0_6 _).mp hf
    dsimp only at this
    omega
  · have hR : RAt m c ⟨t.val - 1, by omega⟩ X := (dats (F := F) m 0 c).toRRel_leaves (fgt := fgt) (Rl := Rl m c) (w := 6) rfl hL
    unfold RAt at hR
    rw [if_neg (by dsimp only; omega)] at hR
    intro y hy
    refine (hR y (by dsimp only; omega)).trans ?_
    dsimp only
    rw [yAt_pred m c _ h]

/-- The point's store fills its column block. -/
theorem put_eq (c : Dev nD) (t : Fin cfg0.N) (X : Vec F S512x4096 .f32)
    (hX : ∀ y : S512x4096.Idx, (y 1).val < 1024 * (t.val % 4) → X y = yAt m c t.val y) (y : S512x4096.Idx)
    (hy : (y 1).val < 1024 * (t.val % 4 + 1)) :
    putC (grid0.coords t 1).val X (k0_pay1 (iblk m c 0 t) (iblk m c 1 t)) y = yAt m c t.val y := by
  rw [hcol]
  unfold putC
  by_cases h : 1024 * (t.val % 4) ≤ (y 1).val
  · have hh : 1024 * (t.val % 4) ≤ (y 1).val ∧ (y 1).val < 1024 * (t.val % 4) + 1024 := ⟨h, by omega⟩
    rw [dif_pos hh]
    unfold yAt
    have e1 : (y 1).val / 1024 = t.val % 4 := by omega
    rw [e1, pt_self]
    exact congrArg (fun a => k0_pay1 (iblk m c 0 t) (iblk m c 1 t) (ValueIdx.ix2 (y 0) a)) (Fin.ext (by dsimp only; omega))
  · rw [dif_neg fun e => h e.1]
    exact hX y (by omega)

/-! ## The body's obligation -/

/-- Each window's staging buffer at point `t`. -/
abbrev ms0_0 (t : Fin cfg0.N) : Memref sig .tc .vmem S512x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x6x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4096 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x4096 .f32 := win0_6.stage (cfg0.slots t 6)
abbrev hs0_6 (t : Fin cfg0.N) : (ms0_6 t).IsWhole := hstage0_6 ((cfg0.slots t 6).cast nbuf0_6)

/-- What the body is called with, and what it returns. -/
def bodyPre (c : Dev nD) (t : Fin cfg0.N) : sProp 𝕄 :=
  iprop(Pipeline.ΦA spec0 c ∗ (dats m 0 c).owesAt () t.castSucc
    ∗ (∃ d : S512x4096.Idx → Elt F .bf16, owns (c : Thread nD τ) (ms0_0 t) fullShare (iblk m c 0 t))
    ∗ (∃ d : S1x4096x1024.Idx → Elt F .bf16, owns (c : Thread nD τ) (ms0_1 t) fullShare (iblk m c 1 t))
    ∗ (∃ d : S512x4096.Idx → Elt F .f32, owns (c : Thread nD τ) (ms0_2 t) fullShare (iblk m c 2 t))
    ∗ (∃ d : S1x6x4096.Idx → Elt F .f32, owns (c : Thread nD τ) (ms0_3 t) fullShare (iblk m c 3 t))
    ∗ (∃ d : S1x4096.Idx → Elt F .f32, owns (c : Thread nD τ) (ms0_4 t) fullShare (iblk m c 4 t))
    ∗ (∃ d : S1x4096.Idx → Elt F .f32, owns (c : Thread nD τ) (ms0_5 t) fullShare (iblk m c 5 t))
    ∗ (∃ Y, ⌜(rdat m c).Finds 6 t Y⌝ ∗ owns (c : Thread nD τ) (ms0_6 t) fullShare Y))
def bodyPost (c : Dev nD) (t : Fin cfg0.N) : sProp 𝕄 :=
  iprop(Pipeline.ΦA spec0 c ∗ (dats m 0 c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ (∃ X, ⌜RAt m c t X⌝ ∗ owns (c : Thread nD τ) (ms0_6 t) fullShare X))

theorem sound (c : Dev nD) (t : Fin cfg0.N) :
    bodyPre m c t ⊢ wp frame (wpE (defs₀ (F := F)) Variants.none c none) Set.univ (bodyAt0 t) (fun _ => bodyPost m c t) := by
  unfold bodyPre bodyPost bodyAt0
  iintro ⟨HΦ, Ho, ⟨%d0, H0⟩, ⟨%d1, H1⟩, ⟨%d2, H2⟩, ⟨%d3, H3⟩, ⟨%d4, H4⟩, ⟨%d5, H5⟩, ⟨%Y, %hY, H6⟩⟩
  have hp : ∀ y : S512x4096.Idx, (y 1).val < 1024 * (t.val % 4 + 1) →
      putC (grid0.coords t 1).val Y (k0_pay1 (iblk m c 0 t) (iblk m c 1 t)) y = yAt m c t.val y := by
    refine put_eq m c t Y ?_
    by_cases h : t.val % 4 = 0
    · intro y hy; omega
    · exact finds m c t h Y hY
  by_cases ht : t.val % 4 = 3
  · have hq : putC (grid0.coords t 1).val Y (k0_pay1 (iblk m c 0 t) (iblk m c 1 t)) = yAt m c t.val := by
      funext y
      have hb : (y 1).val < 4096 := (y 1).isLt
      exact hp y (by omega)
    iapply (body_last c (grid0.coords t) _ (hs0_0 t) _ (hs0_1 t) _ (hs0_2 t) _ (hs0_3 t) _ (hs0_4 t) _ (hs0_5 t) _ (hs0_6 t)
      ((hcond t).mpr ht) (iblk m c 0 t) (iblk m c 1 t) (iblk m c 2 t) (iblk m c 3 t) (iblk m c 4 t) (iblk m c 5 t) Y Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    rw [hq]
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists (oAt m c t)
    isplitr
    · ipureintro
      unfold RAt
      rw [if_pos ht]
    · iexact H6
  · iapply (body_mul c (grid0.coords t) _ (hs0_0 t) _ (hs0_1 t) _ (hs0_2 t) _ (hs0_3 t) _ (hs0_4 t) _ (hs0_5 t) _ (hs0_6 t)
      (fun e => ht ((hcond t).mp e)) (iblk m c 0 t) (iblk m c 1 t) Y Set.univ _)
    isplitl [H0]; · iexact H0
    isplitl [H1]; · iexact H1
    isplitl [H6]; · iexact H6
    iintro ⟨H0, H1, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _
    isplitr
    · ipureintro
      unfold RAt
      rw [if_neg ht]
      exact hp
    · iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligationRel (dats (F := F) m 0 c) (defs₀ (F := F)) Variants.none () Set.univ fgt (Rl m c) := fun t => by
  rw [bigSep_W0, bigSep_W0, defs₀_row]
  rw [show fgt 0 = false from rfl, show fgt 1 = false from rfl, show fgt 2 = false from rfl, show fgt 3 = false from rfl,
    show fgt 4 = false from rfl, show fgt 5 = false from rfl, show fgt 6 = true from rfl]
  simp only [before0_0, before0_1, before0_2, before0_3, before0_4, before0_5, after0_0, after0_1, after0_2, after0_3, after0_4, after0_5]
  exact triple_restated (sound m c t) rfl .rfl fun _ => .rfl

/-! ## The run and the frame -/

set_option backward.isDefEq.respectTransparency.types false in
/-- Every run ends, with the arrays at contents the data allow and every counter at zero. -/
theorem run_main : θ_run defs (onTc (τ := τ) (main (F := F))) (s₀ m ρ)
    (fun r => Pipeline.RDat.FramePost cfg0 (rdat m) (V m) r ∧ r.2.sem = fun _ => 0) :=
  Pipeline.RDat.θ_run_frame cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m)
    (hΦ := fun _ _ => rfl) (Q' := _)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨((h.1 c).2 main_arg0 (Pipeline.mem_restRefs_of main_arg0 (by decide) (by decide))).trans (V_arg0 m c),
      ((h.1 c).2 main_arg1 (Pipeline.mem_restRefs_of main_arg1 (by decide) (by decide))).trans (V_arg1 m c),
      ((h.1 c).2 main_arg2 (Pipeline.mem_restRefs_of main_arg2 (by decide) (by decide))).trans (V_arg2 m c),
      ((h.1 c).2 main_arg3 (Pipeline.mem_restRefs_of main_arg3 (by decide) (by decide))).trans (V_arg3 m c),
      ((h.1 c).2 main_arg4 (Pipeline.mem_restRefs_of main_arg4 (by decide) (by decide))).trans (V_arg4 m c),
      ((h.1 c).2 main_arg5 (Pipeline.mem_restRefs_of main_arg5 (by decide) (by decide))).trans (V_arg5 m c)⟩, h.2⟩) (run_main m ρ)

end Cert.Kernel3Ideal.Out

end
-- ==== Proof.OutSame.lean ====
/-
  The output projection's kernel at the machine's floats and its idealization are one text, so the one run gives both frames.
-/
module

public import proofs.«01_k».proof.Defs
public import proofs.«01_k».proof.Proof.OutFrame
public import proofs.«01_k».proof.Proof.Gen.Kernel3.Launch

@[expose] public section

set_option maxRecDepth 65536

namespace Cert.Kernel3.Out

open Idealize.ShloMosaic Idealize.ShloMosaic.TcCoe Idealize.SL.Sem
open Cert Cert.Kernel3.Gen Cert.Kernel3Ideal.Gen

theorem table_eq : Kernel3.defs₀ (F := Bits) = Kernel3Ideal.defs₀ (F := Bits) := by
  unfold Kernel3.defs₀ Kernel3Ideal.defs₀
  refine congrArg Defs.onTc ?_
  funext l
  match l with
  | 0 => funext a; rfl

theorem defs_eq : Kernel3.defs (F := Bits) = Kernel3Ideal.defs (F := Bits) := congrArg (Pipeline.defs Kernel3.pcfgs) table_eq

theorem main_eq : Kernel3.main (F := Bits) = Kernel3Ideal.main (F := Bits) := rfl

theorem frame : Cert.quiescent_Kernel3 := fun m ρ _ => by
  rw [defs_eq, main_eq]
  exact Cert.Kernel3Ideal.Out.frame (F := Bits) m ρ

end Cert.Kernel3.Out
-- ==== Proof.OutValue.lean ====
/-
  The output projection's blocks at an index: the product's entries and the normalized residual, as functions of
  the arguments.
-/

module

public import proofs.«01_k».proof.Proof.OutFrame
public import Idealize.ShloMosaic.Lib.Pointwise
public import Idealize.ShloMosaic.Lib.Pipeline.ValueKit
public import Idealize.ShloMosaic.Lib.Claim

@[expose] public section

set_option maxRecDepth 16384

noncomputable section

namespace Cert.Kernel3Ideal.Out

open Idealize.ShloMosaic Idealize.ShloMosaic.TcCoe Idealize.SL.Sem
open Idealize.ShloMosaic.Pipeline (Dat)
open Cert.Kernel3Ideal Cert.Kernel3Ideal.Gen

section
variable {F : FTy → Type} [FloatOps F]

/-- The rows of both batches under one another. -/
abbrev oF (x : FVec F S2x4096x4096 .f32) : FVec F S8192x4096 .bf16 := shapeCast S8192x4096 (truncf .bf16 x bitsLt_bf16_f32) shapeCasts_S2x4096x4096_S8192x4096
abbrev xF (x : FVec F S2x4096x4096 .f32) : FVec F S8192x4096 .f32 := shapeCast S8192x4096 x shapeCasts_S2x4096x4096_S8192x4096
/-- The weights in the narrower floats. -/
abbrev wF (w : FVec F S2x4096x4096 .f32) : FVec F S2x4096x4096 .bf16 := truncf .bf16 w bitsLt_bf16_f32
/-- The six modulation vectors. -/
abbrev mF (x : FVec F S2x24576 .f32) : FVec F S2x6x4096 .f32 := shapeCast S2x6x4096 x shapeCasts_S2x24576_S2x6x4096
/-- A row of parameters. -/
abbrev gF (x : FVec F S4096 .f32) : FVec F S1x4096 .f32 := shapeCast S1x4096 x shapeCasts_S4096_S1x4096

variable (m : (ℓ : Loc nD τ sig) → Buf (Elt F) ℓ) (c : Dev nD)

set_option maxHeartbeats 2000000 in
theorem v1_eq : V m c main_v1 = oF (F := F) (m ((c : Thread nD τ).loc main_arg0)) := by
  simp only [V, hostOps0, List.flatten_cons, List.flatten_nil, List.append_nil, List.cons_append, List.nil_append]
  after_results
  rfl
set_option maxHeartbeats 2000000 in
theorem v2_eq : V m c main_v2 = wF (F := F) (m ((c : Thread nD τ).loc main_arg1)) := by
  simp only [V, hostOps0, List.flatten_cons, List.flatten_nil, List.append_nil, List.cons_append, List.nil_append]
  after_results
set_option maxHeartbeats 2000000 in
theorem v3_eq : V m c main_v3 = xF (F := F) (m ((c : Thread nD τ).loc main_arg2)) := by
  simp only [V, hostOps0, List.flatten_cons, List.flatten_nil, List.append_nil, List.cons_append, List.nil_append]
  after_results
  rfl
set_option maxHeartbeats 2000000 in
theorem v4_eq : V m c main_v4 = mF (F := F) (m ((c : Thread nD τ).loc main_arg3)) := by
  simp only [V, hostOps0, List.flatten_cons, List.flatten_nil, List.append_nil, List.cons_append, List.nil_append]
  after_results
  rfl
set_option maxHeartbeats 2000000 in
theorem v5_eq : V m c main_v5 = gF (F := F) (m ((c : Thread nD τ).loc main_arg4)) := by
  simp only [V, hostOps0, List.flatten_cons, List.flatten_nil, List.append_nil, List.cons_append, List.nil_append]
  after_results
  rfl
set_option maxHeartbeats 2000000 in
theorem v6_eq : V m c main_v6 = gF (F := F) (m ((c : Thread nD τ).loc main_arg5)) := by
  simp only [V, hostOps0, List.flatten_cons, List.flatten_nil, List.append_nil, List.cons_append, List.nil_append]
  after_results
  rfl
end

/-- Row `r` of row block `i` of the sequence: its batch and its place there; a column of column block `j`. -/
abbrev bOf (i : Fin 16) : Fin 2 := ⟨i.val / 8, by omega⟩
abbrev sOf (i : Fin 16) (r : Fin 512) : Fin 4096 := ⟨i.val % 8 * 512 + r.val, by omega⟩
abbrev nOf (i : Fin 16) (r : Fin 512) : Fin 8192 := ⟨i.val * 512 + r.val, by omega⟩
abbrev cOf (j : Fin 4) (k : Fin 1024) : Fin 4096 := ⟨j.val * 1024 + k.val, by omega⟩

theorem oF_at (x : FVec Ideal S2x4096x4096 .f32) (i : Fin 16) (r : Fin 512) (k : Fin 4096) :
    oF x (ix2 (nOf i r) k) = x (ix3 (bOf i) (sOf i r) k) := by
  pointwise
  exact congrArg₂ (fun b s => x (ix3 b s k)) (Fin.ext (by simp only []; omega)) (Fin.ext (by simp only []; omega))
theorem xF_at (x : FVec Ideal S2x4096x4096 .f32) (i : Fin 16) (r : Fin 512) (k : Fin 4096) :
    xF x (ix2 (nOf i r) k) = x (ix3 (bOf i) (sOf i r) k) := by
  pointwise
  exact congrArg₂ (fun b s => x (ix3 b s k)) (Fin.ext (by simp only []; omega)) (Fin.ext (by simp only []; omega))
theorem wF_at (x : FVec Ideal S2x4096x4096 .f32) (i : Fin 2) (r : Fin 4096) (k : Fin 4096) :
    wF x (ix3 i r k) = x (ix3 i r k) := by
  pointwise
theorem mF_at (x : FVec Ideal S2x24576 .f32) (b : Fin 2) (k : Fin 4096) :
    mF x (ix3 b 2 k) = x (ix2 b ⟨8192 + k.val, by omega⟩) := by
  pointwise
theorem gF_at (x : FVec Ideal S4096 .f32) (k : Fin 4096) : gF x (ix2 0 k) = x (ix1 k) := by
  pointwise

/-- The words of the layer's constants: the residual's factor, one, the columns' number, the variance's offset. -/
abbrev alpha : EReal := Ideal.ofBits FTy.f32 0x3FD744FD#32
abbrev one : EReal := Ideal.ofBits FTy.f32 0x3F800000#32
abbrev cols : EReal := Ideal.ofBits FTy.f32 0x45800000#32
abbrev eps : EReal := Ideal.ofBits FTy.f32 0x3727C5AC#32

/-- The mean of a row of columns. -/
abbrev mean (R : Fin 4096 → EReal) : EReal := Ideal.div (∑ k : Fin 4096, R k) cols

/-- A row's normalized entry. -/
abbrev lnE (R g b : Fin 4096 → EReal) (k : Fin 4096) : EReal :=
  (R k - mean R) * Ideal.rsqrt (mean (fun j => (R j - mean R) * (R j - mean R)) + eps) * g k + b k

theorem pay1_at (o : FVec Ideal S512x4096 .bf16) (w : FVec Ideal S1x4096x1024 .bf16) (r : Fin 512) (n : Fin 1024) :
    k0_pay1 (F := Ideal) o w (ix2 r n) = (∑ x : Fin 4096, (o (ix2 r x) : EReal) * w (ix3 0 x n) : EReal) := by
  pointwise [k0_pay1]

theorem pay2_at (v12 : FVec Ideal S1x6x4096 .f32) (v15 v17 : FVec Ideal S1x4096 .f32) (v25 v30 : FVec Ideal S64x4096 .f32) (r : Fin 64) (k : Fin 4096) :
    k0_pay2 (F := Ideal) v12 v15 v17 v25 v30 (ix2 r k)
      = lnE (fun j => (alpha * v25 (ix2 r j) + (one + v12 (ix3 0 2 j)) * v30 (ix2 r j) : EReal)) (fun j => v15 (ix2 0 j)) (fun j => v17 (ix2 0 j)) k := by
  pointwise [k0_pay2]

/-! ## The windows' blocks -/

/-- The windows' index maps over the grid. -/
theorem idx : ∀ t : Fin cfg0.N,
    win0_0.index t = ![(grid0.coords t 0).val, 0]
    ∧ win0_1.index t = ![0, 0, (grid0.coords t 1).val]
    ∧ win0_2.index t = ![(grid0.coords t 0).val, 0]
    ∧ win0_3.index t = ![(grid0.coords t 0).val / 8, 0, 0]
    ∧ win0_4.index t = ![0, 0]
    ∧ win0_5.index t = ![0, 0]
    ∧ win0_6.index t = ![(grid0.coords t 0).val, 0] :=
  (by decide +kernel : ∀ t : Fin grid0.N, _)

/-- The coordinates of a row block's points. -/
theorem pt_row : ∀ (t : Fin cfg0.N) (j : Fin 4), (grid0.coords (pt t.val j.val) 0).val = (grid0.coords t 0).val :=
  (by decide +kernel : ∀ (t : Fin grid0.N) (j : Fin 4), (grid0.coords (pt t.val j.val) 0).val = (grid0.coords t 0).val)
theorem pt_col : ∀ (t : Fin cfg0.N) (j : Fin 4), (grid0.coords (pt t.val j.val) 1).val = j.val :=
  (by decide +kernel : ∀ (t : Fin grid0.N) (j : Fin 4), (grid0.coords (pt t.val j.val) 1).val = j.val)

variable (m : (ℓ : Loc nD τ sig) → Buf (Elt Ideal) ℓ) (c : Dev nD) (t : Fin cfg0.N)

/-- The argument arrays, at their literal shapes. -/
abbrev O : FVec Ideal S2x4096x4096 .f32 := m ((c : Thread nD τ).loc main_arg0)
abbrev W : FVec Ideal S2x4096x4096 .f32 := m ((c : Thread nD τ).loc main_arg1)
abbrev X : FVec Ideal S2x4096x4096 .f32 := m ((c : Thread nD τ).loc main_arg2)
abbrev M : FVec Ideal S2x24576 .f32 := m ((c : Thread nD τ).loc main_arg3)
abbrev G : FVec Ideal S4096 .f32 := m ((c : Thread nD τ).loc main_arg4)
abbrev B : FVec Ideal S4096 .f32 := m ((c : Thread nD τ).loc main_arg5)

/-- A grid point's row block and column block. -/
abbrev iI (t : Fin cfg0.N) : Fin 16 := grid0.coords t 0
abbrev jI (t : Fin cfg0.N) : Fin 4 := grid0.coords t 1

theorem x0_at (r : Fin 512) (k : Fin 4096) :
    (show FVec Ideal S512x4096 .bf16 from iblk m c 0 t) (ix2 r k) = O m c (ix3 (bOf (iI t)) (sOf (iI t) r) k) := by
  have e : (show FVec Ideal S512x4096 .bf16 from iblk m c 0 t) (ix2 r k)
      = (show FVec Ideal S8192x4096 .bf16 from V m c main_v1) (ix2 (nOf (iI t) r) k) := by
    have h0 : (grid0.coords t 0).val = (iI t).val := rfl
    blk_ext [iblk, idx t] <;> omega
  rw [e, v1_eq]
  exact oF_at _ _ _ _

theorem x1_at (k : Fin 4096) (n : Fin 1024) :
    (show FVec Ideal S1x4096x1024 .bf16 from iblk m c 1 t) (ix3 0 k n) = W m c (ix3 0 k (cOf (jI t) n)) := by
  have e : (show FVec Ideal S1x4096x1024 .bf16 from iblk m c 1 t) (ix3 0 k n)
      = (show FVec Ideal S2x4096x4096 .bf16 from V m c main_v2) (ix3 0 k (cOf (jI t) n)) := by
    have h1 : (grid0.coords t 1).val = (jI t).val := rfl
    blk_ext [iblk, idx t] <;> omega
  rw [e, v2_eq]
  exact wF_at _ _ _ _

theorem x2_at (r : Fin 512) (k : Fin 4096) :
    (show FVec Ideal S512x4096 .f32 from iblk m c 2 t) (ix2 r k) = X m c (ix3 (bOf (iI t)) (sOf (iI t) r) k) := by
  have e : (show FVec Ideal S512x4096 .f32 from iblk m c 2 t) (ix2 r k)
      = (show FVec Ideal S8192x4096 .f32 from V m c main_v3) (ix2 (nOf (iI t) r) k) := by
    have h0 : (grid0.coords t 0).val = (iI t).val := rfl
    blk_ext [iblk, idx t] <;> omega
  rw [e, v3_eq]
  exact xF_at _ _ _ _

theorem x3_at (k : Fin 4096) :
    (show FVec Ideal S1x6x4096 .f32 from iblk m c 3 t) (ix3 0 2 k) = M m c (ix2 (bOf (iI t)) ⟨8192 + k.val, by omega⟩) := by
  have e : (show FVec Ideal S1x6x4096 .f32 from iblk m c 3 t) (ix3 0 2 k)
      = (show FVec Ideal S2x6x4096 .f32 from V m c main_v4) (ix3 (bOf (iI t)) 2 k) := by
    have h0 : (grid0.coords t 0).val = (iI t).val := rfl
    blk_ext [iblk, idx t] <;> omega
  rw [e, v4_eq]
  exact mF_at _ _ _

theorem x4_at (k : Fin 4096) : (show FVec Ideal S1x4096 .f32 from iblk m c 4 t) (ix2 0 k) = G m c (ix1 k) := by
  have e : (show FVec Ideal S1x4096 .f32 from iblk m c 4 t) (ix2 0 k) = (show FVec Ideal S1x4096 .f32 from V m c main_v5) (ix2 0 k) := by
    blk_ext [iblk, idx t] <;> omega
  rw [e, v5_eq]
  exact gF_at _ _

theorem x5_at (k : Fin 4096) : (show FVec Ideal S1x4096 .f32 from iblk m c 5 t) (ix2 0 k) = B m c (ix1 k) := by
  have e : (show FVec Ideal S1x4096 .f32 from iblk m c 5 t) (ix2 0 k) = (show FVec Ideal S1x4096 .f32 from V m c main_v6) (ix2 0 k) := by
    blk_ext [iblk, idx t] <;> omega
  rw [e, v6_eq]
  exact gF_at _ _

/-- A product's entry. -/
abbrev pv (o w : FVec Ideal S2x4096x4096 .f32) (b : Fin 2) (s k : Fin 4096) : EReal := ∑ j : Fin 4096, (o (ix3 b s j) : EReal) * w (ix3 0 j k)

theorem y_at (r : Fin 512) (k : Fin 4096) : yAt m c t.val (ix2 r k) = pv (O m c) (W m c) (bOf (iI t)) (sOf (iI t) r) k := by
  have hk := k.isLt
  have hj : k.val / 1024 < 4 := by omega
  have hi : iI (pt t.val (k.val / 1024)) = iI t := Fin.ext (pt_row t ⟨k.val / 1024, hj⟩)
  have hc : (jI (pt t.val (k.val / 1024))).val = k.val / 1024 := pt_col t ⟨k.val / 1024, hj⟩
  have hn : cOf (jI (pt t.val (k.val / 1024))) ⟨k.val % 1024, Nat.mod_lt _ (by decide)⟩ = k :=
    Fin.ext (by simp only [hc]; omega)
  refine (pay1_at (iblk m c 0 (pt t.val (k.val / 1024))) (iblk m c 1 (pt t.val (k.val / 1024))) r ⟨k.val % 1024, Nat.mod_lt _ (by decide)⟩).trans ?_
  refine Finset.sum_congr rfl fun j _ => congrArg₂ (· * ·) ((x0_at m c _ r j).trans ?_) ((x1_at m c _ j _).trans ?_)
  · rw [hi]
  · rw [hn]

/-- A residual's entry. -/
abbrev rv (o w x : FVec Ideal S2x4096x4096 .f32) (md : FVec Ideal S2x24576 .f32) (b : Fin 2) (s k : Fin 4096) : EReal :=
  alpha * x (ix3 b s k) + (one + md (ix2 b ⟨8192 + k.val, by omega⟩)) * pv o w b s k

theorem o_at (r : Fin 512) (k : Fin 4096) : oAt m c t (ix2 r k)
    = lnE (fun j => rv (O m c) (W m c) (X m c) (M m c) (bOf (iI t)) (sOf (iI t) r) j) (fun j => G m c (ix1 j)) (fun j => B m c (ix1 j)) k := by
  have hr := r.isLt
  have e : oAt m c t (ix2 r k) = k0_pay2 (F := Ideal) (iblk m c 3 t) (iblk m c 4 t) (iblk m c 5 t)
      (rowsOf (iblk m c 2 t) (r.val / 64)) (rowsOf (yAt m c t.val) (r.val / 64)) (ix2 ⟨r.val % 64, Nat.mod_lt _ (by decide)⟩ k) :=
    if_pos (show r.val < 64 * 8 by omega)
  have hrow : ∀ (Y : Vec Ideal S512x4096 .f32) (j : Fin 4096), rowsOf Y (r.val / 64) (ix2 ⟨r.val % 64, Nat.mod_lt _ (by decide)⟩ j) = Y (ix2 r j) := fun Y j => by
    unfold rowsOf
    exact congrArg (fun a => Y (ix2 a j)) (Fin.ext (show (64 * (r.val / 64) + r.val % 64) % 512 = r.val by omega))
  rw [e, pay2_at]
  have hR : (fun j => (alpha * rowsOf (iblk m c 2 t) (r.val / 64) (ix2 ⟨r.val % 64, Nat.mod_lt _ (by decide)⟩ j)
        + (one + (show FVec Ideal S1x6x4096 .f32 from iblk m c 3 t) (ix3 0 2 j)) * rowsOf (yAt m c t.val) (r.val / 64) (ix2 ⟨r.val % 64, Nat.mod_lt _ (by decide)⟩ j) : EReal))
      = fun j => rv (O m c) (W m c) (X m c) (M m c) (bOf (iI t)) (sOf (iI t) r) j := funext fun j =>
    congrArg₂ (· + ·) (congrArg (alpha * ·) ((hrow _ j).trans (x2_at m c t r j)))
      (congrArg₂ (· * ·) (congrArg (one + ·) (x3_at m c t j)) ((hrow _ j).trans (y_at m c t r j)))
  have hG : (fun j => ((show FVec Ideal S1x4096 .f32 from iblk m c 4 t) (ix2 0 j) : EReal)) = fun j => G m c (ix1 j) := funext (x4_at m c t)
  have hB : (fun j => ((show FVec Ideal S1x4096 .f32 from iblk m c 5 t) (ix2 0 j) : EReal)) = fun j => B m c (ix1 j) := funext (x5_at m c t)
  exact congrFun (congr (congr (congrArg lnE hR) hG) hB) k

/-! ## The result array -/

/-- What the result's array holds in the end, of whatever buffers the data allow. -/
theorem arr6_eq (after : (w : Fin cfg0.W) → Fin cfg0.N → (cfg0.win w).block.Idx → Elt Ideal (cfg0.win w).elt)
    (hL : ∀ w u, (cfg0.win w).flush u = true → (rdat m c).Leaves w u (after w u)) (R : FVec Ideal S8192x4096 .f32)
    (hR : ∀ (i : Fin 16) (r : Fin 512) (k : Fin 4096), R (ix2 (nOf i r) k)
      = lnE (fun j => rv (O m c) (W m c) (X m c) (M m c) (bOf i) (sOf i r) j) (fun j => G m c (ix1 j)) (fun j => B m c (ix1 j)) k) :
    ((rdat m c).withAfter after).arrAt 6 cfg0.N = R := by
  refine ((rdat m c).withAfter after).arrAt_eq_of_covers 6 _ (by decide +kernel) fun t hf y => ?_
  have ha : after 6 t = oAt m c t := by
    have h : RAt m c t (after 6 t) := (dats (F := Ideal) m 0 c).toRRel_leaves (fgt := fgt) (Rl := Rl m c) (w := 6) rfl (hL 6 t hf)
    unfold RAt at h
    rwa [if_pos ((flush0_6 t).mp hf)] at h
  blk_simp
  rw [Pipeline.RDat.withAfter_after, ha]
  have h0 : (grid0.coords t 0).val = (iI t).val := rfl
  have ey : y = (ix2 (y 0) (y 1) : S512x4096.Idx) := by blk_ext []
  have ee : (win0_6.blk t).view.emb y = ix2 (nOf (iI t) (y 0)) (y 1) := by
    blk_ext [idx t] <;> omega
  rw [ee]
  refine Eq.trans (congrArg (oAt m c t) ey) ?_
  exact (o_at m c t (y 0) (y 1)).trans (hR _ _ _).symm

end Cert.Kernel3Ideal.Out
-- ==== Proof.OutRef.lean ====
/-
  The output projection's reference at an index.
-/

module

public import proofs.«01_k».proof.Proof.Gen.Reference3Ideal.Run
public import Idealize.ShloMosaic.Lib.Pointwise
public import Idealize.ShloMosaic.Lib.Claim

@[expose] public section

set_option maxRecDepth 16384

noncomputable section

namespace Cert.Reference3Ideal.Out

open Idealize.ShloMosaic Idealize.ShloMosaic.TcCoe Idealize.SL.Sem
open Cert.Reference3Ideal Cert.Reference3Ideal.Gen Cert.Reference3Ideal.Value

section
variable {F : FTy → Type} [FloatOps F]

/-- The scaled residual and the gated product. -/
def rR (o w x : FVec F S2x4096x4096 .f32) (md : FVec F S2x24576 .f32) : FVec F S2x4096x4096 .f32 :=
  addf (mulf (broadcastInDim S2x4096x4096 ![] bcast_S_S2x4096x4096 (constant S_ .f32 0x3FD744FD#32)) x)
    (mulf (broadcastInDim S2x4096x4096 ![0, 1, 2] bcast_S2x1x4096_S2x4096x4096_0_1_2
        (addf (broadcastInDim S2x1x4096 ![] bcast_S_S2x1x4096 (constant S_ .f32 0x3F800000#32))
          (extractStridedSlice S2x1x4096 ![0, 0, 8192] (broadcastInDim S2x1x24576 ![0, 2] bcast_S2x24576_S2x1x24576_0_2 md) slices_S2x1x24576_S2x1x4096_0_0_8192)))
      (Host.dotGeneral dot_S2x4096x4096_S4096x4096_S2x4096x4096_2_0_01_1_n_n none o
        (shapeCast _ (extractStridedSlice S1x4096x4096 ![0, 0, 0] w slices_S2x4096x4096_S1x4096x4096_0_0_0) shapeCasts_S1x4096x4096_S4096x4096)))

/-- The mean of every row. -/
def meanR (r : FVec F S2x4096x4096 .f32) : FVec F S2x4096x1 .f32 :=
  Host.divf (broadcastInDim S2x4096x1 ![0, 1] bcast_S2x4096_S2x4096x1_0_1 (Host.reduceAdd r (constant S_ .f32 0x00000000#32) reducesTo_S2x4096x4096_S2x4096_d2 h_S_))
    (broadcastInDim S2x4096x1 ![] bcast_S_S2x4096x1 (constant S_ .f32 0x45800000#32))

/-- Every row less its mean. -/
def cenR (r : FVec F S2x4096x4096 .f32) : FVec F S2x4096x4096 .f32 :=
  subf r (broadcastInDim S2x4096x4096 ![0, 1, 2] bcast_S2x4096x1_S2x4096x4096_0_1_2 (meanR r))

/-- The normalized rows of centred rows `x`. -/
def lnR (x : FVec F S2x4096x4096 .f32) (g b : FVec F S4096 .f32) : FVec F S8192x4096 .f32 :=
  shapeCast _ (addf (mulf (mulf x (broadcastInDim S2x4096x4096 ![0, 1, 2] bcast_S2x4096x1_S2x4096x4096_0_1_2
        (Host.rsqrt (addf (meanR (mulf x x)) (broadcastInDim S2x4096x1 ![] bcast_S_S2x4096x1 (constant S_ .f32 0x3727C5AC#32))))))
      (broadcastInDim S2x4096x4096 ![0, 1, 2] bcast_S1x1x4096_S2x4096x4096_0_1_2 (broadcastInDim S1x1x4096 ![2] bcast_S4096_S1x1x4096_2 g)))
    (broadcastInDim S2x4096x4096 ![0, 1, 2] bcast_S1x1x4096_S2x4096x4096_0_1_2 (broadcastInDim S1x1x4096 ![2] bcast_S4096_S1x1x4096_2 b))) shapeCasts_S2x4096x4096_S8192x4096

/-- The composed term of the run is these. -/
theorem res_eq (m : (ℓ : Loc nD τ sig) → Buf (Elt F) ℓ) (c : Dev nD) : res_main_v39 m c
    = lnR (cenR (rR (m ((c.tc : Thread nD τ).loc main_arg0)) (m ((c.tc : Thread nD τ).loc main_arg1)) (m ((c.tc : Thread nD τ).loc main_arg2)) (m ((c.tc : Thread nD τ).loc main_arg3))))
        (m ((c.tc : Thread nD τ).loc main_arg4)) (m ((c.tc : Thread nD τ).loc main_arg5)) := rfl
end

theorem rR_at (o w x : FVec Ideal S2x4096x4096 .f32) (md : FVec Ideal S2x24576 .f32) (b : Fin 2) (s k : Fin 4096) :
    rR o w x md (ix3 b s k) = (Ideal.ofBits FTy.f32 0x3FD744FD#32 * x (ix3 b s k)
      + (Ideal.ofBits FTy.f32 0x3F800000#32 + md (ix2 b ⟨8192 + k.val, by omega⟩)) * ∑ j : Fin 4096, (o (ix3 b s j) : EReal) * w (ix3 0 j k) : EReal) := by
  pointwise [rR]

theorem meanR_at (r : FVec Ideal S2x4096x4096 .f32) (b : Fin 2) (s : Fin 4096) :
    meanR r (ix3 b s 0) = Ideal.div (∑ j : Fin 4096, (r (ix3 b s j) : EReal)) (Ideal.ofBits FTy.f32 0x45800000#32) := by
  pointwise [meanR]

theorem cenR_at (r : FVec Ideal S2x4096x4096 .f32) (b : Fin 2) (s k : Fin 4096) :
    cenR r (ix3 b s k) = ((r (ix3 b s k) : EReal) - meanR r (ix3 b s 0) : EReal) := by
  unfold cenR
  generalize meanR r = u
  pointwise

theorem lnR_at (x : FVec Ideal S2x4096x4096 .f32) (g b : FVec Ideal S4096 .f32) (i : Fin 16) (r : Fin 512) (k : Fin 4096) :
    lnR x g b (ix2 ⟨i.val * 512 + r.val, by omega⟩ k) =
      ((x (ix3 ⟨i.val / 8, by omega⟩ ⟨i.val % 8 * 512 + r.val, by omega⟩ k) : EReal)
        * Ideal.rsqrt ((meanR (mulf x x) (ix3 ⟨i.val / 8, by omega⟩ ⟨i.val % 8 * 512 + r.val, by omega⟩ 0) : EReal) + Ideal.ofBits FTy.f32 0x3727C5AC#32)
        * g (ix1 k) + b (ix1 k) : EReal) := by
  unfold lnR
  generalize meanR (mulf x x) = u
  pointwise
  exact congrArg₂ (fun p q => ((x (ix3 p q k) : EReal) * Ideal.rsqrt ((u (ix3 p q 0) : EReal) + Ideal.ofBits FTy.f32 0x3727C5AC#32) * g (ix1 k) + b (ix1 k) : EReal))
    (Fin.ext (by simp only []; omega) : (⟨(i.val * 512 + r.val) / 4096, by omega⟩ : Fin 2) = ⟨i.val / 8, by omega⟩)
    (Fin.ext (by simp only []; omega) : (⟨(i.val * 512 + r.val) % 4096, by omega⟩ : Fin 4096) = ⟨i.val % 8 * 512 + r.val, by omega⟩)

end Cert.Reference3Ideal.Out
-- ==== Proof.OutJoin.lean ====
/-
  The output projection's result and its reference's are one array, and the claims drawn from it.
-/
module

public import proofs.«01_k».proof.Defs
public import proofs.«01_k».proof.Proof.OutValue
public import proofs.«01_k».proof.Proof.OutRef
public import Idealize.ShloMosaic.Lib.Claim
public import Idealize.ShloMosaic.Lib.Quiescent

@[expose] public section

set_option maxRecDepth 16384

noncomputable section

namespace Cert.Kernel3Ideal.Out

open Idealize.ShloMosaic Idealize.ShloMosaic.TcCoe Idealize.SL.Sem
open Cert.Kernel3Ideal Cert.Kernel3Ideal.Gen
open Cert.Reference3Ideal.Out (rR meanR cenR lnR rR_at meanR_at cenR_at lnR_at)

/-- A centred row's entry. -/
theorem cen_row (o w x : FVec Ideal S2x4096x4096 .f32) (md : FVec Ideal S2x24576 .f32) (b : Fin 2) (s k : Fin 4096) :
    cenR (rR o w x md) (ix3 b s k) = (rv o w x md b s k - mean (fun j => rv o w x md b s j) : EReal) := by
  have h : ∀ j, rR o w x md (ix3 b s j) = rv o w x md b s j := rR_at o w x md b s
  refine (cenR_at _ b s k).trans (congrArg₂ (· - ·) (h k) ((meanR_at _ b s).trans ?_))
  exact congrArg (Ideal.div · cols) (Finset.sum_congr rfl fun j _ => h j)

/-- The reference's result, at an index. -/
theorem ref_at (o w x : FVec Ideal S2x4096x4096 .f32) (md : FVec Ideal S2x24576 .f32) (g b : FVec Ideal S4096 .f32)
    (i : Fin 16) (r : Fin 512) (k : Fin 4096) :
    lnR (cenR (rR o w x md)) g b (ix2 (nOf i r) k)
      = lnE (fun j => rv o w x md (bOf i) (sOf i r) j) (fun j => g (ix1 j)) (fun j => b (ix1 j)) k := by
  have h := cen_row o w x md (bOf i) (sOf i r)
  generalize cenR (rR o w x md) = C at h ⊢
  refine (lnR_at C g b i r k).trans ?_
  refine congrArg (· + _) (congrArg (· * _) (congrArg₂ (· * ·) (h k) (congrArg (fun a => Ideal.rsqrt (a + eps)) ((meanR_at _ _ _).trans ?_))))
  exact congrArg (Ideal.div · cols) (Finset.sum_congr rfl fun j _ => congrArg₂ (· * ·) (h j) (h j))

variable (m : (ℓ : Loc nD τ sig) → Buf (Elt Ideal) ℓ)

/-- The result's array. -/
abbrev out (c : Dev nD) : FVec Ideal S8192x4096 .f32 := lnR (cenR (rR (O m c) (W m c) (X m c) (M m c))) (G m c) (B m c)

/-- Every run ends with the result's array at its value, the arguments unchanged. -/
theorem run_arrays (ρ : Dev nD → PrngReg) : θ_run defs (onTc (τ := τ) (main (F := Ideal))) ⟨m, fun _ => 0, ρ⟩ (fun r => ∀ c : Dev nD,
      r.2.mem ((c.tc : Thread nD τ).loc main_v7) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    obtain ⟨after, hL, hA⟩ := Pipeline.RDat.FramePost.exists_exact h.1 c
    exact ⟨(hA 6).trans (arr6_eq m c after hL _ fun i r k => ref_at _ _ _ _ _ _ i r k),
      ((h.1 c).2 main_arg0 (Pipeline.mem_restRefs_of main_arg0 (by decide) (by decide))).trans (V_arg0 m c),
      ((h.1 c).2 main_arg1 (Pipeline.mem_restRefs_of main_arg1 (by decide) (by decide))).trans (V_arg1 m c),
      ((h.1 c).2 main_arg2 (Pipeline.mem_restRefs_of main_arg2 (by decide) (by decide))).trans (V_arg2 m c),
      ((h.1 c).2 main_arg3 (Pipeline.mem_restRefs_of main_arg3 (by decide) (by decide))).trans (V_arg3 m c),
      ((h.1 c).2 main_arg4 (Pipeline.mem_restRefs_of main_arg4 (by decide) (by decide))).trans (V_arg4 m c),
      ((h.1 c).2 main_arg5 (Pipeline.mem_restRefs_of main_arg5 (by decide) (by decide))).trans (V_arg5 m c)⟩) (run_main m ρ)

theorem algebraic : Cert.algebraic_Kernel3Ideal_Reference3Ideal := by
  intro m g m' g' _ hagree
  refine ⟨fun c => out m c, run_arrays m g, ?_⟩
  refine (θ_run _ _ _).mono (fun r h c => ⟨(h c).1.trans ?_, (h c).2⟩) (Cert.Reference3Ideal.Value.run m' g')
  obtain ⟨h0, h1, h2, h3, h4, h5⟩ := hagree c
  refine (Cert.Reference3Ideal.Out.res_eq m' c).trans ?_
  rw [h0, h1, h2, h3, h4, h5]

theorem ref_quiescent (m : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0) :=
  (θ_run _ _ _).mono (fun r h => ⟨fun c => (h c).2, sem_eq_zero_of_no_sems (by decide) r.2⟩) (Cert.Reference3Ideal.Value.run m g)

end Cert.Kernel3Ideal.Out
-- ==== Proof.DecayBody.lean ====
/-
  The gates' running sum, a chunk of rows at a time: the block the program leaves as one chunk function applied to
  the chunks in turn, each taking the last row of the one before.
-/
module

public import proofs.«01_k».proof.Proof.Gen.Kernel4Ideal.Frame
public import Idealize.ShloMosaic.Lib.Pointwise
public import Idealize.ShloMosaic.Lib.Pipeline.ValueKit

@[expose] public section

set_option maxRecDepth 16384

noncomputable section

namespace Cert.Kernel4Ideal.Decay

open Idealize.ShloMosaic Idealize.ShloMosaic.TcCoe Idealize.SL.Sem
open Cert.Kernel4Ideal Cert.Kernel4Ideal.Gen

section
variable {F : FTy → Type} [FloatOps F]

/-- A block of one word. -/
abbrev zC : FVec F S256x128 .f32 := broadcast S256x128 (Scalar.ofBits .f32 0x00000000#32)
abbrev zM : FVec F S256x128 .f32 := constant S256x128 .f32 0x00000000#32

/-- The negated logits of a chunk. -/
def ngC (a : Vec F S1x256x128 .f32) (b : Vec F S1x128 .f32) : FVec F S256x128 .f32 :=
  subf zC (addf (shapeCast S256x128 a shapeCasts_S1x256x128_S256x128)
    (broadcastTo S256x128 (shapeCast S1x128 b shapeCasts_S1x128_S1x128) broadcasts_S1x128_S256x128))

/-- The logarithms of a chunk's gates, from their negated logits. -/
def lgC (n : FVec F S256x128 .f32) : FVec F S256x128 .f32 :=
  subf zC (select (cmpf .one (subf n zC) (subf n zC)) (addf n zC)
    (addf (maximumf n zC) (log1p (exp (subf zC (absf (subf n zC)))))))

/-- A chunk's entries in the narrower floats and what that leaves. -/
abbrev hiC (x : FVec F S256x128 .f32) : FVec F S256x128 .bf16 := truncf .bf16 x bitsLt_bf16_f32
abbrev loC (x : FVec F S256x128 .f32) : FVec F S256x128 .f32 := subf x (extf .f32 (hiC x) bitsLt_bf16_f32)

/-- The triangle of ones times a chunk. -/
abbrev mmC (x : FVec F S256x128 .bf16) : FVec F S256x128 .f32 :=
  matmul dot_S256x256_S256x128_S256x128_1_0_0_1_n_n none (k0_pay2 (F := F)) x zM

/-- The running sums within a chunk. -/
def trC (x : FVec F S256x128 .f32) : FVec F S256x128 .f32 :=
  addf (addf (mmC (hiC x)) (mmC (hiC (loC x)))) (mmC (hiC (loC (loC x))))

/-- The running sums of a chunk that follows on `k`. -/
def csC (a : Vec F S1x256x128 .f32) (b : Vec F S1x128 .f32) (k : FVec F S1x128 .f32) : FVec F S256x128 .f32 :=
  addf (trC (lgC (ngC a b))) (broadcastTo S256x128 k broadcasts_S1x128_S256x128)

/-- A chunk's last row. -/
def lastC (x : FVec F S256x128 .f32) : FVec F S1x128 .f32 := extractStridedSlice S1x128 ![255, 0] x slices_S256x128_o255_0_S1x128

/-- A chunk as a piece of the block. -/
abbrev pcC (x : FVec F S256x128 .f32) : FVec F S1x256x128 .f32 := shapeCast S1x256x128 x shapeCasts_S256x128_S1x256x128

variable (x0 : Vec F S1x4096x128 .f32) (x1 : Vec F S1x128 .f32)

def cs0 : FVec F S256x128 .f32 := csC (View.ld x0 r0_0) (View.ld x1 r0_1) (broadcast S1x128 (Scalar.ofBits .f32 0x00000000#32))
def cs1 : FVec F S256x128 .f32 := csC (View.ld x0 r0_2) (View.ld x1 r0_1) (lastC (cs0 x0 x1))
def cs2 : FVec F S256x128 .f32 := csC (View.ld x0 r0_3) (View.ld x1 r0_1) (lastC (cs1 x0 x1))
def cs3 : FVec F S256x128 .f32 := csC (View.ld x0 r0_4) (View.ld x1 r0_1) (lastC (cs2 x0 x1))
def cs4 : FVec F S256x128 .f32 := csC (View.ld x0 r0_5) (View.ld x1 r0_1) (lastC (cs3 x0 x1))
def cs5 : FVec F S256x128 .f32 := csC (View.ld x0 r0_6) (View.ld x1 r0_1) (lastC (cs4 x0 x1))
def cs6 : FVec F S256x128 .f32 := csC (View.ld x0 r0_7) (View.ld x1 r0_1) (lastC (cs5 x0 x1))
def cs7 : FVec F S256x128 .f32 := csC (View.ld x0 r0_8) (View.ld x1 r0_1) (lastC (cs6 x0 x1))
def cs8 : FVec F S256x128 .f32 := csC (View.ld x0 r0_9) (View.ld x1 r0_1) (lastC (cs7 x0 x1))
def cs9 : FVec F S256x128 .f32 := csC (View.ld x0 r0_10) (View.ld x1 r0_1) (lastC (cs8 x0 x1))
def cs10 : FVec F S256x128 .f32 := csC (View.ld x0 r0_11) (View.ld x1 r0_1) (lastC (cs9 x0 x1))
def cs11 : FVec F S256x128 .f32 := csC (View.ld x0 r0_12) (View.ld x1 r0_1) (lastC (cs10 x0 x1))
def cs12 : FVec F S256x128 .f32 := csC (View.ld x0 r0_13) (View.ld x1 r0_1) (lastC (cs11 x0 x1))
def cs13 : FVec F S256x128 .f32 := csC (View.ld x0 r0_14) (View.ld x1 r0_1) (lastC (cs12 x0 x1))
def cs14 : FVec F S256x128 .f32 := csC (View.ld x0 r0_15) (View.ld x1 r0_1) (lastC (cs13 x0 x1))
def cs15 : FVec F S256x128 .f32 := csC (View.ld x0 r0_16) (View.ld x1 r0_1) (lastC (cs14 x0 x1))

theorem e63 : k0_pay63 x0 x1 = cs0 x0 x1 := rfl
theorem e64 : k0_pay64 x0 x1 = cs1 x0 x1 := by
  unfold k0_pay64; rw [e63]; rfl
theorem e65 : k0_pay65 x0 x1 = cs2 x0 x1 := by
  unfold k0_pay65; rw [e64]; rfl
theorem e66 : k0_pay66 x0 x1 = cs3 x0 x1 := by
  unfold k0_pay66; rw [e65]; rfl
theorem e67 : k0_pay67 x0 x1 = lastC (cs4 x0 x1) := by
  unfold k0_pay67; rw [e66]; rfl
theorem e68 : k0_pay68 x0 x1 = lastC (cs5 x0 x1) := by
  unfold k0_pay68; rw [e67]; rfl
theorem e69 : k0_pay69 x0 x1 = lastC (cs6 x0 x1) := by
  unfold k0_pay69; rw [e68]; rfl
theorem e71 : k0_pay71 x0 x1 = lastC (cs7 x0 x1) := by
  unfold k0_pay71; rw [e69]; rfl
theorem e73 : k0_pay73 x0 x1 = lastC (cs8 x0 x1) := by
  unfold k0_pay73; rw [e71]; rfl
theorem e76 : k0_pay76 x0 x1 = lastC (cs9 x0 x1) := by
  unfold k0_pay76; rw [e73]; rfl
theorem e78 : k0_pay78 x0 x1 = lastC (cs10 x0 x1) := by
  unfold k0_pay78; rw [e76]; rfl
theorem e81 : k0_pay81 x0 x1 = lastC (cs11 x0 x1) := by
  unfold k0_pay81; rw [e78]; rfl
theorem e83 : k0_pay83 x0 x1 = lastC (cs12 x0 x1) := by
  unfold k0_pay83; rw [e81]; rfl
theorem e86 : k0_pay86 x0 x1 = lastC (cs13 x0 x1) := by
  unfold k0_pay86; rw [e83]; rfl
theorem e56 : k0_pay56 (k0_pay62 x0 x1) (k0_pay86 x0 x1) (k0_pay87 x0 x1) (Scalar.ofBits .f32 0x00000000#32) (k0_pay88 x0 x1) (k0_pay89 x0 x1) = lastC (cs14 x0 x1) := by
  rw [e86]; rfl

theorem p15 : k0_pay1 (k0_pay62 x0 x1) (k0_pay56 (k0_pay62 x0 x1) (k0_pay86 x0 x1) (k0_pay87 x0 x1) (Scalar.ofBits .f32 0x00000000#32) (k0_pay88 x0 x1) (k0_pay89 x0 x1)) (k0_pay57 (View.ld x0 r0_16) (View.ld x1 r0_1)) (k0_pay58 (View.ld x0 r0_16) (View.ld x1 r0_1)) (k0_pay59 (View.ld x0 r0_16) (View.ld x1 r0_1)) (k0_pay60 (View.ld x0 r0_16) (View.ld x1 r0_1)) (k0_pay61 (F := F)) = pcC (cs15 x0 x1) := by
  rw [e56]; rfl
theorem p14 : k0_pay55 (k0_pay62 x0 x1) (k0_pay86 x0 x1) (k0_pay87 x0 x1) (Scalar.ofBits .f32 0x00000000#32) (k0_pay88 x0 x1) (k0_pay89 x0 x1) = pcC (cs14 x0 x1) := by
  rw [e86]; rfl
theorem p13 : k0_pay49 (k0_pay62 x0 x1) (k0_pay83 x0 x1) (k0_pay84 x0 x1) (Scalar.ofBits .f32 0x00000000#32) (k0_pay85 x0 x1) = pcC (cs13 x0 x1) := by
  rw [e83]; rfl
theorem p12 : k0_pay44 (k0_pay62 x0 x1) (k0_pay81 x0 x1) (k0_pay82 x0 x1) (Scalar.ofBits .f32 0x00000000#32) = pcC (cs12 x0 x1) := by
  rw [e81]; rfl
theorem p11 : k0_pay40 (k0_pay62 x0 x1) (k0_pay78 x0 x1) (k0_pay79 x0 x1) (k0_pay80 x0 x1) = pcC (cs11 x0 x1) := by
  rw [e78]; rfl
theorem p10 : k0_pay35 (k0_pay62 x0 x1) (k0_pay76 x0 x1) (k0_pay77 x0 x1) = pcC (cs10 x0 x1) := by
  rw [e76]; rfl
theorem p9 : k0_pay31 (k0_pay62 x0 x1) (k0_pay73 x0 x1) (k0_pay74 x0 x1) (k0_pay75 x0 x1) = pcC (cs9 x0 x1) := by
  rw [e73]; rfl
theorem p8 : k0_pay26 (k0_pay62 x0 x1) (k0_pay71 x0 x1) (k0_pay72 x0 x1) (View.ld x1 r0_1) = pcC (cs8 x0 x1) := by
  rw [e71]; rfl
theorem p7 : k0_pay22 (k0_pay62 x0 x1) (k0_pay69 x0 x1) (k0_pay70 x0 x1) (View.ld x1 r0_1) = pcC (cs7 x0 x1) := by
  rw [e69]; rfl
theorem p6 : k0_pay18 (k0_pay62 x0 x1) (k0_pay68 x0 x1) (View.ld x0 r0_7) (View.ld x1 r0_1) = pcC (cs6 x0 x1) := by
  rw [e68]; rfl
theorem p5 : k0_pay15 (k0_pay62 x0 x1) (k0_pay67 x0 x1) (View.ld x0 r0_6) (View.ld x1 r0_1) = pcC (cs5 x0 x1) := by
  rw [e67]; rfl
theorem p4 : k0_pay12 (k0_pay62 x0 x1) (k0_pay66 x0 x1) (View.ld x0 r0_5) (View.ld x1 r0_1) = pcC (cs4 x0 x1) := by
  rw [e66]; rfl
theorem p3 : k0_pay10 (k0_pay62 x0 x1) (k0_pay65 x0 x1) (View.ld x0 r0_4) (View.ld x1 r0_1) = pcC (cs3 x0 x1) := by
  rw [e65]; rfl
theorem p2 : k0_pay8 (k0_pay65 x0 x1) = pcC (cs2 x0 x1) := by
  rw [e65]; rfl
theorem p1 : k0_pay6 (k0_pay64 x0 x1) = pcC (cs1 x0 x1) := by
  rw [e64]; rfl
theorem p0 : k0_pay4 (k0_pay63 x0 x1) = pcC (cs0 x0 x1) := by
  rw [e63]; rfl

theorem out_eq : out0_2 x0 x1 = View.canon [⟨r0_16, pcC (cs15 x0 x1)⟩,
    ⟨r0_15, pcC (cs14 x0 x1)⟩,
    ⟨r0_14, pcC (cs13 x0 x1)⟩,
    ⟨r0_13, pcC (cs12 x0 x1)⟩,
    ⟨r0_12, pcC (cs11 x0 x1)⟩,
    ⟨r0_11, pcC (cs10 x0 x1)⟩,
    ⟨r0_10, pcC (cs9 x0 x1)⟩,
    ⟨r0_9, pcC (cs8 x0 x1)⟩,
    ⟨r0_8, pcC (cs7 x0 x1)⟩,
    ⟨r0_7, pcC (cs6 x0 x1)⟩,
    ⟨r0_6, pcC (cs5 x0 x1)⟩,
    ⟨r0_5, pcC (cs4 x0 x1)⟩,
    ⟨r0_4, pcC (cs3 x0 x1)⟩,
    ⟨r0_3, pcC (cs2 x0 x1)⟩,
    ⟨r0_2, pcC (cs1 x0 x1)⟩,
    ⟨r0_0, pcC (cs0 x0 x1)⟩] := by
  unfold out0_2
  rw [p15, p14, p13, p12, p11, p10, p9, p8, p7, p6, p5, p4, p3, p2, p1, p0]
end

end Cert.Kernel4Ideal.Decay
-- ==== Proof.DecayRow.lean ====
/-
  A chunk of the gates' running sum over the extended reals: its entries are the sums, up to the row, of the gates'
  logarithms.
-/
module

public import proofs.«01_k».proof.Proof.DecayBody

@[expose] public section

set_option maxRecDepth 16384

noncomputable section

namespace Cert.Kernel4Ideal.Decay

open Idealize.ShloMosaic Idealize.ShloMosaic.TcCoe Idealize.SL.Sem
open Cert.Kernel4Ideal Cert.Kernel4Ideal.Gen

/-- The logarithm of the gate of logit `x`. -/
def lsE (x : EReal) : EReal := -(max (-x) 0 + Ideal.log1p (Ideal.exp (-(max (-x) (- -x)))))

/-- It is never +∞. -/
theorem lsE_ne_top (x : EReal) : lsE x ≠ ⊤ := by
  have h1 : ∀ z : EReal, Ideal.log1p (Ideal.exp z) ≠ ⊥ := fun z => by
    have hr : ∀ r : ℝ, 0 ≤ r → Ideal.log1p (r : EReal) ≠ ⊥ := fun r hr => by
      have hp : ¬ (1 + r ≤ 0) := by linarith
      unfold Ideal.log1p
      rw [← EReal.coe_one, ← EReal.coe_add]
      show (if 1 + r ≤ 0 then (⊥ : EReal) else ((Real.log (1 + r) : ℝ) : EReal)) ≠ ⊥
      rw [if_neg hp]
      exact EReal.coe_ne_bot _
    induction z with
    | bot => exact hr 0 le_rfl
    | top =>
      show Ideal.log (1 + ⊤) ≠ ⊥
      rw [← EReal.coe_one, EReal.coe_add_top]
      exact top_ne_bot
    | coe r => exact hr (Real.exp r) (Real.exp_pos r).le
  unfold lsE
  rw [Ne, EReal.neg_eq_top_iff, EReal.add_eq_bot_iff, not_or]
  exact ⟨fun h => absurd (h ▸ le_max_right (-x) 0 : (0 : EReal) ≤ ⊥) (by simp), h1 _⟩

theorem zw : Ideal.ofBits FTy.f32 0x00000000#32 = (0 : EReal) := by simp [Ideal.ofBits, Ideal.ieee]

theorem ngC_at (a : Vec Ideal S1x256x128 .f32) (b : Vec Ideal S1x128 .f32) (r : Fin 256) (l : Fin 128) :
    ngC a b (ix2 r l) = (Ideal.ofBits FTy.f32 0x00000000#32 - (a (ix3 0 r l) + b (ix2 0 l)) : EReal) := by
  pointwise [ngC]

theorem lgC_at (n : FVec Ideal S256x128 .f32) (r : Fin 256) (l : Fin 128) (x : EReal) (hx : n (ix2 r l) = (-x : EReal)) :
    lgC n (ix2 r l) = lsE x := by
  unfold lsE
  show (Ideal.ofBits FTy.f32 0x00000000#32 - Scalar.select (Ideal.cmp .one (n (ix2 r l) - Ideal.ofBits FTy.f32 0x00000000#32) (n (ix2 r l) - Ideal.ofBits FTy.f32 0x00000000#32))
    (n (ix2 r l) + Ideal.ofBits FTy.f32 0x00000000#32) (max (n (ix2 r l)) (Ideal.ofBits FTy.f32 0x00000000#32)
      + Ideal.log1p (Ideal.exp (Ideal.ofBits FTy.f32 0x00000000#32 - max (n (ix2 r l) - Ideal.ofBits FTy.f32 0x00000000#32) (-(n (ix2 r l) - Ideal.ofBits FTy.f32 0x00000000#32))))) : EReal) = _
  rw [zw, hx, sub_zero, zero_sub, zero_sub]
  simp [Scalar.select, Ideal.cmp]

/-- The triangle of ones. -/
theorem tri_at (r j : Fin 256) : (k0_pay2 (F := Ideal)) (ix2 r j) = ((if j.val ≤ r.val then 1 else 0 : ℝ) : EReal) := by
  have e : (k0_pay2 (F := Ideal)) (ix2 r j)
      = (((BitVec.setWidth 32 (IntOp.cmpi CmpIPredicate.sle (BitVec.ofNat 32 j.val) (BitVec.ofNat 32 r.val))).toInt : ℝ) : EReal) := by
    pointwise [k0_pay2]
    rfl
  rw [e]
  have hs : (BitVec.ofNat 32 j.val).sle (BitVec.ofNat 32 r.val) = decide (j.val ≤ r.val) := by
    rw [BitVec.sle_eq_decide]
    rw [BitVec.toInt_eq_toNat_of_lt (by simp; omega), BitVec.toInt_eq_toNat_of_lt (by simp; omega)]
    simp only [BitVec.toNat_ofNat, decide_eq_decide, Nat.cast_le]
    omega
  simp only [IntOp.cmpi, hs]
  by_cases h : j.val ≤ r.val <;> simp [h]

theorem mmC_at (x : FVec Ideal S256x128 .bf16) (r : Fin 256) (l : Fin 128) :
    mmC x (ix2 r l) = (∑ j : Fin 256, (k0_pay2 (F := Ideal) (ix2 r j) : EReal) * x (ix2 j l) : EReal) := by
  unfold mmC
  generalize k0_pay2 (F := Ideal) = T
  pointwise

/-- What is left of an entry without itself, added up to entries that hold it, changes nothing. -/
theorem sum_add_self {n : ℕ} (L : ℕ → EReal) (hL : ∀ j, L j ≠ ⊤) :
    (∑ j ∈ Finset.range n, L j) + (∑ j ∈ Finset.range n, (L j - L j)) = ∑ j ∈ Finset.range n, L j := by
  rw [← Finset.sum_add_distrib]
  refine Finset.sum_congr rfl fun j _ => ?_
  have := hL j
  revert this
  generalize L j = z
  intro hz
  induction z with
  | bot => simp
  | top => exact absurd rfl hz
  | coe r => rw [← EReal.coe_sub, sub_self, EReal.coe_zero, add_zero]

/-- The triangle's product with a column. -/
theorem tri_sum (r : Fin 256) (L : ℕ → EReal) :
    (∑ j : Fin 256, (k0_pay2 (F := Ideal) (ix2 r j) : EReal) * L j.val : EReal) = ∑ j ∈ Finset.range (r.val + 1), L j := by
  have hr := r.isLt
  refine (Finset.sum_congr rfl fun j _ => (congrArg (· * L j.val) (tri_at r j)).trans ?_).trans (b := ∑ j : Fin 256, if j.val ≤ r.val then L j.val else 0) ?_
  · by_cases h : j.val ≤ r.val <;> simp [h]
  rw [Fin.sum_univ_eq_sum_range (fun j => if j ≤ r.val then L j else 0) 256, ← Finset.sum_filter]
  refine Finset.sum_congr (Finset.ext fun n => ?_) fun _ _ => rfl
  rw [Finset.mem_filter, Finset.mem_range, Finset.mem_range]
  omega

theorem trC_at (x : FVec Ideal S256x128 .f32) (r : Fin 256) (l : Fin 128) (L : ℕ → EReal) (hL : ∀ j, L j ≠ ⊤)
    (hx : ∀ j : Fin 256, x (ix2 j l) = L j.val) :
    trC x (ix2 r l) = ∑ j ∈ Finset.range (r.val + 1), L j := by
  have e0 : ∀ j : Fin 256, (hiC (loC x) (ix2 j l) : EReal) = L j.val - L j.val := fun j => by
    show (x (ix2 j l) - x (ix2 j l) : EReal) = _
    rw [hx j]
  have e1 : ∀ j : Fin 256, (hiC (loC (loC x)) (ix2 j l) : EReal) = (L j.val - L j.val) - (L j.val - L j.val) := fun j => by
    show ((x (ix2 j l) - x (ix2 j l)) - (x (ix2 j l) - x (ix2 j l)) : EReal) = _
    rw [hx j]
  have e2 : ∀ z : EReal, z ≠ ⊤ → (z - z) - (z - z) = z - z := fun z hz => by
    induction z with
    | bot => simp
    | top => exact absurd rfl hz
    | coe r => rw [← EReal.coe_sub, sub_self, ← EReal.coe_sub, sub_self]
  show (mmC (hiC x) (ix2 r l) + mmC (hiC (loC x)) (ix2 r l) + mmC (hiC (loC (loC x))) (ix2 r l) : EReal) = _
  rw [mmC_at, mmC_at, mmC_at]
  refine (congrArg₂ (· + ·) (congrArg₂ (· + ·)
    ((Finset.sum_congr rfl fun j _ => congrArg (_ * ·) (hx j)).trans (tri_sum r L))
    ((Finset.sum_congr rfl fun j _ => congrArg (_ * ·) (e0 j)).trans (tri_sum r fun n => L n - L n)))
    ((Finset.sum_congr rfl fun j _ => congrArg (_ * ·) ((e1 j).trans (e2 _ (hL _)))).trans (tri_sum r fun n => L n - L n))).trans ?_
  show (∑ j ∈ Finset.range (r.val + 1), L j) + (∑ j ∈ Finset.range (r.val + 1), (L j - L j)) + (∑ j ∈ Finset.range (r.val + 1), (L j - L j)) = _
  rw [sum_add_self L hL, sum_add_self L hL]

/-- A chunk that follows on the sum of the first `s` logarithms. -/
theorem csC_at (a : Vec Ideal S1x256x128 .f32) (b : Vec Ideal S1x128 .f32) (k : FVec Ideal S1x128 .f32) (l : Fin 128) (s : ℕ) (L : ℕ → EReal)
    (hL : ∀ j, L j ≠ ⊤) (ha : ∀ j : Fin 256, L (s + j.val) = lsE (a (ix3 0 j l) + b (ix2 0 l)))
    (hk : k (ix2 0 l) = ∑ j ∈ Finset.range s, L j) (r : Fin 256) :
    csC a b k (ix2 r l) = ∑ j ∈ Finset.range (s + r.val + 1), L j := by
  have e : csC a b k (ix2 r l) = (trC (lgC (ngC a b)) (ix2 r l) + k (ix2 0 l) : EReal) := by
    unfold csC
    generalize trC (lgC (ngC a b)) = u
    pointwise
  have ht : ∀ j : Fin 256, lgC (ngC a b) (ix2 j l) = (fun n => L (s + n)) j.val := fun j =>
    (lgC_at _ j l _ (by rw [ngC_at, zw, zero_sub])).trans (ha j).symm
  rw [e, hk, trC_at _ r l (fun n => L (s + n)) (fun n => hL _) ht, add_assoc s, add_comm]
  exact (Finset.sum_range_add L s (r.val + 1)).symm

theorem lastC_at (x : FVec Ideal S256x128 .f32) (l : Fin 128) : lastC x (ix2 0 l) = x (ix2 (255 : Fin 256) l) := by
  pointwise [lastC]

theorem pcC_at (x : FVec Ideal S256x128 .f32) (r : Fin 256) (l : Fin 128) : pcC x (ix3 0 r l) = x (ix2 r l) := by
  pointwise

end Cert.Kernel4Ideal.Decay
-- ==== Proof.DecayValue.lean ====
/-
  The block of the gates' running sum at an index, and the whole array: the sum of the gates' logarithms up to the row.
-/
module

public import proofs.«01_k».proof.Proof.DecayRow
public import proofs.«01_k».proof.Proof.Gen.Kernel4Ideal.Value
public import Idealize.ShloMosaic.Lib.Claim

@[expose] public section

set_option maxRecDepth 16384

noncomputable section

namespace Cert.Kernel4Ideal.Decay

open Idealize.ShloMosaic Idealize.ShloMosaic.TcCoe Idealize.SL.Sem
open Idealize.ShloMosaic.Pipeline (Dat)
open Cert.Kernel4Ideal Cert.Kernel4Ideal.Gen

section
variable (x0 : Vec Ideal S1x4096x128 .f32) (x1 : Vec Ideal S1x128 .f32)

/-- `L` gives the logarithms of the block's gates. -/
def Gates (L : Fin 128 → ℕ → EReal) : Prop :=
  (∀ l j, L l j ≠ ⊤) ∧ ∀ (s : Fin 4096) (l : Fin 128), L l s.val = lsE (x0 (ix3 0 s l) + x1 (ix2 0 l))

theorem ld1_at (l : Fin 128) : (View.ld x1 r0_1 : Vec Ideal S1x128 .f32) (ix2 0 l) = x1 (ix2 0 l) := by
  refine congrArg x1 (funext fun a => Fin.ext ?_)
  rw [show r0_1.idx (ix2 0 l) = r0_1.emb (ix2 0 l) from rfl, Rect.emb_apply]
  match a with
  | ⟨0, _⟩ => rfl
  | ⟨1, _⟩ =>
    show 0 + 1 * l.val = l.val
    omega

theorem emb_at (o : ℕ) (inb : ∀ a, (![0, o, 0] : Fin 3 → Nat) a + S1x256x128.size a ≤ S1x4096x128.size a) (ho : o + 256 ≤ 4096) (j : Fin 256) (l : Fin 128) :
    (Rect.unit (s := S1x4096x128) ![0, o, 0] S1x256x128.size inb).emb (ix3 0 j l) = (ix3 0 ⟨o + j.val, by omega⟩ l : S1x4096x128.Idx) := by
  funext a
  refine Fin.ext ?_
  rw [Rect.emb_apply]
  match a with
  | ⟨0, _⟩ => rfl
  | ⟨1, _⟩ =>
    show o + 1 * j.val = o + j.val
    omega
  | ⟨2, _⟩ =>
    show 0 + 1 * l.val = l.val
    omega

variable {x0 x1} {L : Fin 128 → ℕ → EReal} (h : Gates x0 x1 L)

include h in
theorem gate (a : Vec Ideal S1x256x128 .f32) (o : ℕ) (ho : o + 256 ≤ 4096)
    (ha : ∀ (j : Fin 256) (l : Fin 128), a (ix3 0 j l) = x0 (ix3 0 ⟨o + j.val, by omega⟩ l)) (l : Fin 128) (j : Fin 256) :
    L l (o + j.val) = lsE (a (ix3 0 j l) + (View.ld x1 r0_1 : Vec Ideal S1x128 .f32) (ix2 0 l)) := by
  rw [ha, ld1_at]
  exact h.2 ⟨o + j.val, by omega⟩ l

theorem ld0 (x0 : Vec Ideal S1x4096x128 .f32) (j : Fin 256) (l : Fin 128) : (View.ld x0 r0_0 : Vec Ideal S1x256x128 .f32) (ix3 0 j l) = x0 (ix3 0 ⟨0 + j.val, by omega⟩ l) := by
  exact congrArg x0 (emb_at 0 _ (by decide) j l)
theorem ld1 (x0 : Vec Ideal S1x4096x128 .f32) (j : Fin 256) (l : Fin 128) : (View.ld x0 r0_2 : Vec Ideal S1x256x128 .f32) (ix3 0 j l) = x0 (ix3 0 ⟨256 + j.val, by omega⟩ l) := by
  exact congrArg x0 (emb_at 256 _ (by decide) j l)
theorem ld2 (x0 : Vec Ideal S1x4096x128 .f32) (j : Fin 256) (l : Fin 128) : (View.ld x0 r0_3 : Vec Ideal S1x256x128 .f32) (ix3 0 j l) = x0 (ix3 0 ⟨512 + j.val, by omega⟩ l) := by
  exact congrArg x0 (emb_at 512 _ (by decide) j l)
theorem ld3 (x0 : Vec Ideal S1x4096x128 .f32) (j : Fin 256) (l : Fin 128) : (View.ld x0 r0_4 : Vec Ideal S1x256x128 .f32) (ix3 0 j l) = x0 (ix3 0 ⟨768 + j.val, by omega⟩ l) := by
  exact congrArg x0 (emb_at 768 _ (by decide) j l)
theorem ld4 (x0 : Vec Ideal S1x4096x128 .f32) (j : Fin 256) (l : Fin 128) : (View.ld x0 r0_5 : Vec Ideal S1x256x128 .f32) (ix3 0 j l) = x0 (ix3 0 ⟨1024 + j.val, by omega⟩ l) := by
  exact congrArg x0 (emb_at 1024 _ (by decide) j l)
theorem ld5 (x0 : Vec Ideal S1x4096x128 .f32) (j : Fin 256) (l : Fin 128) : (View.ld x0 r0_6 : Vec Ideal S1x256x128 .f32) (ix3 0 j l) = x0 (ix3 0 ⟨1280 + j.val, by omega⟩ l) := by
  exact congrArg x0 (emb_at 1280 _ (by decide) j l)
theorem ld6 (x0 : Vec Ideal S1x4096x128 .f32) (j : Fin 256) (l : Fin 128) : (View.ld x0 r0_7 : Vec Ideal S1x256x128 .f32) (ix3 0 j l) = x0 (ix3 0 ⟨1536 + j.val, by omega⟩ l) := by
  exact congrArg x0 (emb_at 1536 _ (by decide) j l)
theorem ld7 (x0 : Vec Ideal S1x4096x128 .f32) (j : Fin 256) (l : Fin 128) : (View.ld x0 r0_8 : Vec Ideal S1x256x128 .f32) (ix3 0 j l) = x0 (ix3 0 ⟨1792 + j.val, by omega⟩ l) := by
  exact congrArg x0 (emb_at 1792 _ (by decide) j l)
theorem ld8 (x0 : Vec Ideal S1x4096x128 .f32) (j : Fin 256) (l : Fin 128) : (View.ld x0 r0_9 : Vec Ideal S1x256x128 .f32) (ix3 0 j l) = x0 (ix3 0 ⟨2048 + j.val, by omega⟩ l) := by
  exact congrArg x0 (emb_at 2048 _ (by decide) j l)
theorem ld9 (x0 : Vec Ideal S1x4096x128 .f32) (j : Fin 256) (l : Fin 128) : (View.ld x0 r0_10 : Vec Ideal S1x256x128 .f32) (ix3 0 j l) = x0 (ix3 0 ⟨2304 + j.val, by omega⟩ l) := by
  exact congrArg x0 (emb_at 2304 _ (by decide) j l)
theorem ld10 (x0 : Vec Ideal S1x4096x128 .f32) (j : Fin 256) (l : Fin 128) : (View.ld x0 r0_11 : Vec Ideal S1x256x128 .f32) (ix3 0 j l) = x0 (ix3 0 ⟨2560 + j.val, by omega⟩ l) := by
  exact congrArg x0 (emb_at 2560 _ (by decide) j l)
theorem ld11 (x0 : Vec Ideal S1x4096x128 .f32) (j : Fin 256) (l : Fin 128) : (View.ld x0 r0_12 : Vec Ideal S1x256x128 .f32) (ix3 0 j l) = x0 (ix3 0 ⟨2816 + j.val, by omega⟩ l) := by
  exact congrArg x0 (emb_at 2816 _ (by decide) j l)
theorem ld12 (x0 : Vec Ideal S1x4096x128 .f32) (j : Fin 256) (l : Fin 128) : (View.ld x0 r0_13 : Vec Ideal S1x256x128 .f32) (ix3 0 j l) = x0 (ix3 0 ⟨3072 + j.val, by omega⟩ l) := by
  exact congrArg x0 (emb_at 3072 _ (by decide) j l)
theorem ld13 (x0 : Vec Ideal S1x4096x128 .f32) (j : Fin 256) (l : Fin 128) : (View.ld x0 r0_14 : Vec Ideal S1x256x128 .f32) (ix3 0 j l) = x0 (ix3 0 ⟨3328 + j.val, by omega⟩ l) := by
  exact congrArg x0 (emb_at 3328 _ (by decide) j l)
theorem ld14 (x0 : Vec Ideal S1x4096x128 .f32) (j : Fin 256) (l : Fin 128) : (View.ld x0 r0_15 : Vec Ideal S1x256x128 .f32) (ix3 0 j l) = x0 (ix3 0 ⟨3584 + j.val, by omega⟩ l) := by
  exact congrArg x0 (emb_at 3584 _ (by decide) j l)
theorem ld15 (x0 : Vec Ideal S1x4096x128 .f32) (j : Fin 256) (l : Fin 128) : (View.ld x0 r0_16 : Vec Ideal S1x256x128 .f32) (ix3 0 j l) = x0 (ix3 0 ⟨3840 + j.val, by omega⟩ l) := by
  exact congrArg x0 (emb_at 3840 _ (by decide) j l)
include h in
theorem cs0_at (r : Fin 256) (l : Fin 128) : cs0 x0 x1 (ix2 r l) = ∑ j ∈ Finset.range (0 + r.val + 1), L l j :=
  csC_at _ _ _ l 0 (L l) (h.1 l) (gate h _ 0 (by decide) (ld0 x0) l) (zw) r
include h in
theorem cs1_at (r : Fin 256) (l : Fin 128) : cs1 x0 x1 (ix2 r l) = ∑ j ∈ Finset.range (256 + r.val + 1), L l j :=
  csC_at _ _ _ l 256 (L l) (h.1 l) (gate h _ 256 (by decide) (ld1 x0) l) ((lastC_at _ l).trans (cs0_at h 255 l)) r
include h in
theorem cs2_at (r : Fin 256) (l : Fin 128) : cs2 x0 x1 (ix2 r l) = ∑ j ∈ Finset.range (512 + r.val + 1), L l j :=
  csC_at _ _ _ l 512 (L l) (h.1 l) (gate h _ 512 (by decide) (ld2 x0) l) ((lastC_at _ l).trans (cs1_at h 255 l)) r
include h in
theorem cs3_at (r : Fin 256) (l : Fin 128) : cs3 x0 x1 (ix2 r l) = ∑ j ∈ Finset.range (768 + r.val + 1), L l j :=
  csC_at _ _ _ l 768 (L l) (h.1 l) (gate h _ 768 (by decide) (ld3 x0) l) ((lastC_at _ l).trans (cs2_at h 255 l)) r
include h in
theorem cs4_at (r : Fin 256) (l : Fin 128) : cs4 x0 x1 (ix2 r l) = ∑ j ∈ Finset.range (1024 + r.val + 1), L l j :=
  csC_at _ _ _ l 1024 (L l) (h.1 l) (gate h _ 1024 (by decide) (ld4 x0) l) ((lastC_at _ l).trans (cs3_at h 255 l)) r
include h in
theorem cs5_at (r : Fin 256) (l : Fin 128) : cs5 x0 x1 (ix2 r l) = ∑ j ∈ Finset.range (1280 + r.val + 1), L l j :=
  csC_at _ _ _ l 1280 (L l) (h.1 l) (gate h _ 1280 (by decide) (ld5 x0) l) ((lastC_at _ l).trans (cs4_at h 255 l)) r
include h in
theorem cs6_at (r : Fin 256) (l : Fin 128) : cs6 x0 x1 (ix2 r l) = ∑ j ∈ Finset.range (1536 + r.val + 1), L l j :=
  csC_at _ _ _ l 1536 (L l) (h.1 l) (gate h _ 1536 (by decide) (ld6 x0) l) ((lastC_at _ l).trans (cs5_at h 255 l)) r
include h in
theorem cs7_at (r : Fin 256) (l : Fin 128) : cs7 x0 x1 (ix2 r l) = ∑ j ∈ Finset.range (1792 + r.val + 1), L l j :=
  csC_at _ _ _ l 1792 (L l) (h.1 l) (gate h _ 1792 (by decide) (ld7 x0) l) ((lastC_at _ l).trans (cs6_at h 255 l)) r
include h in
theorem cs8_at (r : Fin 256) (l : Fin 128) : cs8 x0 x1 (ix2 r l) = ∑ j ∈ Finset.range (2048 + r.val + 1), L l j :=
  csC_at _ _ _ l 2048 (L l) (h.1 l) (gate h _ 2048 (by decide) (ld8 x0) l) ((lastC_at _ l).trans (cs7_at h 255 l)) r
include h in
theorem cs9_at (r : Fin 256) (l : Fin 128) : cs9 x0 x1 (ix2 r l) = ∑ j ∈ Finset.range (2304 + r.val + 1), L l j :=
  csC_at _ _ _ l 2304 (L l) (h.1 l) (gate h _ 2304 (by decide) (ld9 x0) l) ((lastC_at _ l).trans (cs8_at h 255 l)) r
include h in
theorem cs10_at (r : Fin 256) (l : Fin 128) : cs10 x0 x1 (ix2 r l) = ∑ j ∈ Finset.range (2560 + r.val + 1), L l j :=
  csC_at _ _ _ l 2560 (L l) (h.1 l) (gate h _ 2560 (by decide) (ld10 x0) l) ((lastC_at _ l).trans (cs9_at h 255 l)) r
include h in
theorem cs11_at (r : Fin 256) (l : Fin 128) : cs11 x0 x1 (ix2 r l) = ∑ j ∈ Finset.range (2816 + r.val + 1), L l j :=
  csC_at _ _ _ l 2816 (L l) (h.1 l) (gate h _ 2816 (by decide) (ld11 x0) l) ((lastC_at _ l).trans (cs10_at h 255 l)) r
include h in
theorem cs12_at (r : Fin 256) (l : Fin 128) : cs12 x0 x1 (ix2 r l) = ∑ j ∈ Finset.range (3072 + r.val + 1), L l j :=
  csC_at _ _ _ l 3072 (L l) (h.1 l) (gate h _ 3072 (by decide) (ld12 x0) l) ((lastC_at _ l).trans (cs11_at h 255 l)) r
include h in
theorem cs13_at (r : Fin 256) (l : Fin 128) : cs13 x0 x1 (ix2 r l) = ∑ j ∈ Finset.range (3328 + r.val + 1), L l j :=
  csC_at _ _ _ l 3328 (L l) (h.1 l) (gate h _ 3328 (by decide) (ld13 x0) l) ((lastC_at _ l).trans (cs12_at h 255 l)) r
include h in
theorem cs14_at (r : Fin 256) (l : Fin 128) : cs14 x0 x1 (ix2 r l) = ∑ j ∈ Finset.range (3584 + r.val + 1), L l j :=
  csC_at _ _ _ l 3584 (L l) (h.1 l) (gate h _ 3584 (by decide) (ld14 x0) l) ((lastC_at _ l).trans (cs13_at h 255 l)) r
include h in
theorem cs15_at (r : Fin 256) (l : Fin 128) : cs15 x0 x1 (ix2 r l) = ∑ j ∈ Finset.range (3840 + r.val + 1), L l j :=
  csC_at _ _ _ l 3840 (L l) (h.1 l) (gate h _ 3840 (by decide) (ld15 x0) l) ((lastC_at _ l).trans (cs14_at h 255 l)) r

/-- A block's running sums. -/
abbrev sumE (L : Fin 128 → ℕ → EReal) : Vec Ideal S1x4096x128 .f32 := fun y => (∑ j ∈ Finset.range ((y 1).val + 1), L (y 2) j : EReal)

include h in
theorem pc0 (x : r0_0.shape.Idx) : pcC (cs0 x0 x1) x = sumE L (r0_0.emb x) := by
  have ex : x = (ix3 0 (x 1) (x 2) : S1x256x128.Idx) := by blk_ext []
  have ee : r0_0.emb x = (ix3 0 ⟨0 + (x 1).val, by have := (x 1).isLt; change (x 1).val < 256 at this; omega⟩ (x 2) : S1x4096x128.Idx) :=
    (congrArg r0_0.emb ex).trans (emb_at 0 _ (by decide) (x 1) (x 2))
  rw [ee]
  exact (congrArg (pcC (cs0 x0 x1)) ex).trans ((pcC_at _ _ _).trans (cs0_at h (x 1) (x 2)))
include h in
theorem pc1 (x : r0_2.shape.Idx) : pcC (cs1 x0 x1) x = sumE L (r0_2.emb x) := by
  have ex : x = (ix3 0 (x 1) (x 2) : S1x256x128.Idx) := by blk_ext []
  have ee : r0_2.emb x = (ix3 0 ⟨256 + (x 1).val, by have := (x 1).isLt; change (x 1).val < 256 at this; omega⟩ (x 2) : S1x4096x128.Idx) :=
    (congrArg r0_2.emb ex).trans (emb_at 256 _ (by decide) (x 1) (x 2))
  rw [ee]
  exact (congrArg (pcC (cs1 x0 x1)) ex).trans ((pcC_at _ _ _).trans (cs1_at h (x 1) (x 2)))
include h in
theorem pc2 (x : r0_3.shape.Idx) : pcC (cs2 x0 x1) x = sumE L (r0_3.emb x) := by
  have ex : x = (ix3 0 (x 1) (x 2) : S1x256x128.Idx) := by blk_ext []
  have ee : r0_3.emb x = (ix3 0 ⟨512 + (x 1).val, by have := (x 1).isLt; change (x 1).val < 256 at this; omega⟩ (x 2) : S1x4096x128.Idx) :=
    (congrArg r0_3.emb ex).trans (emb_at 512 _ (by decide) (x 1) (x 2))
  rw [ee]
  exact (congrArg (pcC (cs2 x0 x1)) ex).trans ((pcC_at _ _ _).trans (cs2_at h (x 1) (x 2)))
include h in
theorem pc3 (x : r0_4.shape.Idx) : pcC (cs3 x0 x1) x = sumE L (r0_4.emb x) := by
  have ex : x = (ix3 0 (x 1) (x 2) : S1x256x128.Idx) := by blk_ext []
  have ee : r0_4.emb x = (ix3 0 ⟨768 + (x 1).val, by have := (x 1).isLt; change (x 1).val < 256 at this; omega⟩ (x 2) : S1x4096x128.Idx) :=
    (congrArg r0_4.emb ex).trans (emb_at 768 _ (by decide) (x 1) (x 2))
  rw [ee]
  exact (congrArg (pcC (cs3 x0 x1)) ex).trans ((pcC_at _ _ _).trans (cs3_at h (x 1) (x 2)))
include h in
theorem pc4 (x : r0_5.shape.Idx) : pcC (cs4 x0 x1) x = sumE L (r0_5.emb x) := by
  have ex : x = (ix3 0 (x 1) (x 2) : S1x256x128.Idx) := by blk_ext []
  have ee : r0_5.emb x = (ix3 0 ⟨1024 + (x 1).val, by have := (x 1).isLt; change (x 1).val < 256 at this; omega⟩ (x 2) : S1x4096x128.Idx) :=
    (congrArg r0_5.emb ex).trans (emb_at 1024 _ (by decide) (x 1) (x 2))
  rw [ee]
  exact (congrArg (pcC (cs4 x0 x1)) ex).trans ((pcC_at _ _ _).trans (cs4_at h (x 1) (x 2)))
include h in
theorem pc5 (x : r0_6.shape.Idx) : pcC (cs5 x0 x1) x = sumE L (r0_6.emb x) := by
  have ex : x = (ix3 0 (x 1) (x 2) : S1x256x128.Idx) := by blk_ext []
  have ee : r0_6.emb x = (ix3 0 ⟨1280 + (x 1).val, by have := (x 1).isLt; change (x 1).val < 256 at this; omega⟩ (x 2) : S1x4096x128.Idx) :=
    (congrArg r0_6.emb ex).trans (emb_at 1280 _ (by decide) (x 1) (x 2))
  rw [ee]
  exact (congrArg (pcC (cs5 x0 x1)) ex).trans ((pcC_at _ _ _).trans (cs5_at h (x 1) (x 2)))
include h in
theorem pc6 (x : r0_7.shape.Idx) : pcC (cs6 x0 x1) x = sumE L (r0_7.emb x) := by
  have ex : x = (ix3 0 (x 1) (x 2) : S1x256x128.Idx) := by blk_ext []
  have ee : r0_7.emb x = (ix3 0 ⟨1536 + (x 1).val, by have := (x 1).isLt; change (x 1).val < 256 at this; omega⟩ (x 2) : S1x4096x128.Idx) :=
    (congrArg r0_7.emb ex).trans (emb_at 1536 _ (by decide) (x 1) (x 2))
  rw [ee]
  exact (congrArg (pcC (cs6 x0 x1)) ex).trans ((pcC_at _ _ _).trans (cs6_at h (x 1) (x 2)))
include h in
theorem pc7 (x : r0_8.shape.Idx) : pcC (cs7 x0 x1) x = sumE L (r0_8.emb x) := by
  have ex : x = (ix3 0 (x 1) (x 2) : S1x256x128.Idx) := by blk_ext []
  have ee : r0_8.emb x = (ix3 0 ⟨1792 + (x 1).val, by have := (x 1).isLt; change (x 1).val < 256 at this; omega⟩ (x 2) : S1x4096x128.Idx) :=
    (congrArg r0_8.emb ex).trans (emb_at 1792 _ (by decide) (x 1) (x 2))
  rw [ee]
  exact (congrArg (pcC (cs7 x0 x1)) ex).trans ((pcC_at _ _ _).trans (cs7_at h (x 1) (x 2)))
include h in
theorem pc8 (x : r0_9.shape.Idx) : pcC (cs8 x0 x1) x = sumE L (r0_9.emb x) := by
  have ex : x = (ix3 0 (x 1) (x 2) : S1x256x128.Idx) := by blk_ext []
  have ee : r0_9.emb x = (ix3 0 ⟨2048 + (x 1).val, by have := (x 1).isLt; change (x 1).val < 256 at this; omega⟩ (x 2) : S1x4096x128.Idx) :=
    (congrArg r0_9.emb ex).trans (emb_at 2048 _ (by decide) (x 1) (x 2))
  rw [ee]
  exact (congrArg (pcC (cs8 x0 x1)) ex).trans ((pcC_at _ _ _).trans (cs8_at h (x 1) (x 2)))
include h in
theorem pc9 (x : r0_10.shape.Idx) : pcC (cs9 x0 x1) x = sumE L (r0_10.emb x) := by
  have ex : x = (ix3 0 (x 1) (x 2) : S1x256x128.Idx) := by blk_ext []
  have ee : r0_10.emb x = (ix3 0 ⟨2304 + (x 1).val, by have := (x 1).isLt; change (x 1).val < 256 at this; omega⟩ (x 2) : S1x4096x128.Idx) :=
    (congrArg r0_10.emb ex).trans (emb_at 2304 _ (by decide) (x 1) (x 2))
  rw [ee]
  exact (congrArg (pcC (cs9 x0 x1)) ex).trans ((pcC_at _ _ _).trans (cs9_at h (x 1) (x 2)))
include h in
theorem pc10 (x : r0_11.shape.Idx) : pcC (cs10 x0 x1) x = sumE L (r0_11.emb x) := by
  have ex : x = (ix3 0 (x 1) (x 2) : S1x256x128.Idx) := by blk_ext []
  have ee : r0_11.emb x = (ix3 0 ⟨2560 + (x 1).val, by have := (x 1).isLt; change (x 1).val < 256 at this; omega⟩ (x 2) : S1x4096x128.Idx) :=
    (congrArg r0_11.emb ex).trans (emb_at 2560 _ (by decide) (x 1) (x 2))
  rw [ee]
  exact (congrArg (pcC (cs10 x0 x1)) ex).trans ((pcC_at _ _ _).trans (cs10_at h (x 1) (x 2)))
include h in
theorem pc11 (x : r0_12.shape.Idx) : pcC (cs11 x0 x1) x = sumE L (r0_12.emb x) := by
  have ex : x = (ix3 0 (x 1) (x 2) : S1x256x128.Idx) := by blk_ext []
  have ee : r0_12.emb x = (ix3 0 ⟨2816 + (x 1).val, by have := (x 1).isLt; change (x 1).val < 256 at this; omega⟩ (x 2) : S1x4096x128.Idx) :=
    (congrArg r0_12.emb ex).trans (emb_at 2816 _ (by decide) (x 1) (x 2))
  rw [ee]
  exact (congrArg (pcC (cs11 x0 x1)) ex).trans ((pcC_at _ _ _).trans (cs11_at h (x 1) (x 2)))
include h in
theorem pc12 (x : r0_13.shape.Idx) : pcC (cs12 x0 x1) x = sumE L (r0_13.emb x) := by
  have ex : x = (ix3 0 (x 1) (x 2) : S1x256x128.Idx) := by blk_ext []
  have ee : r0_13.emb x = (ix3 0 ⟨3072 + (x 1).val, by have := (x 1).isLt; change (x 1).val < 256 at this; omega⟩ (x 2) : S1x4096x128.Idx) :=
    (congrArg r0_13.emb ex).trans (emb_at 3072 _ (by decide) (x 1) (x 2))
  rw [ee]
  exact (congrArg (pcC (cs12 x0 x1)) ex).trans ((pcC_at _ _ _).trans (cs12_at h (x 1) (x 2)))
include h in
theorem pc13 (x : r0_14.shape.Idx) : pcC (cs13 x0 x1) x = sumE L (r0_14.emb x) := by
  have ex : x = (ix3 0 (x 1) (x 2) : S1x256x128.Idx) := by blk_ext []
  have ee : r0_14.emb x = (ix3 0 ⟨3328 + (x 1).val, by have := (x 1).isLt; change (x 1).val < 256 at this; omega⟩ (x 2) : S1x4096x128.Idx) :=
    (congrArg r0_14.emb ex).trans (emb_at 3328 _ (by decide) (x 1) (x 2))
  rw [ee]
  exact (congrArg (pcC (cs13 x0 x1)) ex).trans ((pcC_at _ _ _).trans (cs13_at h (x 1) (x 2)))
include h in
theorem pc14 (x : r0_15.shape.Idx) : pcC (cs14 x0 x1) x = sumE L (r0_15.emb x) := by
  have ex : x = (ix3 0 (x 1) (x 2) : S1x256x128.Idx) := by blk_ext []
  have ee : r0_15.emb x = (ix3 0 ⟨3584 + (x 1).val, by have := (x 1).isLt; change (x 1).val < 256 at this; omega⟩ (x 2) : S1x4096x128.Idx) :=
    (congrArg r0_15.emb ex).trans (emb_at 3584 _ (by decide) (x 1) (x 2))
  rw [ee]
  exact (congrArg (pcC (cs14 x0 x1)) ex).trans ((pcC_at _ _ _).trans (cs14_at h (x 1) (x 2)))
include h in
theorem pc15 (x : r0_16.shape.Idx) : pcC (cs15 x0 x1) x = sumE L (r0_16.emb x) := by
  have ex : x = (ix3 0 (x 1) (x 2) : S1x256x128.Idx) := by blk_ext []
  have ee : r0_16.emb x = (ix3 0 ⟨3840 + (x 1).val, by have := (x 1).isLt; change (x 1).val < 256 at this; omega⟩ (x 2) : S1x4096x128.Idx) :=
    (congrArg r0_16.emb ex).trans (emb_at 3840 _ (by decide) (x 1) (x 2))
  rw [ee]
  exact (congrArg (pcC (cs15 x0 x1)) ex).trans ((pcC_at _ _ _).trans (cs15_at h (x 1) (x 2)))

include h in
theorem out_at (y : S1x4096x128.Idx) : out0_2 x0 x1 y = sumE L y := by
  rw [out_eq]
  refine View.canon_apply_of_pieces (sumE L) _ ?_ y (View.cover_of_tiled_head _ _ _ (by rfl) y)
  refine List.forall_mem_cons.2 ⟨pc15 h, List.forall_mem_cons.2 ⟨pc14 h, List.forall_mem_cons.2 ⟨pc13 h, List.forall_mem_cons.2 ⟨pc12 h, List.forall_mem_cons.2 ⟨pc11 h, List.forall_mem_cons.2 ⟨pc10 h, List.forall_mem_cons.2 ⟨pc9 h, List.forall_mem_cons.2 ⟨pc8 h, List.forall_mem_cons.2 ⟨pc7 h, List.forall_mem_cons.2 ⟨pc6 h, List.forall_mem_cons.2 ⟨pc5 h, List.forall_mem_cons.2 ⟨pc4 h, List.forall_mem_cons.2 ⟨pc3 h, List.forall_mem_cons.2 ⟨pc2 h, List.forall_mem_cons.2 ⟨pc1 h, List.forall_mem_cons.2 ⟨pc0 h, fun p hp => absurd hp List.not_mem_nil⟩⟩⟩⟩⟩⟩⟩⟩⟩⟩⟩⟩⟩⟩⟩⟩
end

section
variable {F : FTy → Type} [FloatOps F]

/-- The offsets' first row, to the columns' number. -/
def offK (o : FVec F S2x32 .f32) : FVec F S1x128 .f32 :=
  shapeCast S1x128 (shapeCast S128 (extractStridedSlice S1x128 ![0, 0] (pad S2x128 ![0, 0] ![0, 96] ![0, 0] o (sitofp .f32 (constantI S_ 32 0#32)) pads_S2x32_S2x128_000_0960 h_S_)
    slices_S2x128_S1x128_0_0) shapeCasts_S1x128_S128) shapeCasts_S128_S1x128

set_option maxHeartbeats 2000000 in
theorem v3_eq (m : (ℓ : Loc nD τ sig) → Buf (Elt F) ℓ) (c : Dev nD) : V m c main_v3 = offK (F := F) (m ((c : Thread nD τ).loc main_arg1)) := by
  simp only [V, hostOps0, hostOps0_1, hostOps0_2, List.flatten_cons, List.flatten_nil, List.append_nil, List.cons_append, List.nil_append]
  after_results
  rfl
end

theorem offK_at (o : FVec Ideal S2x32 .f32) (l : Fin 128) :
    offK o (ix2 0 l) = (if h : l.val < 32 then o (ix2 0 ⟨l.val, h⟩) else (0 : EReal)) := by
  have e : (FloatOps.sitofp (F := Ideal) FTy.f32 (0#32 : BitVec 32) : EReal) = 0 := by
    show (((0#32 : BitVec 32).toInt : ℝ) : EReal) = 0
    simp
  pointwise [offK]
  rw [e]

/-- The windows' blocks: the batch's, the offsets' row. -/
theorem idx : ∀ t : Fin cfg0.N,
    win0_0.index t = ![(grid0.coords t 0).val, 0, 0]
    ∧ win0_1.index t = ![0, 0]
    ∧ win0_2.index t = ![(grid0.coords t 0).val, 0, 0] :=
  (by decide +kernel : ∀ t : Fin grid0.N, _)

/-- A point's batch. -/
abbrev bI (t : Fin cfg0.N) : Fin 2 := ⟨(grid0.coords t 0).val, (grid0.coords t 0).isLt⟩

section
variable (m : (ℓ : Loc nD τ sig) → Buf (Elt Ideal) ℓ) (c : Dev nD) (t : Fin cfg0.N)

/-- The arguments. -/
abbrev Fa : FVec Ideal S2x4096x128 .f32 := m ((c : Thread nD τ).loc main_arg0)
abbrev Ba : FVec Ideal S2x32 .f32 := m ((c : Thread nD τ).loc main_arg1)

theorem x0_at (s : Fin 4096) (l : Fin 128) :
    (show FVec Ideal S1x4096x128 .f32 from iblk m c 0 t) (ix3 0 s l) = Fa m c (ix3 (bI t) s l) := by
  have e : (show FVec Ideal S1x4096x128 .f32 from iblk m c 0 t) (ix3 0 s l)
      = (show FVec Ideal S2x4096x128 .f32 from V m c main_arg0) (ix3 (bI t) s l) := by
    have h0 : (grid0.coords t 0).val = (bI t).val := rfl
    blk_ext [iblk, idx t] <;> omega
  rw [e, V_main_arg0]

theorem x1_at (l : Fin 128) :
    (show FVec Ideal S1x128 .f32 from iblk m c 1 t) (ix2 0 l) = offK (Ba m c) (ix2 0 l) := by
  have e : (show FVec Ideal S1x128 .f32 from iblk m c 1 t) (ix2 0 l)
      = (show FVec Ideal S1x128 .f32 from V m c main_v3) (ix2 0 l) := by
    blk_ext [iblk, idx t] <;> omega
  rw [e, v3_eq]

/-- The running sums of both batches. -/
abbrev sumA (L : Fin 2 → Fin 128 → ℕ → EReal) : FVec Ideal S2x4096x128 .f32 :=
  fun y => (∑ j ∈ Finset.range ((y 1).val + 1), L (y 0) (y 2) j : EReal)

theorem arr_eq (L : Fin 2 → Fin 128 → ℕ → EReal)
    (hL : ∀ b l j, L b l j ≠ ⊤)
    (h : ∀ (b : Fin 2) (s : Fin 4096) (l : Fin 128), L b l s.val = lsE (Fa m c (ix3 b s l) + offK (Ba m c) (ix2 0 l))) :
    (dats m 0 c).arrAt 2 cfg0.N = sumA L := by
  have hg : ∀ t : Fin cfg0.N, Gates (iblk m c 0 t) (iblk m c 1 t) (L (bI t)) := fun t =>
    ⟨hL (bI t), fun s l => (h (bI t) s l).trans (congrArg lsE (congrArg₂ (· + ·) (x0_at m c t s l) (x1_at m c t l)).symm)⟩
  have hp := fun t => out_at (hg t)
  refine (dats m 0 c).arrAt_eq_of_covers 2 _ (by decide +kernel) fun t _ y => ?_
  blk_simp
  rw [after0_2]
  have h0 : (grid0.coords t 0).val = (bI t).val := rfl
  have ee : (win0_2.blk t).view.emb y = ix3 (bI t) (y 1) (y 2) := by
    blk_ext [idx t] <;> omega
  rw [ee]
  exact hp t y
end

end Cert.Kernel4Ideal.Decay
-- ==== Proof.DecayRef.lean ====
/-
  The running sum's reference at an index: the sum, up to the row, of the gates' logarithms.
-/
module

public import proofs.«01_k».proof.Proof.Gen.Reference4Ideal.Run
public import proofs.«01_k».proof.Proof.DecayRow
public import Idealize.ShloMosaic.Lib.Routing.OpsOne
public import Idealize.ShloMosaic.Lib.Pointwise
public import Idealize.ShloMosaic.Lib.Claim

@[expose] public section

set_option maxRecDepth 16384

noncomputable section

namespace Cert.Reference4Ideal.Decay

open Idealize.ShloMosaic Idealize.ShloMosaic.TcCoe Idealize.SL.Sem
open Cert.Reference4Ideal Cert.Reference4Ideal.Gen Cert.Reference4Ideal.Value
open Cert.Kernel4Ideal.Decay (lsE zw)

section
variable {F : FTy → Type} [FloatOps F]

/-- The offsets' first row, to the columns' number. -/
def offR (o : FVec F S2x32 .f32) : FVec F S1x128 .f32 :=
  extractStridedSlice S1x128 ![0, 0] (pad S2x128 ![0, 0] ![0, 96] ![0, 0] o (sitofp .f32 (constantI S_ 32 0#32)) pads_S2x32_S2x128_000_0960 h_S_) slices_S2x128_S1x128_0_0

/-- The negated logits. -/
def ngR (f : FVec F S2x4096x128 .f32) (o : FVec F S1x128 .f32) : FVec F S2x4096x128 .f32 :=
  Host.negf (addf f (broadcastInDim S2x4096x128 ![0, 1, 2] bcast_S1x1x128_S2x4096x128_0_1_2 (broadcastInDim S1x1x128 ![2] bcast_S128_S1x1x128_2 (shapeCast _ o shapeCasts_S1x128_S128))))

/-- A word at every index. -/
abbrev zR : FVec F S2x4096x128 .f32 := broadcastInDim S2x4096x128 ![] bcast_S_S2x4096x128 (constant S_ .f32 0x00000000#32)

/-- The gates' logarithms, from the negated logits. -/
def lgR (n : FVec F S2x4096x128 .f32) : FVec F S2x4096x128 .f32 :=
  Host.negf (select (cmpf .une (subf n zR) (subf n zR)) (addf n zR) (addf (maximumf n zR) (Host.log1p (Host.exp (Host.negf (Host.absf (subf n zR)))))))

/-- The running sums along the rows. -/
def cumR (x : FVec F S2x4096x128 .f32) : FVec F S2x4096x128 .f32 :=
  Host.reduceWindowAdd ![1, 4096, 1] ![1, 1, 1] ![0, 4095, 0] ![0, 0, 0] x (broadcastInDim S_ ![] bcast_S_S_ (constant S_ .f32 0x00000000#32))
    reduceWindows_S2x4096x128_S2x4096x128_w1s1p0_0_w4096s1p4095_0_w1s1p0_0 h_S_

/-- The run, its result named. -/
theorem run' (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7) = cumR (lgR (ngR (m ((c.tc : Thread nD τ).loc main_arg0)) (offR (m ((c.tc : Thread nD τ).loc main_arg1)))))
      ∧ r.2.mem ((c.tc : Thread nD τ).loc main_arg0) = m ((c.tc : Thread nD τ).loc main_arg0)
      ∧ r.2.mem ((c.tc : Thread nD τ).loc main_arg1) = m ((c.tc : Thread nD τ).loc main_arg1) := run m ρ
end

theorem offR_at (o : FVec Ideal S2x32 .f32) (l : Fin 128) :
    offR o (ix2 0 l) = (if h : l.val < 32 then o (ix2 0 ⟨l.val, h⟩) else (0 : EReal)) := by
  have e : (FloatOps.sitofp (F := Ideal) FTy.f32 (0#32 : BitVec 32) : EReal) = 0 := by
    show (((0#32 : BitVec 32).toInt : ℝ) : EReal) = 0
    simp
  pointwise [offR]
  rw [e]

theorem ngR_at (f : FVec Ideal S2x4096x128 .f32) (o : FVec Ideal S1x128 .f32) (b : Fin 2) (s : Fin 4096) (l : Fin 128) :
    ngR f o (ix3 b s l) = (-(f (ix3 b s l) + o (ix2 0 l)) : EReal) := by
  pointwise [ngR]

theorem lgR_at (n : FVec Ideal S2x4096x128 .f32) (b : Fin 2) (s : Fin 4096) (l : Fin 128) (x : EReal) (hx : n (ix3 b s l) = (-x : EReal)) :
    lgR n (ix3 b s l) = lsE x := by
  unfold lsE
  show (-(Scalar.select (Ideal.cmp .une (n (ix3 b s l) - Ideal.ofBits FTy.f32 0x00000000#32) (n (ix3 b s l) - Ideal.ofBits FTy.f32 0x00000000#32))
    (n (ix3 b s l) + Ideal.ofBits FTy.f32 0x00000000#32) (max (n (ix3 b s l)) (Ideal.ofBits FTy.f32 0x00000000#32)
      + Ideal.log1p (Ideal.exp (-(max (n (ix3 b s l) - Ideal.ofBits FTy.f32 0x00000000#32) (-(n (ix3 b s l) - Ideal.ofBits FTy.f32 0x00000000#32))))))) : EReal) = _
  rw [zw, hx, sub_zero]
  simp [Scalar.select, Ideal.cmp]

/-- A fold of sums. -/
theorem foldl_add {ι : Type} (l : List ι) (g f : ι → EReal) (hg : ∀ a ∈ l, g a = f a) (z : EReal) :
    l.foldl (fun r a => r + g a) z = z + (l.map f).sum := by
  induction l generalizing z with
  | nil => simp
  | cons a l ih =>
    rw [List.foldl_cons, ih (fun b hb => hg b (List.mem_cons_of_mem _ hb)), hg a List.mem_cons_self, List.map_cons, List.sum_cons, add_assoc]

theorem numel_w : (⟨3, ![1, 4096, 1]⟩ : Shape).numel = 4096 := by decide +kernel

theorem symm_w (n : Fin (⟨3, ![1, 4096, 1]⟩ : Shape).numel) :
    (⟨3, ![1, 4096, 1]⟩ : Shape).rowMajor.symm n = ix3 (0 : Fin 1) (n.cast numel_w) (0 : Fin 1) := by
  rw [Equiv.symm_apply_eq]
  refine Fin.ext ?_
  rw [Shape.rowMajor_val_three]
  show n.val = _
  simp [ix3]

/-- The window's positions before the row are padding. -/
theorem sum_win (f : ℕ → EReal) (j : ℕ) (hj : j ≤ 4095) :
    ((List.range 4096).map fun w => if 4095 ≤ j + w then f (j + w - 4095) else 0).sum = ∑ i ∈ Finset.range (j + 1), f i := by
  have e : ∀ (g : ℕ → EReal) (M : ℕ), ((List.range M).map g).sum = ∑ w ∈ Finset.range M, g w := fun _ _ => rfl
  rw [e, show 4096 = (4095 - j) + (j + 1) by omega, Finset.sum_range_add, Finset.sum_eq_zero, zero_add]
  · refine Finset.sum_congr rfl fun i hi => ?_
    rw [if_pos (by omega)]
    exact congrArg f (by omega)
  · intro w hw
    rw [Finset.mem_range] at hw
    rw [if_neg (by omega)]

theorem cumR_at (x : FVec Ideal S2x4096x128 .f32) (b : Fin 2) (s : Fin 4096) (l : Fin 128) (L : ℕ → EReal)
    (hx : ∀ i : Fin 4096, x (ix3 b i l) = L i.val) :
    cumR x (ix3 b s l) = ∑ i ∈ Finset.range (s.val + 1), L i := by
  have hs := s.isLt
  have hb := b.isLt
  have hl := l.isLt
  unfold cumR Host.reduceWindowAdd
  generalize hi : (broadcastInDim S_ ![] bcast_S_S_ (constant (F := Ideal) S_ .f32 0x00000000#32)) (Shape.Idx.first h_S_) = z
  have hv : z = (0 : EReal) := hi.symm.trans zw
  clear hi
  subst hv
  rw [Ideal.hostReduceWindowAdd_def]
  unfold Ideal.hostReduceWindowAdd
  unfold Host.reduceWindow
  refine (foldl_add _ _ (fun n => if 4095 ≤ s.val + n.val then L (s.val + n.val - 4095) else 0) (fun n _ => ?_) 0).trans ?_
  · have hw0 : ((⟨3, ![1, 4096, 1]⟩ : Shape).rowMajor.symm n 0).val = 0 := by rw [symm_w]; rfl
    have hw1 : ((⟨3, ![1, 4096, 1]⟩ : Shape).rowMajor.symm n 1).val = n.val := by rw [symm_w]; rfl
    have hw2 : ((⟨3, ![1, 4096, 1]⟩ : Shape).rowMajor.symm n 2).val = 0 := by rw [symm_w]; rfl
    have hn : n.val < 4096 := (n.cast numel_w).isLt
    dsimp only
    split
    · next hin =>
      have h1 := hin 1
      change 4095 ≤ s.val * 1 + ((⟨3, ![1, 4096, 1]⟩ : Shape).rowMajor.symm n 1).val
        ∧ s.val * 1 + ((⟨3, ![1, 4096, 1]⟩ : Shape).rowMajor.symm n 1).val - 4095 < 4096 at h1
      rw [hw1] at h1
      rw [if_pos (by omega)]
      refine (congrArg x (funext fun a => Fin.ext ?_)).trans (hx ⟨s.val + n.val - 4095, by omega⟩)
      match a with
      | ⟨0, _⟩ =>
        show b.val * 1 + ((⟨3, ![1, 4096, 1]⟩ : Shape).rowMajor.symm n 0).val - 0 = b.val
        rw [hw0]; omega
      | ⟨1, _⟩ =>
        show s.val * 1 + ((⟨3, ![1, 4096, 1]⟩ : Shape).rowMajor.symm n 1).val - 4095 = s.val + n.val - 4095
        rw [hw1, Nat.mul_one]
      | ⟨2, _⟩ =>
        show l.val * 1 + ((⟨3, ![1, 4096, 1]⟩ : Shape).rowMajor.symm n 2).val - 0 = l.val
        rw [hw2]; omega
    · next hin =>
      rw [if_neg fun hle => hin fun a => by
        match a with
        | ⟨0, _⟩ =>
          show 0 ≤ b.val * 1 + ((⟨3, ![1, 4096, 1]⟩ : Shape).rowMajor.symm n 0).val ∧ b.val * 1 + ((⟨3, ![1, 4096, 1]⟩ : Shape).rowMajor.symm n 0).val - 0 < 2
          rw [hw0]; omega
        | ⟨1, _⟩ =>
          show 4095 ≤ s.val * 1 + ((⟨3, ![1, 4096, 1]⟩ : Shape).rowMajor.symm n 1).val
            ∧ s.val * 1 + ((⟨3, ![1, 4096, 1]⟩ : Shape).rowMajor.symm n 1).val - 4095 < 4096
          rw [hw1]; omega
        | ⟨2, _⟩ =>
          show 0 ≤ l.val * 1 + ((⟨3, ![1, 4096, 1]⟩ : Shape).rowMajor.symm n 2).val ∧ l.val * 1 + ((⟨3, ![1, 4096, 1]⟩ : Shape).rowMajor.symm n 2).val - 0 < 128
          rw [hw2]; omega]
  · rw [zero_add, Routing.map_finRange_val _ (fun w => if 4095 ≤ s.val + w then L (s.val + w - 4095) else 0)]
    exact ((congrArg (fun M => ((List.range M).map fun w => if 4095 ≤ s.val + w then L (s.val + w - 4095) else 0).sum) numel_w).trans
      (sum_win L s.val (by omega)))

end Cert.Reference4Ideal.Decay
-- ==== Proof.DecayJoin.lean ====
/-
  The gates' running sum and its reference end with equal results.
-/
module

public import proofs.«01_k».proof.Defs
public import proofs.«01_k».proof.Proof.DecayValue
public import proofs.«01_k».proof.Proof.DecayRef
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Kernel4Ideal.Decay

open Idealize.ShloMosaic Idealize.ShloMosaic.TcCoe Idealize.SL.Sem

theorem ref_quiescent (m : (ℓ : Loc Cert.Reference4Ideal.nD Cert.Reference4Ideal.τ Cert.Reference4Ideal.sig) → Buf (Elt Ideal) ℓ)
    (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0) :=
  (θ_run _ _ _).mono (fun r h => ⟨fun c => (h c).2, sem_eq_zero_of_no_sems (by decide) r.2⟩) (Cert.Reference4Ideal.Decay.run' m g)

/-- The reference's array. -/
theorem ref_eq (f : FVec Ideal Cert.Reference4Ideal.S2x4096x128 .f32) (o : FVec Ideal Cert.Reference4Ideal.S2x32 .f32) (L : Fin 2 → Fin 128 → ℕ → EReal)
    (h : ∀ (b : Fin 2) (s : Fin 4096) (l : Fin 128), L b l s.val = lsE (f (ix3 b s l) + Cert.Reference4Ideal.Decay.offR o (ix2 0 l))) :
    Cert.Reference4Ideal.Decay.cumR (Cert.Reference4Ideal.Decay.lgR (Cert.Reference4Ideal.Decay.ngR f (Cert.Reference4Ideal.Decay.offR o))) = sumA L := by
  funext y
  rw [eq_ix3 y]
  refine Cert.Reference4Ideal.Decay.cumR_at _ (y 0) (y 1) (y 2) (L (y 0) (y 2)) fun i => ?_
  exact (Cert.Reference4Ideal.Decay.lgR_at _ _ _ _ _ (Cert.Reference4Ideal.Decay.ngR_at f (Cert.Reference4Ideal.Decay.offR o) (y 0) i (y 2))).trans (h (y 0) i (y 2)).symm

theorem algebraic : Cert.algebraic_Kernel4Ideal_Reference4Ideal := by
  intro m g m' g' _ hagree
  refine ⟨fun c => (Cert.Kernel4Ideal.Gen.dats m 0 c).arrAt 2 Cert.Kernel4Ideal.cfg0.N, Cert.Kernel4Ideal.Value.run_blocks m g, ?_⟩
  refine (θ_run _ _ _).mono (fun r h c => ⟨(h c).1.trans ?_, (h c).2⟩) (Cert.Reference4Ideal.Decay.run' m' g')
  obtain ⟨h0, h1⟩ := hagree c
  let L : Fin 2 → Fin 128 → ℕ → EReal := fun b l s => if h : s < 4096 then lsE (Fa m c (ix3 b ⟨s, h⟩ l) + offK (Ba m c) (ix2 0 l)) else 0
  have ht : ∀ b l j, L b l j ≠ ⊤ := fun b l j => by
    show (if h : j < 4096 then lsE (Fa m c (ix3 b ⟨j, h⟩ l) + offK (Ba m c) (ix2 0 l)) else (0 : EReal)) ≠ ⊤
    split
    · exact lsE_ne_top _
    · exact EReal.zero_ne_top
  have hq' : Cert.Reference4Ideal.Decay.offR (Ba m c) = offK (Ba m c) := by
    funext y
    have ey : y = (ix2 0 (y 1) : Cert.Reference4Ideal.S1x128.Idx) := by blk_ext []
    rw [ey]
    exact (Cert.Reference4Ideal.Decay.offR_at _ _).trans (offK_at _ _).symm
  have hL : ∀ (b : Fin 2) (s : Fin 4096) (l : Fin 128), L b l s.val = lsE (Fa m c (ix3 b s l) + offK (Ba m c) (ix2 0 l)) :=
    fun b s l => dif_pos s.isLt
  refine Eq.trans ?_ (arr_eq m c L ht hL).symm
  rw [h0, h1]
  refine ref_eq (Fa m c) (Ba m c) L fun b s l => ?_
  rw [hq']
  exact hL b s l

end Cert.Kernel4Ideal.Decay
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Reference2Ideal.Run
public import proofs.«01_k».proof.Proof.Gen.Kernel2Ideal.Launch
public import proofs.«01_k».proof.Proof.Gen.Kernel2Ideal.Skeleton
public import proofs.«01_k».proof.Proof.Gen.Kernel2Ideal.Points
public import proofs.«01_k».proof.Proof.Gen.Kernel2.Launch
public import proofs.«01_k».proof.Proof.Gen.Reference3Ideal.Run
public import proofs.«01_k».proof.Proof.Gen.Kernel3Ideal.Launch
public import proofs.«01_k».proof.Proof.Gen.Kernel3Ideal.Skeleton
public import proofs.«01_k».proof.Proof.Gen.Kernel3Ideal.Points
public import proofs.«01_k».proof.Proof.Gen.Kernel3.Launch
public import proofs.«01_k».proof.Proof.Gen.Reference4Ideal.Run
public import proofs.«01_k».proof.Proof.Gen.Kernel4Ideal.Frame
public import proofs.«01_k».proof.Proof.Gen.Kernel4Ideal.Value
public import proofs.«01_k».proof.Proof.Gen.Kernel4.Frame
public import proofs.«01_k».proof.Proof.FiniteFacts
public import proofs.«01_k».proof.Proof.Join
public import proofs.«01_k».proof.Proof.ProjSame
public import proofs.«01_k».proof.Proof.ProjJoin
public import proofs.«01_k».proof.Proof.OutSame
public import proofs.«01_k».proof.Proof.OutJoin
public import proofs.«01_k».proof.Proof.DecayJoin
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.SL.Sem

theorem ref_quiescent (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2, sem_eq_zero_of_no_sems (by decide) r.2⟩) (Cert.ReferenceIdeal.Value.run m g)

theorem algebraic : Cert.algebraic_KernelIdeal_ReferenceIdeal_pre_finite := by
  intro m g m' g' hpre hagree
  refine ⟨fun c => (Cert.KernelIdeal.Gen.dats m 0 c).arrAt 5 Cert.KernelIdeal.cfg0.N, Cert.KernelIdeal.Value.run_blocks m g, ?_⟩
  refine (θ_run _ _ _).mono (fun r h c => ⟨(h c).1.trans ?_, (h c).2⟩) (Cert.ReferenceIdeal.Value.run m' g')
  obtain ⟨h0, h1, h2, h3⟩ := hagree c
  obtain ⟨qr, kr, gr, hq, hk, hg⟩ := Cert.Pre_finite.Att.reals _ _ _ _ (hpre c)
  refine Eq.trans ?_ (Cert.KernelIdeal.Att.arr_eq m c qr kr gr hq hk hg).symm
  refine (Cert.ReferenceIdeal.Att.res_eqM m' c (Cert.ReferenceIdeal.Att.lgR (Cert.KernelIdeal.Att.Q m c) (Cert.KernelIdeal.Att.K m c) (Cert.KernelIdeal.Att.C m c))
    ((Cert.ReferenceIdeal.Att.lgM_eq m' c).trans ?_)).trans ?_
  · rw [h0, h1, h3]
  · rw [Cert.ReferenceIdeal.Att.outM_eq, h2]

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_finite.Att.facts, Cert.Pre_finite2.Proj.facts,
    fun m ρ _ => Cert.Kernel.Gen.frame m ρ, fun m ρ _ => Cert.KernelIdeal.Gen.frame m ρ, fun m ρ _ => Cert.KernelIdeal.Gen.frame m ρ,
    fun m ρ _ => ref_quiescent m ρ, fun m ρ _ => ref_quiescent m ρ,
    Cert.Kernel2.Proj.frame, fun m ρ _ => Cert.Kernel2Ideal.Proj.frame m ρ, fun m ρ _ => Cert.Kernel2Ideal.Proj.frame m ρ,
    fun m ρ _ => Cert.Kernel2Ideal.Proj.ref_quiescent m ρ, fun m ρ _ => Cert.Kernel2Ideal.Proj.ref_quiescent m ρ,
    Cert.Kernel3.Out.frame, fun m ρ _ => Cert.Kernel3Ideal.Out.frame m ρ, fun m ρ _ => Cert.Kernel3Ideal.Out.ref_quiescent m ρ,
    fun m ρ _ => Cert.Kernel4.Gen.frame m ρ, fun m ρ _ => Cert.Kernel4Ideal.Gen.frame m ρ,
    fun m ρ _ => Cert.Kernel4Ideal.Decay.ref_quiescent m ρ,
    trivial, algebraic, trivial, Cert.Kernel2Ideal.Proj.algebraic, trivial, Cert.Kernel3Ideal.Out.algebraic,
    trivial, Cert.Kernel4Ideal.Decay.algebraic⟩

end Cert.Proof

end
